-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S32x8 : Shape := ⟨2, ![32, 8]⟩
abbrev S32x8x100000 : Shape := ⟨3, ![32, 8, 100000]⟩
abbrev S32x9x100000 : Shape := ⟨3, ![32, 9, 100000]⟩
abbrev S_ : Shape := ⟨0, ![]⟩
abbrev S32x1x100000 : Shape := ⟨3, ![32, 1, 100000]⟩
abbrev S32x100000 : Shape := ⟨2, ![32, 100000]⟩

class Facts : Prop where
  bcast_S_S32x8 : S_.BroadcastsInDim S32x8 (![] : Fin 0 → Fin S32x8.rank)
  reducesTo_S32x8_S_d0_1 : S32x8.ReducesTo [0, 1] S_
  h_S_ : 0 < S_.numel
  bcast_S_S32x8x100000 : S_.BroadcastsInDim S32x8x100000 (![] : Fin 0 → Fin S32x8x100000.rank)
  reducesTo_S32x8x100000_S_d0_1_2 : S32x8x100000.ReducesTo [0, 1, 2] S_
  bcast_S_S32x9x100000 : S_.BroadcastsInDim S32x9x100000 (![] : Fin 0 → Fin S32x9x100000.rank)
  reducesTo_S32x9x100000_S_d0_1_2 : S32x9x100000.ReducesTo [0, 1, 2] S_
  slices_S32x9x100000_S32x1x100000_0_8_0 : S32x9x100000.Slices ![0, 8, 0] S32x1x100000
  shapeCasts_S32x1x100000_S32x100000 : S32x1x100000.ShapeCasts S32x100000
  bcast_S_S32x100000 : S_.BroadcastsInDim S32x100000 (![] : Fin 0 → Fin S32x100000.rank)
  reducesTo_S32x100000_S_d0_1 : S32x100000.ReducesTo [0, 1] S_

variable [Facts]

def fn_part1 {F : FTy → Type} [FloatOps F] (main_arg4 : FVec F S32x9x100000 .f32) (main_v5 : IVec S_ 1) (main_v9 : IVec S_ 1) (main_v13 : IVec S_ 1) (main_v15 : FVec F S32x100000 .f32) (main_cst_5 : FVec F S_ .f32) : IVec S_ 1 × IVec S_ 1 × IVec S_ 1 × IVec S_ 1 × IVec S_ 1 :=
  let main_v16 : FVec F S32x100000 .f32 := broadcastInDim S32x100000 ![] bcast_S_S32x100000 main_cst_5
  let main_v17 : IVec S32x100000 1 := cmpf .oge main_v15 main_v16
  let main_c_6 : IVec S_ 1 := constantI S_ 1 1#1
  let main_v18 : IVec S_ 1 := (fun x v => Host.reduce IntOp.andi x v reducesTo_S32x100000_S_d0_1 h_S_) main_v17 main_c_6
  let main_cst_7 : FVec F S_ .f32 := constant S_ .f32 0x3F800000#32
  let main_v19 : FVec F S32x9x100000 .f32 := broadcastInDim S32x9x100000 ![] bcast_S_S32x9x100000 main_cst_7
  let main_v20 : IVec S32x9x100000 1 := cmpf .ole main_arg4 main_v19
  let main_c_8 : IVec S_ 1 := constantI S_ 1 1#1
  let main_v21 : IVec S_ 1 := (fun x v => Host.reduce IntOp.andi x v reducesTo_S32x9x100000_S_d0_1_2 h_S_) main_v20 main_c_8
  (main_v5, main_v9, main_v13, main_v18, main_v21)

def fn {F : FTy → Type} [FloatOps F] (main_arg0 : IVec S32x8 32) (main_arg1 : FVec F S32x8x100000 .f32) (main_arg2 : FVec F S32x9x100000 .f32) (main_arg3 : FVec F S32x8 .f32) (main_arg4 : FVec F S32x9x100000 .f32) : IVec S_ 1 × IVec S_ 1 × IVec S_ 1 × IVec S_ 1 × IVec S_ 1 :=
  let main_c : IVec S_ 32 := constantI S_ 32 0#32
  let main_v0 : IVec S32x8 32 := broadcastInDim S32x8 ![] bcast_S_S32x8 main_c
  let main_v1 : IVec S32x8 1 := cmpi .sge main_arg0 main_v0
  let main_c_0 : IVec S_ 32 := constantI S_ 32 100000#32
  let main_v2 : IVec S32x8 32 := broadcastInDim S32x8 ![] bcast_S_S32x8 main_c_0
  let main_v3 : IVec S32x8 1 := cmpi .slt main_arg0 main_v2
  let main_v4 : IVec S32x8 1 := andi main_v1 main_v3
  let main_c_1 : IVec S_ 1 := constantI S_ 1 1#1
  let main_v5 : IVec S_ 1 := (fun x v => Host.reduce IntOp.andi x v reducesTo_S32x8_S_d0_1 h_S_) main_v4 main_c_1
  let main_v6 : FVec F S32x8x100000 .f32 := Host.absf main_arg1
  let main_cst : FVec F S_ .f32 := constant S_ .f32 0x7F800000#32
  let main_v7 : FVec F S32x8x100000 .f32 := broadcastInDim S32x8x100000 ![] bcast_S_S32x8x100000 main_cst
  let main_v8 : IVec S32x8x100000 1 := cmpf .olt main_v6 main_v7
  let main_c_2 : IVec S_ 1 := constantI S_ 1 1#1
  let main_v9 : IVec S_ 1 := (fun x v => Host.reduce IntOp.andi x v reducesTo_S32x8x100000_S_d0_1_2 h_S_) main_v8 main_c_2
  let main_v10 : FVec F S32x9x100000 .f32 := Host.absf main_arg2
  let main_cst_3 : FVec F S_ .f32 := constant S_ .f32 0x7F800000#32
  let main_v11 : FVec F S32x9x100000 .f32 := broadcastInDim S32x9x100000 ![] bcast_S_S32x9x100000 main_cst_3
  let main_v12 : IVec S32x9x100000 1 := cmpf .olt main_v10 main_v11
  let main_c_4 : IVec S_ 1 := constantI S_ 1 1#1
  let main_v13 : IVec S_ 1 := (fun x v => Host.reduce IntOp.andi x v reducesTo_S32x9x100000_S_d0_1_2 h_S_) main_v12 main_c_4
  let main_v14 : FVec F S32x1x100000 .f32 := (extractStridedSlice S32x1x100000 ![0, 8, 0] · slices_S32x9x100000_S32x1x100000_0_8_0) main_arg2
  let main_v15 : FVec F S32x100000 .f32 := shapeCast S32x100000 main_v14 shapeCasts_S32x1x100000_S32x100000
  let main_cst_5 : FVec F S_ .f32 := constant S_ .f32 0x00000000#32
  fn_part1 (F := F) main_arg4 main_v5 main_v9 main_v13 main_v15 main_cst_5
-- ==== Kernel.lean ====
abbrev S32x8 : Shape := ⟨2, ![32, 8]⟩
abbrev S32x8x100000 : Shape := ⟨3, ![32, 8, 100000]⟩
abbrev S32x9x100000 : Shape := ⟨3, ![32, 9, 100000]⟩
abbrev S8x32 : Shape := ⟨2, ![8, 32]⟩
abbrev S8x4x8 : Shape := ⟨3, ![8, 4, 8]⟩
abbrev S32x8x1 : Shape := ⟨3, ![32, 8, 1]⟩
abbrev S_ : Shape := ⟨0, ![]⟩
abbrev S4x8x1 : Shape := ⟨3, ![4, 8, 1]⟩
abbrev S36x8x1 : Shape := ⟨3, ![36, 8, 1]⟩
abbrev S9x32x100000 : Shape := ⟨3, ![9, 32, 100000]⟩
abbrev S4x8x100000 : Shape := ⟨3, ![4, 8, 100000]⟩
abbrev S4 : Shape := ⟨1, ![4]⟩
abbrev S1 : Shape := ⟨1, ![1]⟩
abbrev S1x8x100000 : Shape := ⟨3, ![1, 8, 100000]⟩
abbrev S8x100000 : Shape := ⟨2, ![8, 100000]⟩
abbrev S8x1x100000 : Shape := ⟨3, ![8, 1, 100000]⟩
abbrev S1x8x1 : Shape := ⟨3, ![1, 8, 1]⟩
abbrev S8x1 : Shape := ⟨2, ![8, 1]⟩
abbrev S1x8x25600 : Shape := ⟨3, ![1, 8, 25600]⟩
abbrev S8x25600 : Shape := ⟨2, ![8, 25600]⟩
abbrev S8 : Shape := ⟨1, ![8]⟩
abbrev S1x8x23200 : Shape := ⟨3, ![1, 8, 23200]⟩
abbrev S8x23200 : Shape := ⟨2, ![8, 23200]⟩
abbrev S256 : Shape := ⟨1, ![256]⟩
abbrev S32 : Shape := ⟨1, ![32]⟩
abbrev S288 : Shape := ⟨1, ![288]⟩
abbrev S16 : Shape := ⟨1, ![16]⟩
abbrev S9x32 : Shape := ⟨2, ![9, 32]⟩
abbrev S32x9 : Shape := ⟨2, ![32, 9]⟩

abbrev nBuf : Table → Nat
  | .hbm => 29
  | .local .tc .vmem => 7
  | .local .scVector .vmem => 8
  | _ => 0

abbrev bufTy : (tb : Table) → Fin (nBuf tb) → BufTy
  | .hbm, ⟨0, _⟩ => ⟨S32x8, .i32⟩
  | .hbm, ⟨1, _⟩ => ⟨S32x8x100000, .f32⟩
  | .hbm, ⟨2, _⟩ => ⟨S32x9x100000, .f32⟩
  | .hbm, ⟨3, _⟩ => ⟨S32x8, .f32⟩
  | .hbm, ⟨4, _⟩ => ⟨S32x9x100000, .f32⟩
  | .hbm, ⟨5, _⟩ => ⟨S8x32, .i32⟩
  | .hbm, ⟨6, _⟩ => ⟨S8x4x8, .i32⟩
  | .hbm, ⟨7, _⟩ => ⟨S32x8x1, .i32⟩
  | .hbm, ⟨8, _⟩ => ⟨S_, .i32⟩
  | .hbm, ⟨9, _⟩ => ⟨S4x8x1, .i32⟩
  | .hbm, ⟨10, _⟩ => ⟨S36x8x1, .i32⟩
  | .hbm, ⟨11, _⟩ => ⟨S9x32x100000, .f32⟩
  | .hbm, ⟨12, _⟩ => ⟨S9x32x100000, .f32⟩
  | .hbm, ⟨13, _⟩ => ⟨S36x8x1, .i32⟩
  | .hbm, ⟨14, _⟩ => ⟨S32x8x1, .f32⟩
  | .hbm, ⟨15, _⟩ => ⟨S32x8x1, .f32⟩
  | .hbm, ⟨16, _⟩ => ⟨S32x8x1, .i32⟩
  | .hbm, ⟨17, _⟩ => ⟨S256, .i32⟩
  | .hbm, ⟨18, _⟩ => ⟨S4x8x1, .i32⟩
  | .hbm, ⟨19, _⟩ => ⟨S32, .i32⟩
  | .hbm, ⟨20, _⟩ => ⟨S256, .f32⟩
  | .hbm, ⟨21, _⟩ => ⟨S256, .f32⟩
  | .hbm, ⟨22, _⟩ => ⟨S8x32, .i32⟩
  | .hbm, ⟨23, _⟩ => ⟨S256, .i32⟩
  | .hbm, ⟨24, _⟩ => ⟨S8x32, .f32⟩
  | .hbm, ⟨25, _⟩ => ⟨S256, .f32⟩
  | .hbm, ⟨26, _⟩ => ⟨S288, .i32⟩
  | .hbm, ⟨27, _⟩ => ⟨S9x32, .i32⟩
  | .hbm, ⟨28, _⟩ => ⟨S32x9, .i32⟩
  | .local .tc .vmem, ⟨0, _⟩ => ⟨S36x8x1, .i32⟩
  | .local .tc .vmem, ⟨1, _⟩ => ⟨S36x8x1, .i32⟩
  | .local .tc .vmem, ⟨2, _⟩ => ⟨S32x8x1, .f32⟩
  | .local .tc .vmem, ⟨3, _⟩ => ⟨S32x8x1, .f32⟩
  | .local .tc .vmem, ⟨4, _⟩ => ⟨S4x8x100000, .f32⟩
  | .local .tc .vmem, ⟨5, _⟩ => ⟨S4x8x100000, .f32⟩
  | .local .tc .vmem, ⟨6, _⟩ => ⟨S4x8x100000, .f32⟩
  | .local .scVector .vmem, ⟨0, _⟩ => ⟨S256, .i32⟩
  | .local .scVector .vmem, ⟨1, _⟩ => ⟨S256, .f32⟩
  | .local .scVector .vmem, ⟨2, _⟩ => ⟨S256, .f32⟩
  | .local .scVector .vmem, ⟨3, _⟩ => ⟨S256, .f32⟩
  | .local .scVector .vmem, ⟨4, _⟩ => ⟨S256, .i32⟩
  | .local .scVector .vmem, ⟨5, _⟩ => ⟨S32, .i32⟩
  | .local .scVector .vmem, ⟨6, _⟩ => ⟨S256, .i32⟩
  | .local .scVector .vmem, ⟨7, _⟩ => ⟨S288, .i32⟩
  | _, _ => ⟨S32x8, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => false
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v15_scv : Ref sig .scVector := ⟨.hbm, 23, rfl⟩
abbrev main_v17_scv : Ref sig .scVector := ⟨.hbm, 25, rfl⟩
abbrev main_v12_scv : Ref sig .scVector := ⟨.hbm, 20, rfl⟩
abbrev main_v13_scv : Ref sig .scVector := ⟨.hbm, 21, rfl⟩
abbrev main_v9_scv : Ref sig .scVector := ⟨.hbm, 17, rfl⟩
abbrev main_v11_scv : Ref sig .scVector := ⟨.hbm, 19, rfl⟩
abbrev main_v18_scv : Ref sig .scVector := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_19 : BitVec 32) : Fin 1 → Nat :=
  let c4_i32_20 : BitVec 32 := 4#32
  let c0_i32_21 : BitVec 32 := 0#32
  let v35 : BitVec 1 := Scalar.cmpi .eq c4_i32_20 c0_i32_21
  let c1_i32_22 : BitVec 32 := 1#32
  let v36 : BitVec 32 := Scalar.select v35 c1_i32_22 c4_i32_20
  let v37 : BitVec 32 := Scalar.remsi c0_i32_19 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  ![v44.toNat]
def k0_off2 (c0_i32_19 : BitVec 32) : Fin 3 → Nat :=
  let c4_i32_20 : BitVec 32 := 4#32
  let c0_i32_21 : BitVec 32 := 0#32
  let v35 : BitVec 1 := Scalar.cmpi .eq c4_i32_20 c0_i32_21
  let c1_i32_22 : BitVec 32 := 1#32
  let v36 : BitVec 32 := Scalar.select v35 c1_i32_22 c4_i32_20
  let v37 : BitVec 32 := Scalar.remsi c0_i32_19 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let c0_i32_29 : BitVec 32 := 0#32
  let c0_i32_30 : BitVec 32 := 0#32
  ![v44.toNat, 0, 0]
def k0_off3 (c0_i32_28 : BitVec 32) (c0_i32_26 : BitVec 32) : Fin 3 → Nat :=
  let c2_i32 : BitVec 32 := 2#32
  let v47 : BitVec 32 := Scalar.shrsi c0_i32_28 c2_i32
  let c3_i32_27 : BitVec 32 := 3#32
  let v45 : BitVec 32 := Scalar.andi c0_i32_26 c3_i32_27
  let c8_i32 : BitVec 32 := 8#32
  let v46 : BitVec 32 := Scalar.muli v45 c8_i32
  let c0_i32_31 : BitVec 32 := 0#32
  ![v47.toNat, v46.toNat, 0]
def k0_off3_at (r : Fin 3) : BitVec 32 × BitVec 32 :=
  if r.val < 1 then
    (0#32, 0#32)
  else
    if r.val < 2 then
      (1#32, 1#32)
    else
      (2#32, 2#32)
def k0_cond2 : BitVec 1 :=
  let c0_i32_35 : BitVec 32 := 0#32
  let c32_i32_36 : BitVec 32 := 32#32
  let v60 : BitVec 1 := Scalar.cmpi .slt c0_i32_35 c32_i32_36
  let v61 : BitVec 32 := Scalar.extui v60
  let c0_i32_37 : BitVec 32 := 0#32
  let v62 : BitVec 1 := Scalar.cmpi .ne v61 c0_i32_37
  v62

def k0_off4 : Fin 1 → Nat :=
  let c0_i32_19 : BitVec 32 := 0#32
  let c4_i32_20 : BitVec 32 := 4#32
  let c0_i32_21 : BitVec 32 := 0#32
  let v35 : BitVec 1 := Scalar.cmpi .eq c4_i32_20 c0_i32_21
  let c1_i32_22 : BitVec 32 := 1#32
  let v36 : BitVec 32 := Scalar.select v35 c1_i32_22 c4_i32_20
  let v37 : BitVec 32 := Scalar.remsi c0_i32_19 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  ![v44.toNat]
def k0_off5 : Fin 3 → Nat :=
  let c0_i32_19 : BitVec 32 := 0#32
  let c4_i32_20 : BitVec 32 := 4#32
  let c0_i32_21 : BitVec 32 := 0#32
  let v35 : BitVec 1 := Scalar.cmpi .eq c4_i32_20 c0_i32_21
  let c1_i32_22 : BitVec 32 := 1#32
  let v36 : BitVec 32 := Scalar.select v35 c1_i32_22 c4_i32_20
  let v37 : BitVec 32 := Scalar.remsi c0_i32_19 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let c0_i32_80 : BitVec 32 := 0#32
  let c0_i32_81 : BitVec 32 := 0#32
  ![v44.toNat, 0, 0]
def k0_off6 : Fin 3 → Nat :=
  let c0_i32_26 : BitVec 32 := 0#32
  let c3_i32_27 : BitVec 32 := 3#32
  let v45 : BitVec 32 := Scalar.andi c0_i32_26 c3_i32_27
  let c8_i32 : BitVec 32 := 8#32
  let v46 : BitVec 32 := Scalar.muli v45 c8_i32
  let c0_i32_28 : BitVec 32 := 0#32
  let c2_i32 : BitVec 32 := 2#32
  let v47 : BitVec 32 := Scalar.shrsi c0_i32_28 c2_i32
  let c0_i32_82 : BitVec 32 := 0#32
  ![v46.toNat, v47.toNat, 0]
def k0_cond3 : BitVec 1 :=
  let c1_i32_56 : BitVec 32 := 1#32
  let c32_i32_57 : BitVec 32 := 32#32
  let v88 : BitVec 1 := Scalar.cmpi .slt c1_i32_56 c32_i32_57
  let v89 : BitVec 32 := Scalar.extui v88
  let c0_i32_58 : BitVec 32 := 0#32
  let v90 : BitVec 1 := Scalar.cmpi .ne v89 c0_i32_58
  v90

def k0_off7 : Fin 1 → Nat :=
  let c1_i32_38 : BitVec 32 := 1#32
  let c4_i32_39 : BitVec 32 := 4#32
  let c0_i32_40 : BitVec 32 := 0#32
  let v63 : BitVec 1 := Scalar.cmpi .eq c4_i32_39 c0_i32_40
  let c1_i32_41 : BitVec 32 := 1#32
  let v64 : BitVec 32 := Scalar.select v63 c1_i32_41 c4_i32_39
  let v65 : BitVec 32 := Scalar.remsi c1_i32_38 v64
  let c0_i32_43 : BitVec 32 := 0#32
  let v67 : BitVec 1 := Scalar.cmpi .slt v65 c0_i32_43
  let c0_i32_44 : BitVec 32 := 0#32
  let v68 : BitVec 1 := Scalar.cmpi .slt v64 c0_i32_44
  let v69 : BitVec 1 := Scalar.xori v67 v68
  let c0_i32_42 : BitVec 32 := 0#32
  let v66 : BitVec 1 := Scalar.cmpi .ne v65 c0_i32_42
  let v70 : BitVec 1 := Scalar.andi v69 v66
  let v71 : BitVec 32 := Scalar.addi v65 v64
  let v72 : BitVec 32 := Scalar.select v70 v71 v65
  ![v72.toNat]
def k0_off8 : Fin 3 → Nat :=
  let c1_i32_38 : BitVec 32 := 1#32
  let c4_i32_39 : BitVec 32 := 4#32
  let c0_i32_40 : BitVec 32 := 0#32
  let v63 : BitVec 1 := Scalar.cmpi .eq c4_i32_39 c0_i32_40
  let c1_i32_41 : BitVec 32 := 1#32
  let v64 : BitVec 32 := Scalar.select v63 c1_i32_41 c4_i32_39
  let v65 : BitVec 32 := Scalar.remsi c1_i32_38 v64
  let c0_i32_43 : BitVec 32 := 0#32
  let v67 : BitVec 1 := Scalar.cmpi .slt v65 c0_i32_43
  let c0_i32_44 : BitVec 32 := 0#32
  let v68 : BitVec 1 := Scalar.cmpi .slt v64 c0_i32_44
  let v69 : BitVec 1 := Scalar.xori v67 v68
  let c0_i32_42 : BitVec 32 := 0#32
  let v66 : BitVec 1 := Scalar.cmpi .ne v65 c0_i32_42
  let v70 : BitVec 1 := Scalar.andi v69 v66
  let v71 : BitVec 32 := Scalar.addi v65 v64
  let v72 : BitVec 32 := Scalar.select v70 v71 v65
  let c0_i32_80 : BitVec 32 := 0#32
  let c0_i32_81 : BitVec 32 := 0#32
  ![v72.toNat, 0, 0]
def k0_off9 : Fin 3 → Nat :=
  let c1_i32_45 : BitVec 32 := 1#32
  let c3_i32_46 : BitVec 32 := 3#32
  let v73 : BitVec 32 := Scalar.andi c1_i32_45 c3_i32_46
  let c8_i32_47 : BitVec 32 := 8#32
  let v74 : BitVec 32 := Scalar.muli v73 c8_i32_47
  let c1_i32_48 : BitVec 32 := 1#32
  let c2_i32_49 : BitVec 32 := 2#32
  let v75 : BitVec 32 := Scalar.shrsi c1_i32_48 c2_i32_49
  let c0_i32_82 : BitVec 32 := 0#32
  ![v74.toNat, v75.toNat, 0]
def k0_cond4 : BitVec 1 :=
  let c2_i32_77 : BitVec 32 := 2#32
  let c32_i32_78 : BitVec 32 := 32#32
  let v116 : BitVec 1 := Scalar.cmpi .slt c2_i32_77 c32_i32_78
  let v117 : BitVec 32 := Scalar.extui v116
  let c0_i32_79 : BitVec 32 := 0#32
  let v118 : BitVec 1 := Scalar.cmpi .ne v117 c0_i32_79
  v118

def k0_off10 : Fin 1 → Nat :=
  let c2_i32_59 : BitVec 32 := 2#32
  let c4_i32_60 : BitVec 32 := 4#32
  let c0_i32_61 : BitVec 32 := 0#32
  let v91 : BitVec 1 := Scalar.cmpi .eq c4_i32_60 c0_i32_61
  let c1_i32_62 : BitVec 32 := 1#32
  let v92 : BitVec 32 := Scalar.select v91 c1_i32_62 c4_i32_60
  let v93 : BitVec 32 := Scalar.remsi c2_i32_59 v92
  let c0_i32_64 : BitVec 32 := 0#32
  let v95 : BitVec 1 := Scalar.cmpi .slt v93 c0_i32_64
  let c0_i32_65 : BitVec 32 := 0#32
  let v96 : BitVec 1 := Scalar.cmpi .slt v92 c0_i32_65
  let v97 : BitVec 1 := Scalar.xori v95 v96
  let c0_i32_63 : BitVec 32 := 0#32
  let v94 : BitVec 1 := Scalar.cmpi .ne v93 c0_i32_63
  let v98 : BitVec 1 := Scalar.andi v97 v94
  let v99 : BitVec 32 := Scalar.addi v93 v92
  let v100 : BitVec 32 := Scalar.select v98 v99 v93
  ![v100.toNat]
def k0_off11 : Fin 3 → Nat :=
  let c2_i32_59 : BitVec 32 := 2#32
  let c4_i32_60 : BitVec 32 := 4#32
  let c0_i32_61 : BitVec 32 := 0#32
  let v91 : BitVec 1 := Scalar.cmpi .eq c4_i32_60 c0_i32_61
  let c1_i32_62 : BitVec 32 := 1#32
  let v92 : BitVec 32 := Scalar.select v91 c1_i32_62 c4_i32_60
  let v93 : BitVec 32 := Scalar.remsi c2_i32_59 v92
  let c0_i32_64 : BitVec 32 := 0#32
  let v95 : BitVec 1 := Scalar.cmpi .slt v93 c0_i32_64
  let c0_i32_65 : BitVec 32 := 0#32
  let v96 : BitVec 1 := Scalar.cmpi .slt v92 c0_i32_65
  let v97 : BitVec 1 := Scalar.xori v95 v96
  let c0_i32_63 : BitVec 32 := 0#32
  let v94 : BitVec 1 := Scalar.cmpi .ne v93 c0_i32_63
  let v98 : BitVec 1 := Scalar.andi v97 v94
  let v99 : BitVec 32 := Scalar.addi v93 v92
  let v100 : BitVec 32 := Scalar.select v98 v99 v93
  let c0_i32_80 : BitVec 32 := 0#32
  let c0_i32_81 : BitVec 32 := 0#32
  ![v100.toNat, 0, 0]
def k0_off12 : Fin 3 → Nat :=
  let c2_i32_66 : BitVec 32 := 2#32
  let c3_i32_67 : BitVec 32 := 3#32
  let v101 : BitVec 32 := Scalar.andi c2_i32_66 c3_i32_67
  let c8_i32_68 : BitVec 32 := 8#32
  let v102 : BitVec 32 := Scalar.muli v101 c8_i32_68
  let c2_i32_69 : BitVec 32 := 2#32
  let c2_i32_70 : BitVec 32 := 2#32
  let v103 : BitVec 32 := Scalar.shrsi c2_i32_69 c2_i32_70
  let c0_i32_82 : BitVec 32 := 0#32
  ![v102.toNat, v103.toNat, 0]
def k0_cond5 (i : grid0.Coords) : BitVec 1 :=
  let arg0 : BitVec 32 := BitVec.ofNat 32 (i 0).val
  let c3_i32 : BitVec 32 := 3#32
  let v3 : BitVec 32 := Scalar.addi arg0 c3_i32
  let c36_i32 : BitVec 32 := 36#32
  let v4 : BitVec 1 := Scalar.cmpi .slt v3 c36_i32
  let v5 : BitVec 32 := Scalar.extui v4
  let c0_i32_1 : BitVec 32 := 0#32
  let v6 : BitVec 1 := Scalar.cmpi .ne v5 c0_i32_1
  v6

def k0_off13 (i : grid0.Coords) : Fin 1 → Nat :=
  let arg0 : BitVec 32 := BitVec.ofNat 32 (i 0).val
  let c3_i32_19 : BitVec 32 := 3#32
  let v35 : BitVec 32 := Scalar.addi arg0 c3_i32_19
  let c4_i32_20 : BitVec 32 := 4#32
  let c0_i32_21 : BitVec 32 := 0#32
  let v36 : BitVec 1 := Scalar.cmpi .eq c4_i32_20 c0_i32_21
  let c1_i32_22 : BitVec 32 := 1#32
  let v37 : BitVec 32 := Scalar.select v36 c1_i32_22 c4_i32_20
  let v38 : BitVec 32 := Scalar.remsi v35 v37
  let c0_i32_24 : BitVec 32 := 0#32
  let v40 : BitVec 1 := Scalar.cmpi .slt v38 c0_i32_24
  let c0_i32_25 : BitVec 32 := 0#32
  let v41 : BitVec 1 := Scalar.cmpi .slt v37 c0_i32_25
  let v42 : BitVec 1 := Scalar.xori v40 v41
  let c0_i32_23 : BitVec 32 := 0#32
  let v39 : BitVec 1 := Scalar.cmpi .ne v38 c0_i32_23
  let v43 : BitVec 1 := Scalar.andi v42 v39
  let v44 : BitVec 32 := Scalar.addi v38 v37
  let v45 : BitVec 32 := Scalar.select v43 v44 v38
  ![v45.toNat]
def k0_off14 (i : grid0.Coords) : Fin 3 → Nat :=
  let arg0 : BitVec 32 := BitVec.ofNat 32 (i 0).val
  let c3_i32_19 : BitVec 32 := 3#32
  let v35 : BitVec 32 := Scalar.addi arg0 c3_i32_19
  let c4_i32_20 : BitVec 32 := 4#32
  let c0_i32_21 : BitVec 32 := 0#32
  let v36 : BitVec 1 := Scalar.cmpi .eq c4_i32_20 c0_i32_21
  let c1_i32_22 : BitVec 32 := 1#32
  let v37 : BitVec 32 := Scalar.select v36 c1_i32_22 c4_i32_20
  let v38 : BitVec 32 := Scalar.remsi v35 v37
  let c0_i32_24 : BitVec 32 := 0#32
  let v40 : BitVec 1 := Scalar.cmpi .slt v38 c0_i32_24
  let c0_i32_25 : BitVec 32 := 0#32
  let v41 : BitVec 1 := Scalar.cmpi .slt v37 c0_i32_25
  let v42 : BitVec 1 := Scalar.xori v40 v41
  let c0_i32_23 : BitVec 32 := 0#32
  let v39 : BitVec 1 := Scalar.cmpi .ne v38 c0_i32_23
  let v43 : BitVec 1 := Scalar.andi v42 v39
  let v44 : BitVec 32 := Scalar.addi v38 v37
  let v45 : BitVec 32 := Scalar.select v43 v44 v38
  let c0_i32_27 : BitVec 32 := 0#32
  let c0_i32_28 : BitVec 32 := 0#32
  ![v45.toNat, 0, 0]
def k0_off15 (i : grid0.Coords) : Fin 3 → Nat :=
  let arg0 : BitVec 32 := BitVec.ofNat 32 (i 0).val
  let c3_i32_19 : BitVec 32 := 3#32
  let v35 : BitVec 32 := Scalar.addi arg0 c3_i32_19
  let c2_i32 : BitVec 32 := 2#32
  let v48 : BitVec 32 := Scalar.shrsi v35 c2_i32
  let c3_i32_26 : BitVec 32 := 3#32
  let v46 : BitVec 32 := Scalar.andi v35 c3_i32_26
  let c8_i32 : BitVec 32 := 8#32
  let v47 : BitVec 32 := Scalar.muli v46 c8_i32
  let c0_i32_29 : BitVec 32 := 0#32
  ![v48.toNat, v47.toNat, 0]
def k0_cond6 (i : grid0.Coords) : BitVec 1 :=
  let arg0 : BitVec 32 := BitVec.ofNat 32 (i 0).val
  let c3_i32_19 : BitVec 32 := 3#32
  let v35 : BitVec 32 := Scalar.addi arg0 c3_i32_19
  let c32_i32_33 : BitVec 32 := 32#32
  let v61 : BitVec 1 := Scalar.cmpi .slt v35 c32_i32_33
  let v62 : BitVec 32 := Scalar.extui v61
  let c0_i32_34 : BitVec 32 := 0#32
  let v63 : BitVec 1 := Scalar.cmpi .ne v62 c0_i32_34
  v63

def k0_off16 (i : grid0.Coords) : Fin 1 → Nat :=
  let arg0 : BitVec 32 := BitVec.ofNat 32 (i 0).val
  let c3_i32_19 : BitVec 32 := 3#32
  let v35 : BitVec 32 := Scalar.addi arg0 c3_i32_19
  let c4_i32_20 : BitVec 32 := 4#32
  let c0_i32_21 : BitVec 32 := 0#32
  let v36 : BitVec 1 := Scalar.cmpi .eq c4_i32_20 c0_i32_21
  let c1_i32_22 : BitVec 32 := 1#32
  let v37 : BitVec 32 := Scalar.select v36 c1_i32_22 c4_i32_20
  let v38 : BitVec 32 := Scalar.remsi v35 v37
  let c0_i32_24 : BitVec 32 := 0#32
  let v40 : BitVec 1 := Scalar.cmpi .slt v38 c0_i32_24
  let c0_i32_25 : BitVec 32 := 0#32
  let v41 : BitVec 1 := Scalar.cmpi .slt v37 c0_i32_25
  let v42 : BitVec 1 := Scalar.xori v40 v41
  let c0_i32_23 : BitVec 32 := 0#32
  let v39 : BitVec 1 := Scalar.cmpi .ne v38 c0_i32_23
  let v43 : BitVec 1 := Scalar.andi v42 v39
  let v44 : BitVec 32 := Scalar.addi v38 v37
  let v45 : BitVec 32 := Scalar.select v43 v44 v38
  ![v45.toNat]
def k0_off17 (i : grid0.Coords) : Fin 3 → Nat :=
  let arg0 : BitVec 32 := BitVec.ofNat 32 (i 0).val
  let c3_i32_19 : BitVec 32 := 3#32
  let v35 : BitVec 32 := Scalar.addi arg0 c3_i32_19
  let c4_i32_20 : BitVec 32 := 4#32
  let c0_i32_21 : BitVec 32 := 0#32
  let v36 : BitVec 1 := Scalar.cmpi .eq c4_i32_20 c0_i32_21
  let c1_i32_22 : BitVec 32 := 1#32
  let v37 : BitVec 32 := Scalar.select v36 c1_i32_22 c4_i32_20
  let v38 : BitVec 32 := Scalar.remsi v35 v37
  let c0_i32_24 : BitVec 32 := 0#32
  let v40 : BitVec 1 := Scalar.cmpi .slt v38 c0_i32_24
  let c0_i32_25 : BitVec 32 := 0#32
  let v41 : BitVec 1 := Scalar.cmpi .slt v37 c0_i32_25
  let v42 : BitVec 1 := Scalar.xori v40 v41
  let c0_i32_23 : BitVec 32 := 0#32
  let v39 : BitVec 1 := Scalar.cmpi .ne v38 c0_i32_23
  let v43 : BitVec 1 := Scalar.andi v42 v39
  let v44 : BitVec 32 := Scalar.addi v38 v37
  let v45 : BitVec 32 := Scalar.select v43 v44 v38
  let c0_i32_35 : BitVec 32 := 0#32
  let c0_i32_36 : BitVec 32 := 0#32
  ![v45.toNat, 0, 0]
def k0_off18 (i : grid0.Coords) : Fin 3 → Nat :=
  let arg0 : BitVec 32 := BitVec.ofNat 32 (i 0).val
  let c3_i32_19 : BitVec 32 := 3#32
  let v35 : BitVec 32 := Scalar.addi arg0 c3_i32_19
  let c3_i32_26 : BitVec 32 := 3#32
  let v46 : BitVec 32 := Scalar.andi v35 c3_i32_26
  let c8_i32 : BitVec 32 := 8#32
  let v47 : BitVec 32 := Scalar.muli v46 c8_i32
  let c2_i32 : BitVec 32 := 2#32
  let v48 : BitVec 32 := Scalar.shrsi v35 c2_i32
  let c0_i32_37 : BitVec 32 := 0#32
  ![v47.toNat, v48.toNat, 0]
def k0_off19 (i : grid0.Coords) : Fin 1 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off20 (i : grid0.Coords) : Fin 3 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_7 : BitVec 32 := 0#32
  let c0_i32_8 : BitVec 32 := 0#32
  ![v16.toNat, 0, 0]
def k0_cond7 (i : grid0.Coords) : BitVec 1 :=
  let arg0 : BitVec 32 := BitVec.ofNat 32 (i 0).val
  let c32_i32 : BitVec 32 := 32#32
  let v29 : BitVec 1 := Scalar.cmpi .slt arg0 c32_i32
  let v30 : BitVec 32 := Scalar.extui v29
  let c0_i32_16 : BitVec 32 := 0#32
  let v31 : BitVec 1 := Scalar.cmpi .ne v30 c0_i32_16
  v31

def k0_off21 (i : grid0.Coords) : Fin 1 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off22 (i : grid0.Coords) : Fin 3 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_20 : BitVec 32 := 0#32
  let c0_i32_21 : BitVec 32 := 0#32
  ![v16.toNat, 0, 0]
def k0_off23 (i : grid0.Coords) : Fin 3 → Nat :=
  let arg0 : BitVec 32 := BitVec.ofNat 32 (i 0).val
  let v41 : Index := Scalar.indexCast arg0
  let c0 : Index := 0#32
  let c0_24 : Index := 0#32
  ![v41.toNat, 0, 0]
def k0_off24 (i : grid0.Coords) : Fin 3 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v44 : Index := Scalar.indexCast v16
  let c0_25 : Index := 0#32
  let c0_26 : Index := 0#32
  ![v44.toNat, 0, 0]
def k0_off25 (i : grid0.Coords) : Fin 3 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v83 : Index := Scalar.indexCast v16
  let c0_40 : Index := 0#32
  let c25600 : Index := 25600#32
  ![v83.toNat, 0, 25600]
def k0_off26 (i : grid0.Coords) : Fin 3 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v127 : Index := Scalar.indexCast v16
  let c0_55 : Index := 0#32
  let c51200 : Index := 51200#32
  ![v127.toNat, 0, 51200]
def k0_off27 (i : grid0.Coords) : Fin 3 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v171 : Index := Scalar.indexCast v16
  let c0_70 : Index := 0#32
  let c76800 : Index := 76800#32
  ![v171.toNat, 0, 76800]
def k0_off28 (i : grid0.Coords) : Fin 3 → Nat :=
  let arg0 : BitVec 32 := BitVec.ofNat 32 (i 0).val
  let v218 : Index := Scalar.indexCast arg0
  let c0_87 : Index := 0#32
  let c0_88 : Index := 0#32
  ![v218.toNat, 0, 0]
def k0_cond8 (i : grid0.Coords) : BitVec 1 :=
  let arg0 : BitVec 32 := BitVec.ofNat 32 (i 0).val
  let c32_i32_17 : BitVec 32 := 32#32
  let v32 : BitVec 1 := Scalar.cmpi .sge arg0 c32_i32_17
  let v33 : BitVec 32 := Scalar.extui v32
  let c0_i32_18 : BitVec 32 := 0#32
  let v34 : BitVec 1 := Scalar.cmpi .ne v33 c0_i32_18
  v34

def k0_off29 (i : grid0.Coords) : Fin 3 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v35 : Index := Scalar.indexCast v16
  let c0 : Index := 0#32
  let c0_19 : Index := 0#32
  ![v35.toNat, 0, 0]
def k0_off30 (i : grid0.Coords) : Fin 3 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v58 : Index := Scalar.indexCast v16
  let c0_26 : Index := 0#32
  let c25600 : Index := 25600#32
  ![v58.toNat, 0, 25600]
def k0_off31 (i : grid0.Coords) : Fin 3 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v84 : Index := Scalar.indexCast v16
  let c0_34 : Index := 0#32
  let c51200 : Index := 51200#32
  ![v84.toNat, 0, 51200]
def k0_off32 (i : grid0.Coords) : Fin 3 → Nat :=
  let arg0 : BitVec 32 := BitVec.ofNat 32 (i 0).val
  let c4_i32 : BitVec 32 := 4#32
  let c0_i32_2 : BitVec 32 := 0#32
  let v7 : BitVec 1 := Scalar.cmpi .eq c4_i32 c0_i32_2
  let c1_i32 : BitVec 32 := 1#32
  let v8 : BitVec 32 := Scalar.select v7 c1_i32 c4_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v110 : Index := Scalar.indexCast v16
  let c0_42 : Index := 0#32
  let c76800 : Index := 76800#32
  ![v110.toNat, 0, 76800]
def k0_off33 (i : grid0.Coords) : Fin 3 → Nat :=
  let arg0 : BitVec 32 := BitVec.ofNat 32 (i 0).val
  let v135 : Index := Scalar.indexCast arg0
  let c0_50 : Index := 0#32
  let c0_51 : Index := 0#32
  ![v135.toNat, 0, 0]
def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S36x8x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S36x8x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x8 : Shape := ⟨2, ![32, 8]⟩
abbrev S32x8x100000 : Shape := ⟨3, ![32, 8, 100000]⟩
abbrev S32x9x100000 : Shape := ⟨3, ![32, 9, 100000]⟩
abbrev S32x8x1 : Shape := ⟨3, ![32, 8, 1]⟩
abbrev S_ : Shape := ⟨0, ![]⟩
abbrev S32x8x1x1 : Shape := ⟨4, ![32, 8, 1, 1]⟩
abbrev S1 : Shape := ⟨1, ![1]⟩
abbrev S1x1x1x1 : Shape := ⟨4, ![1, 1, 1, 1]⟩
abbrev S32x1x100000 : Shape := ⟨3, ![32, 1, 100000]⟩
abbrev S32x100000 : Shape := ⟨2, ![32, 100000]⟩
abbrev S32 : Shape := ⟨1, ![32]⟩
abbrev S32x1 : Shape := ⟨2, ![32, 1]⟩
abbrev S32x9 : Shape := ⟨2, ![32, 9]⟩
abbrev S32x1x1 : Shape := ⟨3, ![32, 1, 1]⟩
abbrev S1x1x1 : Shape := ⟨3, ![1, 1, 1]⟩
abbrev S32x2 : Shape := ⟨2, ![32, 2]⟩

abbrev nBuf : Space → Nat
  | .hbm => 162
  | .vmem => 0
  | .smem => 0
  | _ => 0

abbrev hbmTy0_0 (i : Nat) : BufTy := match i % 128 with
  | 0 => ⟨S32x8, .i32⟩
  | 1 => ⟨S32x8x100000, .f32⟩
  | 2 => ⟨S32x9x100000, .f32⟩
  | 3 => ⟨S32x8, .f32⟩
  | 4 => ⟨S32x9x100000, .f32⟩
  | 5 => ⟨S32x8x1, .i32⟩
  | 6 => ⟨S_, .i32⟩
  | 7 => ⟨S32x8x1, .i32⟩
  | 8 => ⟨S32x8x1, .i1⟩
  | 9 => ⟨S_, .i32⟩
  | 10 => ⟨S32x8x1, .i32⟩
  | 11 => ⟨S32x8x1, .i32⟩
  | 12 => ⟨S32x8x1, .i32⟩
  | 13 => ⟨S32x8x1x1, .i32⟩
  | 14 => ⟨S1, .i32⟩
  | 15 => ⟨S_, .i32⟩
  | 16 => ⟨S32x8x1x1, .i32⟩
  | 17 => ⟨S32x8x1x1, .i1⟩
  | 18 => ⟨S1x1x1x1, .i32⟩
  | 19 => ⟨S32x8x1x1, .i32⟩
  | 20 => ⟨S32x8x1x1, .i1⟩
  | 21 => ⟨S32x8x1x1, .i1⟩
  | 22 => ⟨S_, .i1⟩
  | 23 => ⟨S32x8x1, .i1⟩
  | 24 => ⟨S32x8x1, .f32⟩
  | 25 => ⟨S_, .f32⟩
  | 26 => ⟨S32x8x1, .f32⟩
  | 27 => ⟨S32x8x1, .f32⟩
  | 28 => ⟨S32x8, .f32⟩
  | 29 => ⟨S32x8x100000, .f32⟩
  | 30 => ⟨S32x8x1, .i32⟩
  | 31 => ⟨S_, .i32⟩
  | 32 => ⟨S32x8x1, .i32⟩
  | 33 => ⟨S32x8x1, .i1⟩
  | 34 => ⟨S_, .i32⟩
  | 35 => ⟨S32x8x1, .i32⟩
  | 36 => ⟨S32x8x1, .i32⟩
  | 37 => ⟨S32x8x1, .i32⟩
  | 38 => ⟨S32x8x1x1, .i32⟩
  | 39 => ⟨S1, .i32⟩
  | 40 => ⟨S_, .i32⟩
  | 41 => ⟨S32x8x1x1, .i32⟩
  | 42 => ⟨S32x8x1x1, .i1⟩
  | 43 => ⟨S1x1x1x1, .i32⟩
  | 44 => ⟨S32x8x1x1, .i32⟩
  | 45 => ⟨S32x8x1x1, .i1⟩
  | 46 => ⟨S32x8x1x1, .i1⟩
  | 47 => ⟨S_, .i1⟩
  | 48 => ⟨S32x8x1, .i1⟩
  | 49 => ⟨S32x8x1, .f32⟩
  | 50 => ⟨S_, .f32⟩
  | 51 => ⟨S32x8x1, .f32⟩
  | 52 => ⟨S32x8x1, .f32⟩
  | 53 => ⟨S32x8, .f32⟩
  | 54 => ⟨S32x8, .f32⟩
  | 55 => ⟨S32x8, .i1⟩
  | 56 => ⟨S32x8, .i32⟩
  | 57 => ⟨S_, .i32⟩
  | 58 => ⟨S_, .i32⟩
  | 59 => ⟨S32x8, .i32⟩
  | 60 => ⟨S32x8, .i32⟩
  | 61 => ⟨S_, .i32⟩
  | 62 => ⟨S32x8, .i32⟩
  | 63 => ⟨S32x8, .i32⟩
  | 64 => ⟨S_, .i32⟩
  | 65 => ⟨S32x8, .i32⟩
  | 66 => ⟨S32x8, .i32⟩
  | 67 => ⟨S32x8, .i32⟩
  | 68 => ⟨S32x8x100000, .f32⟩
  | 69 => ⟨S32x8x100000, .f32⟩
  | 70 => ⟨S_, .f32⟩
  | 71 => ⟨S32x8x100000, .f32⟩
  | 72 => ⟨S32x8x100000, .f32⟩
  | 73 => ⟨S_, .f32⟩
  | 74 => ⟨S32x8, .f32⟩
  | 75 => ⟨S32x8x1, .f32⟩
  | 76 => ⟨S32x8x100000, .f32⟩
  | 77 => ⟨S32x8x100000, .f32⟩
  | 78 => ⟨S_, .f32⟩
  | 79 => ⟨S32x9x100000, .f32⟩
  | 80 => ⟨S32x9x100000, .f32⟩
  | 81 => ⟨S32x9x100000, .f32⟩
  | 82 => ⟨S32x9x100000, .f32⟩
  | 83 => ⟨S_, .f32⟩
  | 84 => ⟨S32x9x100000, .f32⟩
  | 85 => ⟨S32x9x100000, .f32⟩
  | 86 => ⟨S32x9x100000, .f32⟩
  | 87 => ⟨S32x9x100000, .f32⟩
  | 88 => ⟨S32x8x100000, .f32⟩
  | 89 => ⟨S32x8x100000, .f32⟩
  | 90 => ⟨S32x8x100000, .f32⟩
  | 91 => ⟨S32x8x100000, .i32⟩
  | 92 => ⟨S_, .f32⟩
  | 93 => ⟨S_, .i32⟩
  | 94 => ⟨S32x8, .f32⟩
  | 95 => ⟨S32x8, .i32⟩
  | 96 => ⟨S32x1x100000, .f32⟩
  | 97 => ⟨S32x100000, .f32⟩
  | 98 => ⟨S32x100000, .f32⟩
  | 99 => ⟨S32x1x100000, .f32⟩
  | 100 => ⟨S32x100000, .f32⟩
  | 101 => ⟨S32x100000, .f32⟩
  | 102 => ⟨S32x100000, .i32⟩
  | 103 => ⟨S_, .f32⟩
  | 104 => ⟨S_, .i32⟩
  | 105 => ⟨S32, .f32⟩
  | 106 => ⟨S32, .i32⟩
  | 107 => ⟨S_, .i32⟩
  | 108 => ⟨S32, .i32⟩
  | 109 => ⟨S_, .i32⟩
  | 110 => ⟨S32x1, .i32⟩
  | 111 => ⟨S32x9, .i32⟩
  | 112 => ⟨S_, .i32⟩
  | 113 => ⟨S32, .i32⟩
  | 114 => ⟨S32, .i32⟩
  | 115 => ⟨S32x1, .i32⟩
  | 116 => ⟨S_, .i32⟩
  | 117 => ⟨S32x1, .i32⟩
  | 118 => ⟨S32x1, .i1⟩
  | 119 => ⟨S_, .i32⟩
  | 120 => ⟨S32x1, .i32⟩
  | 121 => ⟨S32x1, .i32⟩
  | 122 => ⟨S32x1, .i32⟩
  | 123 => ⟨S32x1x1, .i32⟩
  | 124 => ⟨S1, .i32⟩
  | 125 => ⟨S_, .i32⟩
  | 126 => ⟨S32x1x1, .i32⟩
  | 127 => ⟨S32x1x1, .i1⟩
  | _ => ⟨S32x8, .i32⟩

abbrev hbmTy0_1 (i : Nat) : BufTy := match i % 128 with
  | 0 => ⟨S1x1x1, .i32⟩
  | 1 => ⟨S32x1x1, .i32⟩
  | 2 => ⟨S32x1x1, .i1⟩
  | 3 => ⟨S32x1x1, .i1⟩
  | 4 => ⟨S_, .i1⟩
  | 5 => ⟨S32x1, .i1⟩
  | 6 => ⟨S32x1, .i32⟩
  | 7 => ⟨S_, .i32⟩
  | 8 => ⟨S32x1, .i32⟩
  | 9 => ⟨S32x1, .i32⟩
  | 10 => ⟨S32, .i32⟩
  | 11 => ⟨S_, .i32⟩
  | 12 => ⟨S32, .i32⟩
  | 13 => ⟨S32, .i1⟩
  | 14 => ⟨S32, .i32⟩
  | 15 => ⟨S32, .i32⟩
  | 16 => ⟨S_, .i32⟩
  | 17 => ⟨S32, .i32⟩
  | 18 => ⟨S32, .i1⟩
  | 19 => ⟨S_, .i32⟩
  | 20 => ⟨S32, .i32⟩
  | 21 => ⟨S32, .i32⟩
  | 22 => ⟨S32, .i32⟩
  | 23 => ⟨S_, .i32⟩
  | 24 => ⟨S32, .i32⟩
  | 25 => ⟨S32, .i1⟩
  | 26 => ⟨S_, .i32⟩
  | 27 => ⟨S32, .i32⟩
  | 28 => ⟨S32, .i32⟩
  | 29 => ⟨S32, .i32⟩
  | 30 => ⟨S32x1, .i32⟩
  | 31 => ⟨S32x1, .i32⟩
  | 32 => ⟨S32x2, .i32⟩
  | 33 => ⟨S32x9, .i32⟩
  | _ => ⟨S32x8, .i32⟩

abbrev hbmTy (i : Nat) : BufTy := match i / 128 with
  | 0 => hbmTy0_0 i
  | 1 => hbmTy0_1 i
  | _ => ⟨S32x8, .i32⟩

abbrev bufTy : (tb : Table) → Fin (tcTables nBuf tb) → BufTy
  | .hbm, ⟨i, _⟩ => hbmTy i
  | _, _ => ⟨S32x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_call2_c : Ref sig .tc := ⟨.hbm, 57, rfl⟩
abbrev main_call2_v0 : Ref sig .tc := ⟨.hbm, 58, rfl⟩
abbrev main_v10 : Ref sig .tc := ⟨.hbm, 59, rfl⟩
abbrev main_v11 : Ref sig .tc := ⟨.hbm, 60, rfl⟩
abbrev main_c : Ref sig .tc := ⟨.hbm, 61, rfl⟩
abbrev main_v12 : Ref sig .tc := ⟨.hbm, 62, rfl⟩
abbrev main_v13 : Ref sig .tc := ⟨.hbm, 63, rfl⟩
abbrev main_c_0 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst : Ref sig .tc := ⟨.hbm, 70, rfl⟩
abbrev main_v19 : Ref sig .tc := ⟨.hbm, 71, rfl⟩
abbrev main_v20 : Ref sig .tc := ⟨.hbm, 72, rfl⟩
abbrev main_cst_1 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_cst_2 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_cst_3 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_call3_v0 : Ref sig .tc := ⟨.hbm, 91, rfl⟩
abbrev main_call3_cst : Ref sig .tc := ⟨.hbm, 92, rfl⟩
abbrev main_call3_c : Ref sig .tc := ⟨.hbm, 93, rfl⟩
abbrev main_call3_v1_0 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_call4_v0 : Ref sig .tc := ⟨.hbm, 102, rfl⟩
abbrev main_call4_cst : Ref sig .tc := ⟨.hbm, 103, rfl⟩
abbrev main_call4_c : Ref sig .tc := ⟨.hbm, 104, rfl⟩
abbrev main_call4_v1_0 : Ref sig .tc := ⟨.hbm, 105, rfl⟩
abbrev main_v43 : Ref sig .tc := ⟨.hbm, 106, rfl⟩
abbrev main_c_4 : Ref sig .tc := ⟨.hbm, 107, rfl⟩
abbrev main_v44 : Ref sig .tc := ⟨.hbm, 108, rfl⟩
abbrev main_c_5 : Ref sig .tc := ⟨.hbm, 109, rfl⟩
abbrev main_v45 : Ref sig .tc := ⟨.hbm, 110, rfl⟩
abbrev main_v46 : Ref sig .tc := ⟨.hbm, 111, rfl⟩
abbrev main_c_6 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_call5_c : Ref sig .tc := ⟨.hbm, 116, rfl⟩
abbrev main_call5_v0 : Ref sig .tc := ⟨.hbm, 117, rfl⟩
abbrev main_call5_v1 : Ref sig .tc := ⟨.hbm, 118, rfl⟩
abbrev main_call5_c_0 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_v5 : Ref sig .tc := ⟨.hbm, 123, rfl⟩
abbrev main_call5_c_1 : Ref sig .tc := ⟨.hbm, 124, rfl⟩
abbrev main_call5_c_2 : Ref sig .tc := ⟨.hbm, 125, rfl⟩
abbrev main_call5_v6 : Ref sig .tc := ⟨.hbm, 126, rfl⟩
abbrev main_call5_v7 : Ref sig .tc := ⟨.hbm, 127, rfl⟩
abbrev main_call5_v8 : Ref sig .tc := ⟨.hbm, 128, rfl⟩
abbrev main_call5_v9 : Ref sig .tc := ⟨.hbm, 129, rfl⟩
abbrev main_call5_v10 : Ref sig .tc := ⟨.hbm, 130, rfl⟩
abbrev main_call5_v11 : Ref sig .tc := ⟨.hbm, 131, rfl⟩
abbrev main_call5_c_3 : Ref sig .tc := ⟨.hbm, 132, rfl⟩
abbrev main_call5_v12 : Ref sig .tc := ⟨.hbm, 133, rfl⟩
abbrev main_call5_v13 : Ref sig .tc := ⟨.hbm, 134, rfl⟩
abbrev main_call5_c_4 : Ref sig .tc := ⟨.hbm, 135, rfl⟩
abbrev main_call5_v14 : Ref sig .tc := ⟨.hbm, 136, rfl⟩
abbrev main_v50 : Ref sig .tc := ⟨.hbm, 137, rfl⟩
abbrev main_v51 : Ref sig .tc := ⟨.hbm, 138, rfl⟩
abbrev main_c_7 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_c_8 : Ref sig .tc := ⟨.hbm, 144, rfl⟩
abbrev main_v56 : Ref sig .tc := ⟨.hbm, 145, rfl⟩
abbrev main_v57 : Ref sig .tc := ⟨.hbm, 146, rfl⟩
abbrev main_c_9 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_c_10 : Ref sig .tc := ⟨.hbm, 151, rfl⟩
abbrev main_v61 : Ref sig .tc := ⟨.hbm, 152, rfl⟩
abbrev main_v62 : Ref sig .tc := ⟨.hbm, 153, rfl⟩
abbrev main_c_11 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩

abbrev nD : Nat := 1
abbrev τ : Topo := Topo.v7x

variable {F : FTy → Type} [FloatOps F]
-- ==== Proof.RefRun.lean ====
/-
  The reference's run: its operations as ten windows in order, and every array's contents at the end as the fold of
  their results over the launch contents; no argument is written, and no semaphore exists.
-/
module

public import Idealize.ShloMosaic.Lib.StableHlo.Run
public import Idealize.ShloMosaic.Lib.StableHlo.RunRead
public import Idealize.ShloMosaic.Lib.StableHlo.RunHlo
public import Idealize.ShloMosaic.Lib.Quiescent
public import proofs.«01_k».proof.Proof.Gen.ReferenceIdeal

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- Operations 0 to 23: the draft's probability of each drafted token. -/
abbrev w1 : List (HloOp τ sig (Elt F)) :=
  [ unary main_arg0 main_v0 (broadcastInDim S32x8x1 ![0, 1] bcast_S32x8_S32x8x1_0_1),
    nullary main_call0_c (constantI S_ 32 0#32),
    unary main_call0_c main_call0_v0 (broadcastInDim S32x8x1 ![] bcast_S_S32x8x1),
    binary main_v0 main_call0_v0 main_call0_v1 (cmpi .slt),
    nullary main_call0_c_0 (constantI S_ 32 100000#32),
    unary main_call0_c_0 main_call0_v2 (broadcastInDim S32x8x1 ![] bcast_S_S32x8x1),
    binary main_v0 main_call0_v2 main_call0_v3 addi,
    ternary main_call0_v1 main_call0_v3 main_v0 main_call0_v4 select,
    reshape main_call0_v4 main_call0_v5 (rfl : (.i32 : EltTy) = .i32) shapeCasts_S32x8x1_S32x8x1x1,
    nullary main_call0_c_1 (constantI S1 32 99999#32),
    nullary main_call0_c_2 (constantI S_ 32 0#32),
    unary main_call0_c_2 main_call0_v6 (broadcastInDim S32x8x1x1 ![] bcast_S_S32x8x1x1),
    binary main_call0_v5 main_call0_v6 main_call0_v7 (cmpi .sge),
    unary main_call0_c_1 main_call0_v8 (broadcastInDim S1x1x1x1 ![3] bcast_S1_S1x1x1x1_3),
    unary main_call0_v8 main_call0_v9 (broadcastInDim S32x8x1x1 ![0, 1, 2, 3] bcast_S1x1x1x1_S32x8x1x1_0_1_2_3),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S32x8x1x1_S32x8x1_d3 h_S_),
    binary main_arg1 main_call0_v5 main_call0_v13 (fun x i => Host.gather gather_S32x8x100000_S32x8x1x1_S32x8x1_n_2_01_01_2_3_111 x i),
    nullary main_call0_cst (constant S_ .f32 0x7FC00000#32),
    unary main_call0_cst main_call0_v14 (broadcastInDim S32x8x1 ![] bcast_S_S32x8x1),
    ternary main_call0_v12 main_call0_v13 main_call0_v14 main_v1 select,
    reshape main_v1 main_v2 (rfl : (.f32 : EltTy) = .f32) shapeCasts_S32x8x1_S32x8 ]

/-- What they write. -/
abbrev W1 : List (Ref sig .tc) :=
  [main_v0, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v1, main_v2]

theorem writes1 : (w1 (F := F)).map HloOp.writes = W1.map fun w => {Proc.devRef (τ := τ) .tc w} := rfl

theorem sub1 : (w1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

theorem fresh1 : (w1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- Operations 24 to 48: the target's probability of each drafted token. -/
abbrev w2 : List (HloOp τ sig (Elt F)) :=
  [ unary main_arg2 main_v3 ((extractStridedSlice S32x8x100000 ![0, 0, 0] · slices_S32x9x100000_S32x8x100000_0_0_0)),
    unary main_arg0 main_v4 (broadcastInDim S32x8x1 ![0, 1] bcast_S32x8_S32x8x1_0_1),
    nullary main_call1_c (constantI S_ 32 0#32),
    unary main_call1_c main_call1_v0 (broadcastInDim S32x8x1 ![] bcast_S_S32x8x1),
    binary main_v4 main_call1_v0 main_call1_v1 (cmpi .slt),
    nullary main_call1_c_0 (constantI S_ 32 100000#32),
    unary main_call1_c_0 main_call1_v2 (broadcastInDim S32x8x1 ![] bcast_S_S32x8x1),
    binary main_v4 main_call1_v2 main_call1_v3 addi,
    ternary main_call1_v1 main_call1_v3 main_v4 main_call1_v4 select,
    reshape main_call1_v4 main_call1_v5 (rfl : (.i32 : EltTy) = .i32) shapeCasts_S32x8x1_S32x8x1x1,
    nullary main_call1_c_1 (constantI S1 32 99999#32),
    nullary main_call1_c_2 (constantI S_ 32 0#32),
    unary main_call1_c_2 main_call1_v6 (broadcastInDim S32x8x1x1 ![] bcast_S_S32x8x1x1),
    binary main_call1_v5 main_call1_v6 main_call1_v7 (cmpi .sge),
    unary main_call1_c_1 main_call1_v8 (broadcastInDim S1x1x1x1 ![3] bcast_S1_S1x1x1x1_3),
    unary main_call1_v8 main_call1_v9 (broadcastInDim S32x8x1x1 ![0, 1, 2, 3] bcast_S1x1x1x1_S32x8x1x1_0_1_2_3),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S32x8x1x1_S32x8x1_d3 h_S_),
    binary main_v3 main_call1_v5 main_call1_v13 (fun x i => Host.gather gather_S32x8x100000_S32x8x1x1_S32x8x1_n_2_01_01_2_3_111 x i),
    nullary main_call1_cst (constant S_ .f32 0x7FC00000#32),
    unary main_call1_cst main_call1_v14 (broadcastInDim S32x8x1 ![] bcast_S_S32x8x1),
    ternary main_call1_v12 main_call1_v13 main_call1_v14 main_v5 select,
    reshape main_v5 main_v6 (rfl : (.f32 : EltTy) = .f32) shapeCasts_S32x8x1_S32x8 ]

/-- What they write. -/
abbrev W2 : List (Ref sig .tc) :=
  [main_v3, main_v4, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v5, main_v6]

theorem writes2 : (w2 (F := F)).map HloOp.writes = W2.map fun w => {Proc.devRef (τ := τ) .tc w} := rfl

theorem sub2 : (w2 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

theorem fresh2 : (w2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- Operations 49 to 62: the acceptance mask and the accepted tokens. -/
abbrev w3 : List (HloOp τ sig (Elt F)) :=
  [ binary main_v6 main_v2 main_v7 (Host.divf),
    binary main_arg3 main_v7 main_v8 (cmpf .ole),
    unary main_v8 main_v9 ((extui 32 · natLt_1_32)),
    nullary main_call2_c (constantI S_ 32 2147483647#32),
    unary main_call2_c main_call2_v0 (broadcastInDim S_ ![] bcast_S_S_),
    binary main_v9 main_call2_v0 main_v10 (fun x v => Host.reduceWindow IntOp.minsi ![1, 8] ![1, 1] ![0, 7] ![0, 0] x v reduceWindows_S32x8_S32x8_w1s1p0_0_w8s1p7_0 h_S_),
    binary main_arg0 main_v10 main_v11 (muli),
    nullary main_c (constantI S_ 32 1#32),
    unary main_c main_v12 (broadcastInDim S32x8 ![] bcast_S_S32x8),
    binary main_v12 main_v10 main_v13 (subi),
    nullary main_c_0 (constantI S_ 32 4294967295#32),
    unary main_c_0 main_v14 (broadcastInDim S32x8 ![] bcast_S_S32x8),
    binary main_v14 main_v13 main_v15 (muli),
    binary main_v11 main_v15 main_v16 (addi) ]

/-- What they write. -/
abbrev W3 : List (Ref sig .tc) :=
  [main_v7, main_v8, main_v9, main_call2_c, main_call2_v0, main_v10, main_v11, main_c, main_v12, main_v13, main_c_0, main_v14, main_v15, main_v16]

theorem writes3 : (w3 (F := F)).map HloOp.writes = W3.map fun w => {Proc.devRef (τ := τ) .tc w} := rfl

theorem sub3 : (w3 : List (HloOp τ sig (Elt F))).Forall fun op => op.bufs ⊆ tcRefs τ sig :=
  ⟨binary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩

theorem fresh3 : (w3 : List (HloOp τ sig (Elt F))).Forall fun op => op.fresh = ∅ :=
  ⟨rfl, rfl, rfl, rfl, rfl, rfl, rfl, rfl, rfl, rfl, rfl, rfl, rfl, rfl⟩

/-- Operations 63 to 85: the scores of the recovered distribution. -/
abbrev w4 : List (HloOp τ sig (Elt F)) :=
  [ unary main_arg2 main_v17 ((extractStridedSlice S32x8x100000 ![0, 0, 0] · slices_S32x9x100000_S32x8x100000_0_0_0)),
    binary main_v17 main_arg1 main_v18 (subf),
    nullary main_cst (constant S_ .f32 0x3727C5AC#32),
    unary main_cst main_v19 (broadcastInDim S32x8x100000 ![] bcast_S_S32x8x100000),
    binary main_v18 main_v19 main_v20 (maximumf),
    nullary main_cst_1 (constant S_ .f32 0x00000000#32),
    binary main_v20 main_cst_1 main_v21 ((fun x v => Host.reduceAdd x v reducesTo_S32x8x100000_S32x8_d2 h_S_)),
    unary main_v21 main_v22 (broadcastInDim S32x8x1 ![0, 1] bcast_S32x8_S32x8x1_0_1),
    unary main_v22 main_v23 (broadcastInDim S32x8x100000 ![0, 1, 2] bcast_S32x8x1_S32x8x100000_0_1_2),
    binary main_v20 main_v23 main_v24 (Host.divf),
    nullary main_cst_2 (constant S_ .f32 0x2EDBE6FF#32),
    unary main_cst_2 main_v25 (broadcastInDim S32x9x100000 ![] bcast_S_S32x9x100000),
    binary main_arg4 main_v25 main_v26 (addf),
    unary main_v26 main_v27 (Host.log),
    unary main_v27 main_v28 (Host.negf),
    nullary main_cst_3 (constant S_ .f32 0x2EDBE6FF#32),
    unary main_cst_3 main_v29 (broadcastInDim S32x9x100000 ![] bcast_S_S32x9x100000),
    binary main_v28 main_v29 main_v30 (addf),
    unary main_v30 main_v31 (Host.log),
    unary main_v31 main_v32 (Host.negf),
    unary main_v24 main_v33 (Host.log),
    unary main_v32 main_v34 ((extractStridedSlice S32x8x100000 ![0, 0, 0] · slices_S32x9x100000_S32x8x100000_0_0_0)),
    binary main_v33 main_v34 main_v35 (addf) ]

/-- What they write. -/
abbrev W4 : List (Ref sig .tc) :=
  [main_v17, main_v18, main_cst, main_v19, main_v20, main_cst_1, main_v21, main_v22, main_v23, main_v24, main_cst_2, main_v25, main_v26, main_v27, main_v28, main_cst_3, main_v29, main_v30, main_v31, main_v32, main_v33, main_v34, main_v35]

theorem writes4 : (w4 (F := F)).map HloOp.writes = W4.map fun w => {Proc.devRef (τ := τ) .tc w} := rfl

theorem sub4 : (w4 : List (HloOp τ sig (Elt F))).Forall fun op => op.bufs ⊆ tcRefs τ sig :=
  ⟨unary_bufs_sub .., binary_bufs_sub .., nullary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., unary_bufs_sub .., unary_bufs_sub .., unary_bufs_sub .., binary_bufs_sub ..⟩

theorem fresh4 : (w4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Operations 86 to 90: the recovered tokens. -/
abbrev w5 : List (HloOp τ sig (Elt F)) :=
  [ nullary main_call3_v0 (iotaInDim S32x8x100000 32 2),
    nullary main_call3_cst (constant S_ .f32 0xFF800000#32),
    nullary main_call3_c (constantI S_ 32 0#32),
    quaternary main_v35 main_call3_v0 main_call3_cst main_call3_c main_call3_v1_0 (fun x y u v j => (Host.argReduce reducer_argmax_f32_i32 x y u v reducesTo_S32x8x100000_S32x8_d2 h_S_ j).1),
    quaternary main_v35 main_call3_v0 main_call3_cst main_call3_c main_v36 (fun x y u v j => (Host.argReduce reducer_argmax_f32_i32 x y u v reducesTo_S32x8x100000_S32x8_d2 h_S_ j).2) ]

/-- What they write. -/
abbrev W5 : List (Ref sig .tc) :=
  [main_call3_v0, main_call3_cst, main_call3_c, main_call3_v1_0, main_v36]

theorem writes5 : (w5 (F := F)).map HloOp.writes = W5.map fun w => {Proc.devRef (τ := τ) .tc w} := rfl

theorem sub5 : (w5 : List (HloOp τ sig (Elt F))).Forall fun op => op.bufs ⊆ tcRefs τ sig :=
  ⟨nullary_bufs_sub .., nullary_bufs_sub .., nullary_bufs_sub .., quaternary_bufs_sub .., quaternary_bufs_sub ..⟩

theorem fresh5 : (w5 : List (HloOp τ sig (Elt F))).Forall fun op => op.fresh = ∅ :=
  ⟨rfl, rfl, rfl, rfl, rfl⟩

/-- Operations 91 to 101: the bonus tokens. -/
abbrev w6 : List (HloOp τ sig (Elt F)) :=
  [ unary main_arg2 main_v37 ((extractStridedSlice S32x1x100000 ![0, 8, 0] · slices_S32x9x100000_S32x1x100000_0_8_0)),
    reshape main_v37 main_v38 (rfl : (.f32 : EltTy) = .f32) shapeCasts_S32x1x100000_S32x100000,
    unary main_v38 main_v39 (Host.log),
    unary main_v32 main_v40 ((extractStridedSlice S32x1x100000 ![0, 8, 0] · slices_S32x9x100000_S32x1x100000_0_8_0)),
    reshape main_v40 main_v41 (rfl : (.f32 : EltTy) = .f32) shapeCasts_S32x1x100000_S32x100000,
    binary main_v39 main_v41 main_v42 (addf),
    nullary main_call4_v0 (iotaInDim S32x100000 32 1),
    nullary main_call4_cst (constant S_ .f32 0xFF800000#32),
    nullary main_call4_c (constantI S_ 32 0#32),
    quaternary main_v42 main_call4_v0 main_call4_cst main_call4_c main_call4_v1_0 (fun x y u v j => (Host.argReduce reducer_argmax_f32_i32 x y u v reducesTo_S32x100000_S32_d1 h_S_ j).1),
    quaternary main_v42 main_call4_v0 main_call4_cst main_call4_c main_v43 (fun x y u v j => (Host.argReduce reducer_argmax_f32_i32 x y u v reducesTo_S32x100000_S32_d1 h_S_ j).2) ]

/-- What they write. -/
abbrev W6 : List (Ref sig .tc) :=
  [main_v37, main_v38, main_v39, main_v40, main_v41, main_v42, main_call4_v0, main_call4_cst, main_call4_c, main_call4_v1_0, main_v43]

theorem writes6 : (w6 (F := F)).map HloOp.writes = W6.map fun w => {Proc.devRef (τ := τ) .tc w} := rfl

theorem sub6 : (w6 : List (HloOp τ sig (Elt F))).Forall fun op => op.bufs ⊆ tcRefs τ sig :=
  ⟨unary_bufs_sub .., reshape_bufs_sub .., unary_bufs_sub .., unary_bufs_sub .., reshape_bufs_sub .., binary_bufs_sub .., nullary_bufs_sub .., nullary_bufs_sub .., nullary_bufs_sub .., quaternary_bufs_sub .., quaternary_bufs_sub ..⟩

theorem fresh6 : (w6 : List (HloOp τ sig (Elt F))).Forall fun op => op.fresh = ∅ :=
  ⟨rfl, rfl, rfl, rfl, rfl, rfl, rfl, rfl, rfl, rfl, rfl⟩

/-- Operations 102 to 110: the number of accepted tokens, the row of tokens with a tail of -1, the last position clipped. -/
abbrev w7 : List (HloOp τ sig (Elt F)) :=
  [ nullary main_c_4 (constantI S_ 32 0#32),
    binary main_v10 main_c_4 main_v44 ((fun x v => Host.reduce IntOp.addi x v reducesTo_S32x8_S32_d1 h_S_)),
    nullary main_c_5 (constantI S_ 32 4294967295#32),
    unary main_c_5 main_v45 (broadcastInDim S32x1 ![] bcast_S_S32x1),
    binary main_v16 main_v45 main_v46 ((fun a b => concatenate S32x9 1 [⟨S32x8, a⟩, ⟨S32x1, b⟩] concatenates_S32x8_S32x1_S32x9_d1)),
    nullary main_c_6 (constantI S_ 32 7#32),
    unary main_c_6 main_v47 (broadcastInDim S32 ![] bcast_S_S32),
    binary main_v44 main_v47 main_v48 (minsi),
    unary main_v48 main_v49 (broadcastInDim S32x1 ![0] bcast_S32_S32x1_0) ]

/-- What they write. -/
abbrev W7 : List (Ref sig .tc) :=
  [main_c_4, main_v44, main_c_5, main_v45, main_v46, main_c_6, main_v47, main_v48, main_v49]

theorem writes7 : (w7 (F := F)).map HloOp.writes = W7.map fun w => {Proc.devRef (τ := τ) .tc w} := rfl

theorem sub7 : (w7 : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., unary_bufs_sub ..⟩

theorem fresh7 : (w7 : List (HloOp τ sig (Elt F))).Forall fun op => op.fresh = ∅ :=
  ⟨rfl, rfl, rfl, rfl, rfl, rfl, rfl, rfl, rfl⟩

/-- Operations 111 to 132: the recovered token at the first rejection. -/
abbrev w8 : List (HloOp τ sig (Elt F)) :=
  [ nullary main_call5_c (constantI S_ 32 0#32),
    unary main_call5_c main_call5_v0 (broadcastInDim S32x1 ![] bcast_S_S32x1),
    binary main_v49 main_call5_v0 main_call5_v1 (cmpi .slt),
    nullary main_call5_c_0 (constantI S_ 32 8#32),
    unary main_call5_c_0 main_call5_v2 (broadcastInDim S32x1 ![] bcast_S_S32x1),
    binary main_v49 main_call5_v2 main_call5_v3 addi,
    ternary main_call5_v1 main_call5_v3 main_v49 main_call5_v4 select,
    reshape main_call5_v4 main_call5_v5 (rfl : (.i32 : EltTy) = .i32) shapeCasts_S32x1_S32x1x1,
    nullary main_call5_c_1 (constantI S1 32 7#32),
    nullary main_call5_c_2 (constantI S_ 32 0#32),
    unary main_call5_c_2 main_call5_v6 (broadcastInDim S32x1x1 ![] bcast_S_S32x1x1),
    binary main_call5_v5 main_call5_v6 main_call5_v7 (cmpi .sge),
    unary main_call5_c_1 main_call5_v8 (broadcastInDim S1x1x1 ![2] bcast_S1_S1x1x1_2),
    unary main_call5_v8 main_call5_v9 (broadcastInDim S32x1x1 ![0, 1, 2] bcast_S1x1x1_S32x1x1_0_1_2),
    binary main_call5_v5 main_call5_v9 main_call5_v10 (cmpi .sle),
    binary main_call5_v7 main_call5_v10 main_call5_v11 andi,
    nullary main_call5_c_3 (constantI S_ 1 1#1),
    binary main_call5_v11 main_call5_c_3 main_call5_v12 (fun x v => Host.reduce IntOp.andi x v reducesTo_S32x1x1_S32x1_d2 h_S_),
    binary main_v36 main_call5_v5 main_call5_v13 (fun x i => Host.gather gather_S32x8_S32x1x1_S32x1_n_1_0_0_1_2_11 x i),
    nullary main_call5_c_4 (constantI S_ 32 2147483648#32),
    unary main_call5_c_4 main_call5_v14 (broadcastInDim S32x1 ![] bcast_S_S32x1),
    ternary main_call5_v12 main_call5_v13 main_call5_v14 main_v50 select ]

/-- What they write. -/
abbrev W8 : List (Ref sig .tc) :=
  [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_c_4, main_call5_v14, main_v50]

theorem writes8 : (w8 (F := F)).map HloOp.writes = W8.map fun w => {Proc.devRef (τ := τ) .tc w} := rfl

theorem sub8 : (w8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem fresh8 : (w8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- Operations 133 to 137: the next token. -/
abbrev w9 : List (HloOp τ sig (Elt F)) :=
  [ reshape main_v50 main_v51 (rfl : (.i32 : EltTy) = .i32) shapeCasts_S32x1_S32,
    nullary main_c_7 (constantI S_ 32 8#32),
    unary main_c_7 main_v52 (broadcastInDim S32 ![] bcast_S_S32),
    binary main_v44 main_v52 main_v53 (cmpi .eq),
    ternary main_v53 main_v43 main_v51 main_v54 select ]

/-- What they write. -/
abbrev W9 : List (Ref sig .tc) :=
  [main_v51, main_c_7, main_v52, main_v53, main_v54]

theorem writes9 : (w9 (F := F)).map HloOp.writes = W9.map fun w => {Proc.devRef (τ := τ) .tc w} := rfl

theorem sub9 : (w9 : List (HloOp τ sig (Elt F))).Forall fun op => op.bufs ⊆ tcRefs τ sig :=
  ⟨reshape_bufs_sub .., nullary_bufs_sub .., unary_bufs_sub .., binary_bufs_sub .., ternary_bufs_sub ..⟩

theorem fresh9 : (w9 : List (HloOp τ sig (Elt F))).Forall fun op => op.fresh = ∅ :=
  ⟨rfl, rfl, rfl, rfl, rfl⟩

/-- Operations 138 to 156: the next token put into its position. -/
abbrev w10 : List (HloOp τ sig (Elt F)) :=
  [ nullary main_v55 (iotaInDim S32 32 0),
    nullary main_c_8 (constantI S_ 32 0#32),
    unary main_c_8 main_v56 (broadcastInDim S32 ![] bcast_S_S32),
    binary main_v55 main_v56 main_v57 (cmpi .slt),
    nullary main_c_9 (constantI S_ 32 32#32),
    unary main_c_9 main_v58 (broadcastInDim S32 ![] bcast_S_S32),
    binary main_v55 main_v58 main_v59 (addi),
    ternary main_v57 main_v59 main_v55 main_v60 (select),
    nullary main_c_10 (constantI S_ 32 0#32),
    unary main_c_10 main_v61 (broadcastInDim S32 ![] bcast_S_S32),
    binary main_v44 main_v61 main_v62 (cmpi .slt),
    nullary main_c_11 (constantI S_ 32 9#32),
    unary main_c_11 main_v63 (broadcastInDim S32 ![] bcast_S_S32),
    binary main_v44 main_v63 main_v64 (addi),
    ternary main_v62 main_v64 main_v44 main_v65 (select),
    unary main_v60 main_v66 (broadcastInDim S32x1 ![0] bcast_S32_S32x1_0),
    unary main_v65 main_v67 (broadcastInDim S32x1 ![0] bcast_S32_S32x1_0),
    binary main_v66 main_v67 main_v68 ((fun a b => concatenate S32x2 1 [⟨S32x1, a⟩, ⟨S32x1, b⟩] concatenates_S32x1_S32x1_S32x2_d1)),
    ternary main_v46 main_v68 main_v54 main_v69 ((fun x i u => Host.scatter scatter_S32x9_S32x2_S32_n_01_01_1 (fun _ b => b) x i u)) ]

/-- What they write. -/
abbrev W10 : List (Ref sig .tc) :=
  [main_v55, main_c_8, main_v56, main_v57, main_c_9, main_v58, main_v59, main_v60, main_c_10, main_v61, main_v62, main_c_11, main_v63, main_v64, main_v65, main_v66, main_v67, main_v68, main_v69]

theorem writes10 : (w10 (F := F)).map HloOp.writes = W10.map fun w => {Proc.devRef (τ := τ) .tc w} := rfl

theorem sub10 : (w10 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

theorem fresh10 : (w10 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The reference's operations. -/
def ops : List (HloOp τ sig (Elt F)) :=
  (w1 ++ (w2 ++ (w3 ++ (w4 ++ (w5 ++ (w6 ++ (w7 ++ w8))))))) ++ (w9 ++ w10)

/-- A line, then what a line follows. -/
theorem isSeq_app {Λ : Labels} {p : Prog (TpuEff nD τ sig (Elt F) Λ .tc) PUnit} {l ops : List (HloOp τ sig (Elt F))}
    (h : IsSeq p ops) : IsSeq (seq l >>= fun _ => p) (l ++ ops) := by
  unfold IsSeq at h ⊢; rw [h, seq_append]

theorem call0_eq : fn_take_along_axis.body (F := F) (.of main_arg1) (.of main_v0) main_call0 = seq ((w1.drop 1).take 22) := rfl
theorem call1_eq : fn_take_along_axis_0.body (F := F) (.of main_v3) (.of main_v4) main_call1 = seq ((w2.drop 2).take 22) := rfl
attribute [local irreducible] Host.reduceWindow in
theorem call2_eq : fn_cummin.body (F := F) (.of main_v9) main_call2 = seq ((w3.drop 3).take 3) := rfl
theorem call3_eq : fn_argmax.body (F := F) (.of main_v35) main_call3 = seq w5 := rfl
theorem call4_eq : fn_argmax_1.body (F := F) (.of main_v42) main_call4 = seq (w6.drop 6) := rfl
theorem call5_eq : fn_take_along_axis_2.body (F := F) (.of main_v36) (.of main_v49) main_call5 = seq w8 := rfl
theorem call6_eq : fn_where.body (F := F) (.of main_v53) (.of main_v43) (.of main_v51) main_call6 = seq (w9.drop 4) := rfl

theorem part0_eq (c : Dev nD) :
    main_part0 (F := F) c = seq (w1 ++ (w2 ++ (w3 ++ (w4 ++ (w5 ++ (w6 ++ (w7 ++ w8))))))) := by
  have h : ∃ l, IsSeq (main_part0 (F := F) c) l ∧ l = (w1 ++ (w2 ++ (w3 ++ (w4 ++ (w5 ++ (w6 ++ (w7 ++ w8))))))) := by
    apply Exists.intro
    apply And.intro
    · unfold main_part0
      rw [call0_eq, call1_eq, call2_eq, call3_eq, call4_eq, call5_eq]
      repeat (first | exact IsSeq.nil | exact (rfl : IsSeq (seq _) _) | apply isSeq_app | apply IsSeq.cons)
    · rfl
  obtain ⟨l, h, e⟩ := h
  exact e ▸ h

theorem part1_eq (c : Dev nD) : main_part1 (F := F) c = seq (w9 ++ w10) := by
  have h : ∃ l, IsSeq (main_part1 (F := F) c) l ∧ l = w9 ++ w10 := by
    apply Exists.intro
    apply And.intro
    · unfold main_part1
      rw [call6_eq]
      repeat (first | exact IsSeq.nil | exact (rfl : IsSeq (seq _) _) | apply isSeq_app | apply IsSeq.cons)
    · rfl
  obtain ⟨l, h, e⟩ := h
  exact e ▸ h

/-- The program is that line. -/
theorem main_eq (c : Dev nD) : main (F := F) c = seq ops := by
  unfold ops
  rw [seq_append, ← part0_eq c, ← part1_eq c]
  rfl

theorem ops_sub : (ops : List (HloOp τ sig (Elt F))).Forall fun op => op.bufs ⊆ tcRefs τ sig := by
  rw [List.forall_iff_forall_mem]
  intro op h
  simp only [ops, List.mem_append] at h
  rcases h with (h | h | h | h | h | h | h | h) | h | h
  exacts [List.forall_iff_forall_mem.mp sub1 op h, List.forall_iff_forall_mem.mp sub2 op h,
    List.forall_iff_forall_mem.mp sub3 op h, List.forall_iff_forall_mem.mp sub4 op h,
    List.forall_iff_forall_mem.mp sub5 op h, List.forall_iff_forall_mem.mp sub6 op h,
    List.forall_iff_forall_mem.mp sub7 op h, List.forall_iff_forall_mem.mp sub8 op h,
    List.forall_iff_forall_mem.mp sub9 op h, List.forall_iff_forall_mem.mp sub10 op h]

theorem ops_fresh : ∀ op ∈ (ops : List (HloOp τ sig (Elt F))), op.fresh = ∅ := by
  intro op h
  simp only [ops, List.mem_append] at h
  rcases h with (h | h | h | h | h | h | h | h) | h | h
  exacts [List.forall_iff_forall_mem.mp fresh1 op h, List.forall_iff_forall_mem.mp fresh2 op h,
    List.forall_iff_forall_mem.mp fresh3 op h, List.forall_iff_forall_mem.mp fresh4 op h,
    List.forall_iff_forall_mem.mp fresh5 op h, List.forall_iff_forall_mem.mp fresh6 op h,
    List.forall_iff_forall_mem.mp fresh7 op h, List.forall_iff_forall_mem.mp fresh8 op h,
    List.forall_iff_forall_mem.mp fresh9 op h, List.forall_iff_forall_mem.mp fresh10 op h]

/-- A line after another. -/
theorem after_join (l₁ l₂ : List (HloOp τ sig (Elt F))) (V : Valuation τ sig (Elt F)) :
    after (l₁ ++ l₂) V = after l₂ (after l₁ V) := by
  induction l₁ generalizing V with
  | nil => rfl
  | cons op l ih => exact ih _

/-- The whole line is the windows one after another. -/
theorem after_ops (V : Valuation τ sig (Elt F)) :
    after ops V = after w10 (after w9 (after w8 (after w7 (after w6 (after w5 (after w4 (after w3 (after w2 (after w1 V))))))))) := by
  simp only [ops, after_join]

/-- No argument is written. -/
theorem after_arg {r : Ref sig .tc}
    (h : r ∉ W1 ++ W2 ++ W3 ++ W4 ++ W5 ++ W6 ++ W7 ++ W8 ++ W9 ++ W10) (V : Valuation τ sig (Elt F)) :
    after ops V (Proc.devRef .tc r) = V (Proc.devRef .tc r) := by
  simp only [List.mem_append, not_or] at h
  obtain ⟨⟨⟨⟨⟨⟨⟨⟨⟨h1, h2⟩, h3⟩, h4⟩, h5⟩, h6⟩, h7⟩, h8⟩, h9⟩, h10⟩ := h
  rw [after_ops, after_unwritten W10 writes10 h10, after_unwritten W9 writes9 h9, after_unwritten W8 writes8 h8,
    after_unwritten W7 writes7 h7, after_unwritten W6 writes6 h6, after_unwritten W5 writes5 h5,
    after_unwritten W4 writes4 h4, after_unwritten W3 writes3 h3, after_unwritten W2 writes2 h2,
    after_unwritten W1 writes1 h1]

theorem scopedRefs_eq : (Finset.univ.filter fun b : Ref sig .tc => b.isScoped) = ∅ := by decide +kernel
theorem scopedSems_eq : (Finset.univ.filter fun sm : SemLoc sig => sm.isScoped .tc) = ∅ := by decide +kernel

/-- Every fair execution of the reference ends, with its result the fold of its operations over the launch contents,
    its arguments as they were, and every counter at zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v69) = after ops (launchContents m c) (Proc.devRef .tc main_v69)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun r h => ⟨fun c => ⟨h c main_v69, (h c main_arg0).trans (after_arg (by decide +kernel) _),
      (h c main_arg1).trans (after_arg (by decide +kernel) _), (h c main_arg2).trans (after_arg (by decide +kernel) _),
      (h c main_arg3).trans (after_arg (by decide +kernel) _), (h c main_arg4).trans (after_arg (by decide +kernel) _)⟩,
      sem_eq_zero_of_no_sems rfl _⟩)
    (run_seq scopedRefs_eq scopedSems_eq defs main (fun _ => ops) main_eq (fun _ => ops_sub) m ρ (fun _ => ops_fresh))

end Cert.Proof.Ref

end
-- ==== Proof.Names.lean ====
/-
  The names this certificate uses for the pieces of the TensorCore kernel's three rings.

  Each ring has four slots (of a `4 x 8 x 100000` scratch buffer), four semaphores, and blocks in an array in
  HBM: block `n` of the two `9 x 32 x 100000` arrays is rows `8 (n mod 4) .. 8 (n mod 4) + 7` at position `n / 4`, block `n` of
  the `32 x 8 x 100000` array the same rows of the other layout. Block `n` goes into slot `n mod 4`.
-/
module

public import Idealize.ShloMosaic.Lib.Ring
public import Idealize.ShloMosaic.Lib.Tactic
public import Idealize.ShloMosaic.Lib.Transfers
public import Idealize.ShloMosaic.Lib.Pipeline.Kit
public import Idealize.ShloMosaic.Lib.SparseCore.Quiescent
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

set_option maxRecDepth 16384

noncomputable section

namespace Cert.Proof.Rings

open Cert.KernelIdeal Cert.KernelIdeal.Gen

open Idealize.ShloMosaic Idealize.ShloMosaic.TcCoe Idealize.ShloMosaic.Tactic
open Idealize.SL Idealize.SL.Sem

/-! ## The buffers -/

abbrev tArr : Memref sig .tc .hbm S9x32x100000 .f32 := Memref.whole main_v5
abbrev dArr : Memref sig .tc .hbm S32x8x100000 .f32 := Memref.whole main_arg1
abbrev uArr : Memref sig .tc .hbm S9x32x100000 .f32 := Memref.whole main_v6
abbrev tBuf : Memref sig .tc .vmem S4x8x100000 .f32 := Memref.whole cc0_scratch0
abbrev dBuf : Memref sig .tc .vmem S4x8x100000 .f32 := Memref.whole cc0_scratch1
abbrev uBuf : Memref sig .tc .vmem S4x8x100000 .f32 := Memref.whole cc0_scratch2

/-! ## Offsets -/

abbrev slotOff (s : Fin 4) : Fin 3 → Nat := ![s.val, 0, 0]
theorem slotOff_inb (s : Fin 4) : ∀ a, slotOff s a + S1x8x100000.size a ≤ S4x8x100000.size a := by
  revert s; decide
abbrev semOff (s : Fin 4) : Fin 1 → Nat := ![s.val]
theorem semOff_inb (s : Fin 4) : ∀ a, semOff s a + S1.size a ≤ S4.size a := by
  revert s; decide
abbrev blkOff (n : Fin 36) : Fin 3 → Nat := ![n.val / 4, 8 * (n.val % 4), 0]
theorem blkOff_inb (n : Fin 36) : ∀ a, blkOff n a + S1x8x100000.size a ≤ S9x32x100000.size a := by
  revert n; decide +kernel
abbrev dblkOff (n : Fin 32) : Fin 3 → Nat := ![8 * (n.val % 4), n.val / 4, 0]
theorem dblkOff_inb (n : Fin 32) : ∀ a, dblkOff n a + S8x1x100000.size a ≤ S32x8x100000.size a := by
  revert n; decide +kernel

/-! ## Slots, semaphores, blocks -/

/-- Slot `s` of a ring's buffer. -/
def slotOf (b : Memref sig .tc .vmem S4x8x100000 .f32) (s : Fin 4) : Memref sig .tc .vmem S8x100000 .f32 :=
  (b.slice (Rect.unit (s := S4x8x100000) (slotOff s) S1x8x100000.size (slotOff_inb s)) (fun _ => rfl)).squeeze S8x100000 squeezes_S1x8x100000_S8x100000
/-- Slot `s`'s semaphore. -/
def semOf (a : DmaSems sig S4) (s : Fin 4) : DmaSems sig S_ :=
  (a.slice (Rect.unit (s := S4) (semOff s) S1.size (semOff_inb s))).squeeze S_ squeezes_S1_S_
/-- Block `n` of one of the two arrays laid out by position first. -/
def blkOf (a : Memref sig .tc .hbm S9x32x100000 .f32) (n : Fin 36) : Memref sig .tc .hbm S8x100000 .f32 :=
  (a.slice (Rect.unit (s := S9x32x100000) (blkOff n) S1x8x100000.size (blkOff_inb n)) (fun _ => rfl)).squeeze S8x100000 squeezes_S1x8x100000_S8x100000
/-- Block `n` of the array laid out by row first. -/
def dblkOf (a : Memref sig .tc .hbm S32x8x100000 .f32) (n : Fin 32) : Memref sig .tc .hbm S8x100000 .f32 :=
  (a.slice (Rect.unit (s := S32x8x100000) (dblkOff n) S8x1x100000.size (dblkOff_inb n)) (fun _ => rfl)).squeeze S8x100000 squeezes_S8x1x100000_S8x100000

theorem slotOf_congr (b : Memref sig .tc .vmem S4x8x100000 .f32) {off : Fin 3 → Nat} {s : Fin 4} (e : off = slotOff s) (hh hs) :
    (b.slice (Rect.unit (s := S4x8x100000) off S1x8x100000.size hh) hs).squeeze S8x100000 squeezes_S1x8x100000_S8x100000 = slotOf b s :=
  congrArg (fun M : Memref sig .tc .vmem S1x8x100000 .f32 => M.squeeze S8x100000 squeezes_S1x8x100000_S8x100000) (Memref.slice_unit_congr _ e _ _ _ _)
theorem semOf_congr (a : DmaSems sig S4) {off : Fin 1 → Nat} {s : Fin 4} (e : off = semOff s) (hh) :
    (a.slice (Rect.unit (s := S4) off S1.size hh)).squeeze S_ squeezes_S1_S_ = semOf a s :=
  congrArg (fun A : DmaSems sig S1 => A.squeeze S_ squeezes_S1_S_) (SemArray.slice_unit_congr _ e _ _)
theorem blkOf_congr (a : Memref sig .tc .hbm S9x32x100000 .f32) {off : Fin 3 → Nat} {n : Fin 36} (e : off = blkOff n) (hh hs) :
    (a.slice (Rect.unit (s := S9x32x100000) off S1x8x100000.size hh) hs).squeeze S8x100000 squeezes_S1x8x100000_S8x100000 = blkOf a n :=
  congrArg (fun M : Memref sig .tc .hbm S1x8x100000 .f32 => M.squeeze S8x100000 squeezes_S1x8x100000_S8x100000) (Memref.slice_unit_congr _ e _ _ _ _)
theorem dblkOf_congr (a : Memref sig .tc .hbm S32x8x100000 .f32) {off : Fin 3 → Nat} {n : Fin 32} (e : off = dblkOff n) (hh hs) :
    (a.slice (Rect.unit (s := S32x8x100000) off S8x1x100000.size hh) hs).squeeze S8x100000 squeezes_S8x1x100000_S8x100000 = dblkOf a n :=
  congrArg (fun M : Memref sig .tc .hbm S8x1x100000 .f32 => M.squeeze S8x100000 squeezes_S8x1x100000_S8x100000) (Memref.slice_unit_congr _ e _ _ _ _)

/-! ## The kernel's offsets in closed form, decided over the grid -/

theorem off13_eq : ∀ i : grid0.Coords, k0_off13 i = semOff (Ring.sl 4 ((i 0).val + 3)) := by decide +kernel
theorem off14_eq : ∀ i : grid0.Coords, k0_off14 i = slotOff (Ring.sl 4 ((i 0).val + 3)) := by decide +kernel
theorem off15_eq : ∀ i : grid0.Coords, k0_cond5 i = 1#1 → k0_off15 i = blkOff (Ring.bk 36 ((i 0).val + 3)) := by decide +kernel
theorem off16_eq : ∀ i : grid0.Coords, k0_off16 i = semOff (Ring.sl 4 ((i 0).val + 3)) := by decide +kernel
theorem off17_eq : ∀ i : grid0.Coords, k0_off17 i = slotOff (Ring.sl 4 ((i 0).val + 3)) := by decide +kernel
theorem off18_eq : ∀ i : grid0.Coords, k0_cond6 i = 1#1 → k0_off18 i = dblkOff (Ring.bk 32 ((i 0).val + 3)) := by decide +kernel
theorem off19_eq : ∀ i : grid0.Coords, k0_off19 i = semOff (Ring.sl 4 (i 0).val) := by decide +kernel
theorem off20_eq : ∀ i : grid0.Coords, k0_off20 i = slotOff (Ring.sl 4 (i 0).val) := by decide +kernel
theorem off21_eq : ∀ i : grid0.Coords, k0_off21 i = semOff (Ring.sl 4 (i 0).val) := by decide +kernel
theorem off22_eq : ∀ i : grid0.Coords, k0_off22 i = slotOff (Ring.sl 4 (i 0).val) := by decide +kernel
theorem off24_eq : ∀ i : grid0.Coords, k0_off24 i = ![(Ring.sl 4 (i 0).val).val, 0, 0] := by decide +kernel
theorem off25_eq : ∀ i : grid0.Coords, k0_off25 i = ![(Ring.sl 4 (i 0).val).val, 0, 25600] := by decide +kernel
theorem off26_eq : ∀ i : grid0.Coords, k0_off26 i = ![(Ring.sl 4 (i 0).val).val, 0, 51200] := by decide +kernel
theorem off27_eq : ∀ i : grid0.Coords, k0_off27 i = ![(Ring.sl 4 (i 0).val).val, 0, 76800] := by decide +kernel
theorem off29_eq : ∀ i : grid0.Coords, k0_off29 i = ![(Ring.sl 4 (i 0).val).val, 0, 0] := by decide +kernel
theorem off30_eq : ∀ i : grid0.Coords, k0_off30 i = ![(Ring.sl 4 (i 0).val).val, 0, 25600] := by decide +kernel
theorem off31_eq : ∀ i : grid0.Coords, k0_off31 i = ![(Ring.sl 4 (i 0).val).val, 0, 51200] := by decide +kernel
theorem off32_eq : ∀ i : grid0.Coords, k0_off32 i = ![(Ring.sl 4 (i 0).val).val, 0, 76800] := by decide +kernel

instance (s : Fin 4) : ClosedOff (slotOff s) := ⟨slotOff s, rfl⟩
instance (n : Fin 36) : ClosedOff (blkOff n) := ⟨blkOff n, rfl⟩
instance (n : Fin 32) : ClosedOff (dblkOff n) := ⟨dblkOff n, rfl⟩
instance (i : grid0.Coords) : ClosedOff (k0_off24 i) := ⟨_, off24_eq i⟩
instance (i : grid0.Coords) : ClosedOff (k0_off25 i) := ⟨_, off25_eq i⟩
instance (i : grid0.Coords) : ClosedOff (k0_off26 i) := ⟨_, off26_eq i⟩
instance (i : grid0.Coords) : ClosedOff (k0_off27 i) := ⟨_, off27_eq i⟩
instance (i : grid0.Coords) : ClosedOff (k0_off29 i) := ⟨_, off29_eq i⟩
instance (i : grid0.Coords) : ClosedOff (k0_off30 i) := ⟨_, off30_eq i⟩
instance (i : grid0.Coords) : ClosedOff (k0_off31 i) := ⟨_, off31_eq i⟩
instance (i : grid0.Coords) : ClosedOff (k0_off32 i) := ⟨_, off32_eq i⟩

/-! ## Point 0's offsets -/

theorem off1_0 : k0_off1 0#32 = semOff (Ring.sl 4 0) := by decide
theorem off1_1 : k0_off1 1#32 = semOff (Ring.sl 4 1) := by decide
theorem off1_2 : k0_off1 2#32 = semOff (Ring.sl 4 2) := by decide
theorem off2_0 : k0_off2 0#32 = slotOff (Ring.sl 4 0) := by decide
theorem off2_1 : k0_off2 1#32 = slotOff (Ring.sl 4 1) := by decide
theorem off2_2 : k0_off2 2#32 = slotOff (Ring.sl 4 2) := by decide
theorem off3_0 : k0_off3 0#32 0#32 = blkOff (Ring.bk 36 0) := by decide
theorem off3_1 : k0_off3 1#32 1#32 = blkOff (Ring.bk 36 1) := by decide
theorem off3_2 : k0_off3 2#32 2#32 = blkOff (Ring.bk 36 2) := by decide

/-! ## The conditions -/

theorem cond1_iff : ∀ i : grid0.Coords, k0_cond1 i = 1#1 ↔ (i 0).val = 0 := by decide +kernel
theorem cond5_iff : ∀ i : grid0.Coords, k0_cond5 i = 1#1 ↔ (i 0).val + 3 < 36 := by decide +kernel
theorem cond6_iff : ∀ i : grid0.Coords, k0_cond6 i = 1#1 ↔ (i 0).val + 3 < 32 := by decide +kernel
theorem cond7_iff : ∀ i : grid0.Coords, k0_cond7 i = 1#1 ↔ (i 0).val < 32 := by decide +kernel
theorem cond8_iff : ∀ i : grid0.Coords, k0_cond8 i = 1#1 ↔ 32 ≤ (i 0).val := by decide +kernel
theorem cond2_eq : k0_cond2 = 1#1 := by decide
theorem cond3_eq : k0_cond3 = 1#1 := by decide
theorem cond4_eq : k0_cond4 = 1#1 := by decide

/-! ## The body's spellings are these names -/

section Canon
variable (a : DmaSems sig S4) (b : Memref sig .tc .vmem S4x8x100000 .f32) (x : Memref sig .tc .hbm S9x32x100000 .f32) (y : Memref sig .tc .hbm S32x8x100000 .f32)
  (i : grid0.Coords)

@[sl_canon] theorem semI (hh) : (a.slice (Rect.unit (s := S4) (k0_off13 i) S1.size hh)).squeeze S_ squeezes_S1_S_ = semOf a (Ring.sl 4 ((i 0).val + 3)) := semOf_congr a (off13_eq i) _
@[sl_canon] theorem slotI (hh hs) : (b.slice (Rect.unit (s := S4x8x100000) (k0_off14 i) S1x8x100000.size hh) hs).squeeze S8x100000 squeezes_S1x8x100000_S8x100000 = slotOf b (Ring.sl 4 ((i 0).val + 3)) := slotOf_congr b (off14_eq i) _ _
@[sl_canon] theorem blkI (h : k0_cond5 i = 1#1) (hh hs) : (x.slice (Rect.unit (s := S9x32x100000) (k0_off15 i) S1x8x100000.size hh) hs).squeeze S8x100000 squeezes_S1x8x100000_S8x100000 = blkOf x (Ring.bk 36 ((i 0).val + 3)) := blkOf_congr x (off15_eq i h) _ _
@[sl_canon] theorem dsemI (hh) : (a.slice (Rect.unit (s := S4) (k0_off16 i) S1.size hh)).squeeze S_ squeezes_S1_S_ = semOf a (Ring.sl 4 ((i 0).val + 3)) := semOf_congr a (off16_eq i) _
@[sl_canon] theorem dslotI (hh hs) : (b.slice (Rect.unit (s := S4x8x100000) (k0_off17 i) S1x8x100000.size hh) hs).squeeze S8x100000 squeezes_S1x8x100000_S8x100000 = slotOf b (Ring.sl 4 ((i 0).val + 3)) := slotOf_congr b (off17_eq i) _ _
@[sl_canon] theorem dblkI (h : k0_cond6 i = 1#1) (hh hs) : (y.slice (Rect.unit (s := S32x8x100000) (k0_off18 i) S8x1x100000.size hh) hs).squeeze S8x100000 squeezes_S8x1x100000_S8x100000 = dblkOf y (Ring.bk 32 ((i 0).val + 3)) := dblkOf_congr y (off18_eq i h) _ _
@[sl_canon] theorem semW (h : 0 < (i 0).val) (hh) : (a.slice (Rect.unit (s := S4) (k0_off19 i) S1.size hh)).squeeze S_ squeezes_S1_S_ = semOf a (Ring.sl 4 (i 0).val) := semOf_congr a (off19_eq i) _
@[sl_canon] theorem slotW (h : 0 < (i 0).val) (hh hs) : (b.slice (Rect.unit (s := S4x8x100000) (k0_off20 i) S1x8x100000.size hh) hs).squeeze S8x100000 squeezes_S1x8x100000_S8x100000 = slotOf b (Ring.sl 4 (i 0).val) := slotOf_congr b (off20_eq i) _ _
@[sl_canon] theorem dsemW (hh) : (a.slice (Rect.unit (s := S4) (k0_off21 i) S1.size hh)).squeeze S_ squeezes_S1_S_ = semOf a (Ring.sl 4 (i 0).val) := semOf_congr a (off21_eq i) _
@[sl_canon] theorem dslotW (hh hs) : (b.slice (Rect.unit (s := S4x8x100000) (k0_off22 i) S1x8x100000.size hh) hs).squeeze S8x100000 squeezes_S1x8x100000_S8x100000 = slotOf b (Ring.sl 4 (i 0).val) := slotOf_congr b (off22_eq i) _ _

/-- At point 0 the waits' names are slot 0's. -/
theorem sl_zero (h : (i 0).val = 0) : Ring.sl 4 (i 0).val = Ring.sl 4 0 := by rw [h]
@[sl_canon] theorem semW0 (h : (i 0).val = 0) (hh) : (a.slice (Rect.unit (s := S4) (k0_off19 i) S1.size hh)).squeeze S_ squeezes_S1_S_ = semOf a (Ring.sl 4 0) := semOf_congr a ((off19_eq i).trans (by rw [h])) _
@[sl_canon] theorem slotW0 (h : (i 0).val = 0) (hh hs) : (b.slice (Rect.unit (s := S4x8x100000) (k0_off20 i) S1x8x100000.size hh) hs).squeeze S8x100000 squeezes_S1x8x100000_S8x100000 = slotOf b (Ring.sl 4 0) := slotOf_congr b ((off20_eq i).trans (by rw [h])) _ _

@[sl_canon] theorem sem0 (hh) : (a.slice (Rect.unit (s := S4) (k0_off1 0#32) S1.size hh)).squeeze S_ squeezes_S1_S_ = semOf a (Ring.sl 4 0) := semOf_congr a off1_0 _
@[sl_canon] theorem sem1 (hh) : (a.slice (Rect.unit (s := S4) (k0_off1 1#32) S1.size hh)).squeeze S_ squeezes_S1_S_ = semOf a (Ring.sl 4 1) := semOf_congr a off1_1 _
@[sl_canon] theorem sem2 (hh) : (a.slice (Rect.unit (s := S4) (k0_off1 2#32) S1.size hh)).squeeze S_ squeezes_S1_S_ = semOf a (Ring.sl 4 2) := semOf_congr a off1_2 _
@[sl_canon] theorem slot0 (hh hs) : (b.slice (Rect.unit (s := S4x8x100000) (k0_off2 0#32) S1x8x100000.size hh) hs).squeeze S8x100000 squeezes_S1x8x100000_S8x100000 = slotOf b (Ring.sl 4 0) := slotOf_congr b off2_0 _ _
@[sl_canon] theorem slot1 (hh hs) : (b.slice (Rect.unit (s := S4x8x100000) (k0_off2 1#32) S1x8x100000.size hh) hs).squeeze S8x100000 squeezes_S1x8x100000_S8x100000 = slotOf b (Ring.sl 4 1) := slotOf_congr b off2_1 _ _
@[sl_canon] theorem slot2 (hh hs) : (b.slice (Rect.unit (s := S4x8x100000) (k0_off2 2#32) S1x8x100000.size hh) hs).squeeze S8x100000 squeezes_S1x8x100000_S8x100000 = slotOf b (Ring.sl 4 2) := slotOf_congr b off2_2 _ _
@[sl_canon] theorem blk0 (hh hs) : (x.slice (Rect.unit (s := S9x32x100000) (k0_off3 0#32 0#32) S1x8x100000.size hh) hs).squeeze S8x100000 squeezes_S1x8x100000_S8x100000 = blkOf x (Ring.bk 36 0) := blkOf_congr x off3_0 _ _
@[sl_canon] theorem blk1 (hh hs) : (x.slice (Rect.unit (s := S9x32x100000) (k0_off3 1#32 1#32) S1x8x100000.size hh) hs).squeeze S8x100000 squeezes_S1x8x100000_S8x100000 = blkOf x (Ring.bk 36 1) := blkOf_congr x off3_1 _ _
@[sl_canon] theorem blk2 (hh hs) : (x.slice (Rect.unit (s := S9x32x100000) (k0_off3 2#32 2#32) S1x8x100000.size hh) hs).squeeze S8x100000 squeezes_S1x8x100000_S8x100000 = blkOf x (Ring.bk 36 2) := blkOf_congr x off3_2 _ _
@[sl_canon] theorem dsem0 (hh) : (a.slice (Rect.unit (s := S4) k0_off4 S1.size hh)).squeeze S_ squeezes_S1_S_ = semOf a (Ring.sl 4 0) := semOf_congr a (by decide) _
@[sl_canon] theorem dsem1 (hh) : (a.slice (Rect.unit (s := S4) k0_off7 S1.size hh)).squeeze S_ squeezes_S1_S_ = semOf a (Ring.sl 4 1) := semOf_congr a (by decide) _
@[sl_canon] theorem dsem2 (hh) : (a.slice (Rect.unit (s := S4) k0_off10 S1.size hh)).squeeze S_ squeezes_S1_S_ = semOf a (Ring.sl 4 2) := semOf_congr a (by decide) _
@[sl_canon] theorem dslot0 (hh hs) : (b.slice (Rect.unit (s := S4x8x100000) k0_off5 S1x8x100000.size hh) hs).squeeze S8x100000 squeezes_S1x8x100000_S8x100000 = slotOf b (Ring.sl 4 0) := slotOf_congr b (by decide) _ _
@[sl_canon] theorem dslot1 (hh hs) : (b.slice (Rect.unit (s := S4x8x100000) k0_off8 S1x8x100000.size hh) hs).squeeze S8x100000 squeezes_S1x8x100000_S8x100000 = slotOf b (Ring.sl 4 1) := slotOf_congr b (by decide) _ _
@[sl_canon] theorem dslot2 (hh hs) : (b.slice (Rect.unit (s := S4x8x100000) k0_off11 S1x8x100000.size hh) hs).squeeze S8x100000 squeezes_S1x8x100000_S8x100000 = slotOf b (Ring.sl 4 2) := slotOf_congr b (by decide) _ _
@[sl_canon] theorem dblk0 (hh hs) : (y.slice (Rect.unit (s := S32x8x100000) k0_off6 S8x1x100000.size hh) hs).squeeze S8x100000 squeezes_S8x1x100000_S8x100000 = dblkOf y (Ring.bk 32 0) := dblkOf_congr y (by decide) _ _
@[sl_canon] theorem dblk1 (hh hs) : (y.slice (Rect.unit (s := S32x8x100000) k0_off9 S8x1x100000.size hh) hs).squeeze S8x100000 squeezes_S8x1x100000_S8x100000 = dblkOf y (Ring.bk 32 1) := dblkOf_congr y (by decide) _ _
@[sl_canon] theorem dblk2 (hh hs) : (y.slice (Rect.unit (s := S32x8x100000) k0_off12 S8x1x100000.size hh) hs).squeeze S8x100000 squeezes_S8x1x100000_S8x100000 = dblkOf y (Ring.bk 32 2) := dblkOf_congr y (by decide) _ _

end Canon

end Cert.Proof.Rings

end
-- ==== Proof.Values.lean ====
/-
  What the TensorCore kernel computes at a grid point, as functions of the words of the point's three blocks and of the
  point's row of ids: the rows it stores. Also: a load from a slot, after a copy landed there, reads the copied words.
-/
module

public import proofs.«01_k».proof.Proof.Names
public import Idealize.ShloMosaic.Lib.Pointwise.Tactic

@[expose] public section

set_option maxRecDepth 16384

noncomputable section

namespace Cert.Proof.Rings

open Cert.KernelIdeal Cert.KernelIdeal.Gen

open Idealize.ShloMosaic Idealize.ShloMosaic.TcCoe Idealize.ShloMosaic.Tactic

variable {F : FTy → Type}

/-- Lanes `o … o + N - 1` of a block's words, as a load's vector. -/
abbrev ld {N : ℕ} (o : ℕ) (h : o + N ≤ 100000) (w : S8x100000.Idx → Elt F .f32) : (⟨3, ![1, 8, N]⟩ : Shape).Idx → Elt F .f32 :=
  fun j => w (ix2 (j 1) ⟨o + (j 2).val, lt_of_lt_of_le (Nat.add_lt_add_left (j 2).isLt o) h⟩)

abbrev ld0 (w : S8x100000.Idx → Elt F .f32) : S1x8x25600.Idx → Elt F .f32 := ld 0 (by decide) w
abbrev ld1 (w : S8x100000.Idx → Elt F .f32) : S1x8x25600.Idx → Elt F .f32 := ld 25600 (by decide) w
abbrev ld2 (w : S8x100000.Idx → Elt F .f32) : S1x8x25600.Idx → Elt F .f32 := ld 51200 (by decide) w
abbrev ld3 (w : S8x100000.Idx → Elt F .f32) : S1x8x23200.Idx → Elt F .f32 := ld 76800 (by decide) w

theorem reshape_slot (x : S8x100000.Idx) :
    Shape.reshapeEquiv (s := S1x8x100000) (s' := S8x100000) squeezes_S1x8x100000_S8x100000.numel_eq x = ix3 (0 : Fin 1) (x 0) (x 1) := by
  refine (Shape.reshapeEquiv_cons_one (d := ![8, 100000]) _ x).trans ?_
  funext a; match a with | ⟨0, _⟩ => rfl | ⟨1, _⟩ => rfl | ⟨2, _⟩ => rfl

/-- A load from the slot a copy filled reads the copied words. -/
theorem readAt_slot (b : Memref sig .tc .vmem S4x8x100000 .f32) (s : Fin 4) (f : (slotOf b s).view.ty.Contents (Elt F)) (w : S8x100000.Idx → Elt F .f32)
    {off : Fin 3 → ℕ} (o N : ℕ) (h : o + N ≤ 100000) (e : off = ![s.val, 0, o]) (inb : ∀ a, off a + (⟨3, ![1, 8, N]⟩ : Shape).size a ≤ S4x8x100000.size a) :
    b.view.readAt (Elt F) (Rect.unit (s := S4x8x100000) off (⟨3, ![1, 8, N]⟩ : Shape).size inb).toLoadRect ((slotOf b s).view.writes (Elt F) f [⟨Rect.whole S8x100000, w⟩])
      = ld o h w := by
  subst e
  funext j
  have hr := View.read_writes_cons_emb (slotOf b s).view f (Rect.whole S8x100000) w []
    (ix2 (j 1) ⟨o + (j 2).val, lt_of_lt_of_le (Nat.add_lt_add_left (j 2).isLt o) h⟩)
  refine Eq.trans ?_ hr
  have he : b.view.emb ((Rect.unit (s := S4x8x100000) ![s.val, 0, o] (⟨3, ![1, 8, N]⟩ : Shape).size inb).emb j)
      = (slotOf b s).view.emb ((Rect.whole S8x100000).emb (ix2 (j 1) ⟨o + (j 2).val, lt_of_lt_of_le (Nat.add_lt_add_left (j 2).isLt o) h⟩)) := by
    show _ = b.view.emb ((Rect.unit (s := S4x8x100000) (slotOff s) S1x8x100000.size (slotOff_inb s)).emb
      (Shape.reshapeEquiv (s := S1x8x100000) (s' := S8x100000) squeezes_S1x8x100000_S8x100000.numel_eq _))
    rw [reshape_slot]
    refine congrArg b.view.emb ?_
    funext a
    apply Fin.ext
    match a with
    | ⟨0, _⟩ =>
      have h0 : (j 0).val < 1 := (j 0).isLt
      simp [Rect.emb, Rect.unit, Rect.whole]; omega
    | ⟨1, _⟩ => simp [Rect.emb, Rect.unit, Rect.whole]
    | ⟨2, _⟩ => simp [Rect.emb, Rect.unit, Rect.whole]
  exact congrArg (fun y => _root_.cast (congrArg (Elt F) b.view.elt_eq) (((slotOf b s).view.writes (Elt F) f [⟨Rect.whole S8x100000, w⟩]) y)) he

/-- An access at an offset written two ways. -/
theorem readAt_unit_congr {s : Shape} {e : EltTy} (v : View sig .tc .vmem s e) {off off' size : Fin s.rank → ℕ} (he : off = off')
    (inb : ∀ a, off a + size a ≤ s.size a) (inb' : ∀ a, off' a + size a ≤ s.size a) (f : v.ty.Contents (Elt F)) :
    v.readAt (Elt F) (Rect.unit off size inb).toLoadRect f = v.readAt (Elt F) (Rect.unit off' size inb').toLoadRect f := by
  subst he; rfl
theorem writes_unit_congr {s : Shape} {e : EltTy} (v : View sig .tc .vmem s e) {off off' size : Fin s.rank → ℕ} (he : off = off')
    (inb : ∀ a, off a + size a ≤ s.size a) (inb' : ∀ a, off' a + size a ≤ s.size a) (f : v.ty.Contents (Elt F)) (w : (⟨s.rank, size⟩ : Shape).Idx → Elt F e) :
    v.writes (Elt F) f [⟨Rect.unit off size inb, w⟩] = v.writes (Elt F) f [⟨Rect.unit off' size inb', w⟩] := by
  subst he; rfl

theorem row36_inb {n : ℕ} (h : n < 36) : ∀ a, (![n, 0, 0] : Fin 3 → ℕ) a + S1x8x1.size a ≤ S36x8x1.size a :=
  fun a => match a with | ⟨0, _⟩ => h | ⟨1, _⟩ => Nat.le_refl 8 | ⟨2, _⟩ => Nat.le_refl 1
theorem row32_inb {n : ℕ} (h : n < 32) : ∀ a, (![n, 0, 0] : Fin 3 → ℕ) a + S1x8x1.size a ≤ S32x8x1.size a :=
  fun a => match a with | ⟨0, _⟩ => h | ⟨1, _⟩ => Nat.le_refl 8 | ⟨2, _⟩ => Nat.le_refl 1
/-- Row `n` of an array of 36 rows. -/
abbrev row36 (n : ℕ) (h : n < 36) : Rect S36x8x1 := Rect.unit (s := S36x8x1) ![n, 0, 0] S1x8x1.size (row36_inb h)
/-- Row `n` of an array of 32 rows. -/
abbrev row32 (n : ℕ) (h : n < 32) : Rect S32x8x1 := Rect.unit (s := S32x8x1) ![n, 0, 0] S1x8x1.size (row32_inb h)

section Row
variable [FloatOps F]

/-- The row of recovered ids: the first lane with the largest score, of a point with drafts. -/
def recVal (wt wd wu : S8x100000.Idx → Elt F .f32) : IVec S1x8x1 32 :=
  have a0 := k0_pay10 (F := F) (ld0 wt) (ld0 wd) (ld0 wu)
  have a1 := k0_pay20 (F := F) (ld1 wt) (ld1 wd) (ld1 wu)
  have c := k0_pay25 (F := F) a0 (k0_pay11 (ld0 wt) (ld0 wd) (ld0 wu)) a1 (k0_pay21 (ld1 wt) (ld1 wd) (ld1 wu))
  have b := k0_pay26 (F := F) a0 a1
  have a2 := k0_pay33 (F := F) (ld2 wt) (ld2 wd) (ld2 wu)
  k0_pay1 (k0_pay38 c b a2 (k0_pay34 (ld2 wt) (ld2 wd) (ld2 wu))) (k0_pay39 b a2)
    (k0_pay46 (ld3 wt) (ld3 wd) (ld3 wu)) (k0_pay47 (ld3 wt) (ld3 wd) (ld3 wu))

/-- The row of draft probabilities at the point's ids. -/
def dtokVal (v42 : Vec F S1x8x1 .i32) (wd : S8x100000.Idx → Elt F .f32) : FVec F S1x8x1 .f32 :=
  have v43 := k0_pay5 (F := F) v42
  k0_pay2 (k0_pay40 (k0_pay27 (k0_pay14 (k0_pay7 (ld0 wd)) k0_pay8 (k0_pay12 v42)) (k0_pay23 v43 (ld1 wd))) (k0_pay30 (ld2 wd)) (k0_pay35 v43) (k0_pay36 (F := F)))
    (k0_pay43 (ld3 wd)) (k0_pay48 v43) (Scalar.ofBits .f32 0x00000000)

/-- The row of target probabilities at the point's ids. -/
def ttokVal (v42 : Vec F S1x8x1 .i32) (wt : S8x100000.Idx → Elt F .f32) : FVec F S1x8x1 .f32 :=
  have v43 := k0_pay5 (F := F) v42
  k0_pay3 (k0_pay41 (k0_pay28 (k0_pay15 (k0_pay6 (ld0 wt)) k0_pay8 (k0_pay12 v42)) (k0_pay16 (ld1 wt)) (k0_pay22 v43)) (k0_pay29 (ld2 wt)) (k0_pay35 v43))
    (k0_pay42 (ld3 wt)) (k0_pay48 v43)

/-- The row of bonus ids: the first lane with the largest score, of a point without drafts. -/
def bonVal (wt wu : S8x100000.Idx → Elt F .f32) : IVec S1x8x1 32 :=
  have a := k0_pay50 (F := F) (ld0 wt) (ld0 wu)
  have b := k0_pay54 (F := F) (ld1 wt) (ld1 wu)
  k0_pay4 (k0_pay61 a (k0_pay51 (ld0 wt) (ld0 wu)) k0_pay52 b (k0_pay55 (ld1 wt) (ld1 wu)) (ld2 wt) (ld2 wu)) (k0_pay62 a b (ld2 wt) (ld2 wu))
    (k0_pay63 (ld3 wt)) (k0_pay64 (ld3 wu)) k0_pay65 (Scalar.ofBits .f32 0x2EDBE6FF)

end Row

end Cert.Proof.Rings

end
-- ==== Proof.TcBody.lean ====
/-
  The TensorCore kernel's body at one grid point: the first part of it, which keeps the rings going. At point
  `t` it starts the copies of block `t + 3` and waits for those of block `t` (at point 0 it first starts
  blocks 0, 1 and 2).
-/
module

public import proofs.«01_k».proof.Proof.Values

@[expose] public section

set_option maxRecDepth 16384

noncomputable section

namespace Cert.Proof.Rings

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the handshakes' rounds, the pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev 𝒱₀ : Variants := Variants.none

/-! ## The pieces of the rings -/

section Pieces
variable (c : Dev nD)

abbrev BufT : Type := Buf (Elt F) (tArr.view.loc (c : Thread nD τ))
abbrev BufD : Type := Buf (Elt F) (dArr.view.loc (c : Thread nD τ))
abbrev BufU : Type := Buf (Elt F) (uArr.view.loc (c : Thread nD τ))

variable (XT : BufT (F := F) c) (XD : BufD (F := F) c) (XU : BufU (F := F) c)

abbrev cellP (a : DmaSems sig S4) (s : Fin 4) : sProp 𝕄 := semVal ((c : Thread nD τ), SemLoc.dma (semOf a s).sem) 0
abbrev slotP (b : Memref sig .tc .vmem S4x8x100000 .f32) (s : Fin 4) (f : Buf (Elt F) ((slotOf b s).view.loc (c : Thread nD τ))) : sProp 𝕄 :=
  (slotOf b s).view.loc (c : Thread nD τ) ↦[(slotOf b s).view.set]{fullShare} f
/-- A slot free: its semaphore at zero, its elements at anything. -/
abbrev freeP (a : DmaSems sig S4) (b : Memref sig .tc .vmem S4x8x100000 .f32) (s : Fin 4) : sProp 𝕄 :=
  iprop(cellP c a s ∗ ∃ f, slotP c b s f)

/-- Block `n` of an array at home: held on its elements at the array's contents. -/
abbrev homeP (x : Memref sig .tc .hbm S9x32x100000 .f32) (X : Buf (Elt F) (x.view.loc (c : Thread nD τ))) (n : Fin 36) : sProp 𝕄 :=
  (blkOf x n).view.loc (c : Thread nD τ) ↦[(blkOf x n).view.set]{fullShare} X
abbrev dhomeP (n : Fin 32) : sProp 𝕄 :=
  (dblkOf dArr n).view.loc (c : Thread nD τ) ↦[(dblkOf dArr n).view.set]{fullShare} XD

/-- The words of a block. -/
abbrev word (x : Memref sig .tc .hbm S9x32x100000 .f32) (X : Buf (Elt F) (x.view.loc (c : Thread nD τ))) (n : Fin 36) : S8x100000.Idx → Elt F .f32 :=
  ReadAs.same.apply ((blkOf x n).view.read (Elt F) X)
abbrev dword (n : Fin 32) : S8x100000.Idx → Elt F .f32 := ReadAs.same.apply ((dblkOf dArr n).view.read (Elt F) XD)

/-- A slot as a copy leaves it: written whole with the block's words. -/
abbrev landed (b : Memref sig .tc .vmem S4x8x100000 .f32) (s : Fin 4) (f : Buf (Elt F) ((slotOf b s).view.loc (c : Thread nD τ))) (w : S8x100000.Idx → Elt F .f32) :
    Buf (Elt F) ((slotOf b s).view.loc (c : Thread nD τ)) :=
  (slotOf b s).view.writes (Elt F) f [⟨Rect.whole S8x100000, w⟩]

abbrev flightP (a : DmaSems sig S4) (b : Memref sig .tc .vmem S4x8x100000 .f32) (x : Memref sig .tc .hbm S9x32x100000 .f32) (X : Buf (Elt F) (x.view.loc (c : Thread nD τ)))
    (s : Fin 4) (n : Fin 36) (f : Buf (Elt F) ((slotOf b s).view.loc (c : Thread nD τ))) : sProp 𝕄 :=
  Transfers.Flight (countersEmb (U := UU)) (c : Thread nD τ) (SemLoc.dma (semOf a s).sem) (default : HIx 1) 100096
    iprop(slotP c b s (landed c b s f (word c x X n)) ∗ homeP c x X n)
abbrev dflightP (s : Fin 4) (n : Fin 32) (f : Buf (Elt F) ((slotOf dBuf s).view.loc (c : Thread nD τ))) : sProp 𝕄 :=
  Transfers.Flight (countersEmb (U := UU)) (c : Thread nD τ) (SemLoc.dma (semOf cc0_scratch4 s).sem) (default : HIx 1) 100096
    iprop(slotP c dBuf s (landed c dBuf s f (dword c XD n)) ∗ dhomeP c XD n)

end Pieces

section Run
variable [FloatOps F] (c : Dev nD) (XT : BufT (F := F) c) (XD : BufD (F := F) c) (XU : BufU (F := F) c)
  (i : grid0.Coords)
  (arg4 : Memref sig .tc .vmem S36x8x1 .i32) (harg4 : arg4.IsWhole) (arg5 : Memref sig .tc .vmem S36x8x1 .i32) (harg5 : arg5.IsWhole)
  (arg6 : Memref sig .tc .vmem S32x8x1 .f32) (harg6 : arg6.IsWhole) (arg7 : Memref sig .tc .vmem S32x8x1 .f32) (harg7 : arg7.IsWhole)

abbrev part9 : Prog (TpuEff nD τ sig (Elt F) Λ₀ .tc) (Σ' (arg0 : BitVec 32), BitVec 32) :=
  k0_part9 (F := F) i tArr (Memref.isWhole_whole _) dArr (Memref.isWhole_whole _) uArr (Memref.isWhole_whole _) arg4 harg4 arg5 harg5 arg6 harg6 arg7 harg7
    tBuf (Memref.isWhole_whole _) dBuf (Memref.isWhole_whole _) uBuf (Memref.isWhole_whole _) cc0_scratch3 cc0_scratch4 cc0_scratch5

/-- The thread's debt after waits of the kernel's own: nothing recorded but its own index. -/
abbrev owed (O : CellTallies nD τ sig (HIx 1)) (W : Waits sig (HIx 1)) : sProp 𝕄 :=
  iprop(∃ W', ⌜∀ p ∈ W', p ∈ W ∨ p.2 = none⌝ ∗ owes (c : Thread nD τ) O W')

/-- What a wait hands back: the semaphore at zero, the slot holding the block, the block home. -/
abbrev gotP (a : DmaSems sig S4) (b : Memref sig .tc .vmem S4x8x100000 .f32) (x : Memref sig .tc .hbm S9x32x100000 .f32) (X : Buf (Elt F) (x.view.loc (c : Thread nD τ)))
    (s : Fin 4) (n : Fin 36) : sProp 𝕄 :=
  iprop(cellP c a s ∗ (∃ f, slotP c b s (landed c b s f (word c x X n))) ∗ homeP c x X n)
abbrev dgotP (s : Fin 4) (n : Fin 32) : sProp 𝕄 :=
  iprop(cellP c cc0_scratch4 s ∗ (∃ f, slotP c dBuf s (landed c dBuf s f (dword c XD n))) ∗ dhomeP c XD n)

abbrev tFl (n : ℕ) : sProp 𝕄 := iprop(∃ f, flightP c cc0_scratch3 tBuf tArr XT (Ring.sl 4 n) (Ring.bk 36 n) f)
abbrev uFl (n : ℕ) : sProp 𝕄 := iprop(∃ f, flightP c cc0_scratch5 uBuf uArr XU (Ring.sl 4 n) (Ring.bk 36 n) f)
abbrev dFl (n : ℕ) : sProp 𝕄 := iprop(∃ f, dflightP c XD (Ring.sl 4 n) (Ring.bk 32 n) f)
abbrev tGot (n : ℕ) : sProp 𝕄 := gotP c cc0_scratch3 tBuf tArr XT (Ring.sl 4 n) (Ring.bk 36 n)
abbrev uGot (n : ℕ) : sProp 𝕄 := gotP c cc0_scratch5 uBuf uArr XU (Ring.sl 4 n) (Ring.bk 36 n)
abbrev dGot (n : ℕ) : sProp 𝕄 := dgotP c XD (Ring.sl 4 n) (Ring.bk 32 n)
abbrev tFree (n : ℕ) : sProp 𝕄 := freeP c cc0_scratch3 tBuf (Ring.sl 4 n)
abbrev uFree (n : ℕ) : sProp 𝕄 := freeP c cc0_scratch5 uBuf (Ring.sl 4 n)
abbrev dFree (n : ℕ) : sProp 𝕄 := freeP c cc0_scratch4 dBuf (Ring.sl 4 n)
abbrev tHome (n : ℕ) : sProp 𝕄 := homeP c tArr XT (Ring.bk 36 n)
abbrev uHome (n : ℕ) : sProp 𝕄 := homeP c uArr XU (Ring.bk 36 n)
abbrev dHome (n : ℕ) : sProp 𝕄 := dhomeP c XD (Ring.bk 32 n)

omit [FloatOps F] in
/-- Two more waits of the kernel's own recorded. -/
theorem owed_two (O : CellTallies nD τ sig (HIx 1)) (W : Waits sig (HIx 1)) (g g' : SemLoc sig) :
    owes (c : Thread nD τ) O (insert (g, (default : HIx 1)) (insert (g', (default : HIx 1)) W)) ⊢ (owed c O W : sProp 𝕄) := by
  iintro H
  iexists (insert (g, (default : HIx 1)) (insert (g', (default : HIx 1)) W))
  isplitr
  · ipureintro
    intro p hp
    rcases Finset.mem_insert.1 hp with h | h
    · right; rw [h]; rfl
    rcases Finset.mem_insert.1 h with h | h
    · right; rw [h]; rfl
    · exact Or.inl h
  · iexact H

omit [FloatOps F] in
theorem owed_one (O : CellTallies nD τ sig (HIx 1)) (W W' : Waits sig (HIx 1)) (g : SemLoc sig) (h : ∀ p ∈ W', p ∈ W ∨ p.2 = none) :
    owes (c : Thread nD τ) O (insert (g, (default : HIx 1)) W') ⊢ (owed c O W : sProp 𝕄) := by
  iintro H
  iexists (insert (g, (default : HIx 1)) W')
  isplitr
  · ipureintro
    intro p hp
    rcases Finset.mem_insert.1 hp with h' | h'
    · right; rw [h']; rfl
    · exact h p h'
  · iexact H

/-- A point that starts all three copies of block `t + 3`. -/
theorem part9_mid (O : CellTallies nD τ sig (HIx 1)) (W : Waits sig (HIx 1)) (h0 : 0 < (i 0).val) (h29 : (i 0).val + 3 < 32) :
    iprop(□ Transfers.MayWaits (c : Thread nD τ) (default : HIx 1) O ∗ owes (c : Thread nD τ) O W
      ∗ tFl c XT (i 0).val ∗ uFl c XU (i 0).val
      ∗ tFree c ((i 0).val + 3) ∗ uFree c ((i 0).val + 3) ∗ dFree c ((i 0).val + 3)
      ∗ tHome c XT ((i 0).val + 3) ∗ uHome c XU ((i 0).val + 3) ∗ dHome c XD ((i 0).val + 3))
    ⊢ wp frame (wpE (defs₀ (F := F)) 𝒱₀ (c : Thread nD τ) none) Set.univ (part9 i arg4 harg4 arg5 harg5 arg6 harg6 arg7 harg7)
        fun _ => iprop(owed c O W ∗ tGot c XT (i 0).val ∗ uGot c XU (i 0).val ∗ tFl c XT ((i 0).val + 3) ∗ uFl c XU ((i 0).val + 3) ∗ dFl c XD ((i 0).val + 3)) := by
  have h1 : ¬ k0_cond1 i = 1#1 := fun h => by have := (cond1_iff i).1 h; omega
  have h5 : k0_cond5 i = 1#1 := (cond5_iff i).2 (by omega)
  have h6 : k0_cond6 i = 1#1 := (cond6_iff i).2 h29
  dsimp only [part9]
  simp only [k0_part9_eq_skeleton]; unfold k0_part9_skel
  iintro ⟨#Hmw, HO, ⟨%ft, HFt⟩, ⟨%fu, HFu⟩, ⟨Hct, ⟨%f1, Hst⟩⟩, ⟨Hcu, ⟨%f2, Hsu⟩⟩, ⟨Hcd, ⟨%f3, Hsd⟩⟩, Hht, Hhu, Hhd⟩
  sl_exec
  sl_step
  isplitl [HO]; · iapply (owed_two c O W _ _) $$ HO
  sl_close

/-- A point that starts the copies of block `t + 3` of two of the rings. -/
theorem part9_late (O : CellTallies nD τ sig (HIx 1)) (W : Waits sig (HIx 1)) (h29 : 29 ≤ (i 0).val) (h32 : (i 0).val + 3 < 36) :
    iprop(□ Transfers.MayWaits (c : Thread nD τ) (default : HIx 1) O ∗ owes (c : Thread nD τ) O W
      ∗ tFl c XT (i 0).val ∗ uFl c XU (i 0).val
      ∗ tFree c ((i 0).val + 3) ∗ uFree c ((i 0).val + 3)
      ∗ tHome c XT ((i 0).val + 3) ∗ uHome c XU ((i 0).val + 3))
    ⊢ wp frame (wpE (defs₀ (F := F)) 𝒱₀ (c : Thread nD τ) none) Set.univ (part9 i arg4 harg4 arg5 harg5 arg6 harg6 arg7 harg7)
        fun _ => iprop(owed c O W ∗ tGot c XT (i 0).val ∗ uGot c XU (i 0).val ∗ tFl c XT ((i 0).val + 3) ∗ uFl c XU ((i 0).val + 3)) := by
  have h0 : 0 < (i 0).val := by omega
  have h1 : ¬ k0_cond1 i = 1#1 := fun h => by have := (cond1_iff i).1 h; omega
  have h5 : k0_cond5 i = 1#1 := (cond5_iff i).2 (by omega)
  have h6 : ¬ k0_cond6 i = 1#1 := fun h => by have := (cond6_iff i).1 h; omega
  dsimp only [part9]
  simp only [k0_part9_eq_skeleton]; unfold k0_part9_skel
  iintro ⟨#Hmw, HO, ⟨%ft, HFt⟩, ⟨%fu, HFu⟩, ⟨Hct, ⟨%f1, Hst⟩⟩, ⟨Hcu, ⟨%f2, Hsu⟩⟩, Hht, Hhu⟩
  sl_exec
  sl_step
  isplitl [HO]; · iapply (owed_two c O W _ _) $$ HO
  sl_close

/-- A point that starts no copy. -/
theorem part9_tail (O : CellTallies nD τ sig (HIx 1)) (W : Waits sig (HIx 1)) (h33 : 36 ≤ (i 0).val + 3) :
    iprop(□ Transfers.MayWaits (c : Thread nD τ) (default : HIx 1) O ∗ owes (c : Thread nD τ) O W
      ∗ tFl c XT (i 0).val ∗ uFl c XU (i 0).val)
    ⊢ wp frame (wpE (defs₀ (F := F)) 𝒱₀ (c : Thread nD τ) none) Set.univ (part9 i arg4 harg4 arg5 harg5 arg6 harg6 arg7 harg7)
        fun _ => iprop(owed c O W ∗ tGot c XT (i 0).val ∗ uGot c XU (i 0).val) := by
  have h0 : 0 < (i 0).val := by omega
  have h1 : ¬ k0_cond1 i = 1#1 := fun h => by have := (cond1_iff i).1 h; omega
  have h5 : ¬ k0_cond5 i = 1#1 := fun h => by have := (cond5_iff i).1 h; omega
  dsimp only [part9]
  simp only [k0_part9_eq_skeleton]; unfold k0_part9_skel
  iintro ⟨#Hmw, HO, ⟨%ft, HFt⟩, ⟨%fu, HFu⟩⟩
  sl_exec
  sl_step
  isplitl [HO]; · iapply (owed_two c O W _ _) $$ HO
  sl_close

/-- Point 0: blocks 0, 1, 2 and 3 are started, block 0 waited for. -/
theorem part9_first (O : CellTallies nD τ sig (HIx 1)) (W : Waits sig (HIx 1)) (h0 : (i 0).val = 0) :
    iprop(□ Transfers.MayWaits (c : Thread nD τ) (default : HIx 1) O ∗ owes (c : Thread nD τ) O W
      ∗ tFree c 0 ∗ tFree c 1 ∗ tFree c 2 ∗ tFree c ((i 0).val + 3) ∗ tHome c XT 0 ∗ tHome c XT 1 ∗ tHome c XT 2 ∗ tHome c XT ((i 0).val + 3)
      ∗ uFree c 0 ∗ uFree c 1 ∗ uFree c 2 ∗ uFree c ((i 0).val + 3) ∗ uHome c XU 0 ∗ uHome c XU 1 ∗ uHome c XU 2 ∗ uHome c XU ((i 0).val + 3)
      ∗ dFree c 0 ∗ dFree c 1 ∗ dFree c 2 ∗ dFree c ((i 0).val + 3) ∗ dHome c XD 0 ∗ dHome c XD 1 ∗ dHome c XD 2 ∗ dHome c XD ((i 0).val + 3))
    ⊢ wp frame (wpE (defs₀ (F := F)) 𝒱₀ (c : Thread nD τ) none) Set.univ (part9 i arg4 harg4 arg5 harg5 arg6 harg6 arg7 harg7)
        fun _ => iprop(owed c O W ∗ tGot c XT 0 ∗ tFl c XT 1 ∗ tFl c XT 2 ∗ tFl c XT ((i 0).val + 3)
          ∗ uGot c XU 0 ∗ uFl c XU 1 ∗ uFl c XU 2 ∗ uFl c XU ((i 0).val + 3)
          ∗ dFl c XD 0 ∗ dFl c XD 1 ∗ dFl c XD 2 ∗ dFl c XD ((i 0).val + 3)) := by
  have h1 : k0_cond1 i = 1#1 := (cond1_iff i).2 h0
  have h2 : k0_cond2 = 1#1 := cond2_eq
  have h3 : k0_cond3 = 1#1 := cond3_eq
  have h4 : k0_cond4 = 1#1 := cond4_eq
  have h5 : k0_cond5 i = 1#1 := (cond5_iff i).2 (by omega)
  have h6 : k0_cond6 i = 1#1 := (cond6_iff i).2 (by omega)
  dsimp only [part9]
  simp only [k0_part9_eq_skeleton]; unfold k0_part9_skel
  iintro ⟨#Hmw, HO, ⟨Hct0, ⟨%ft0, Hst0⟩⟩, ⟨Hct1, ⟨%ft1, Hst1⟩⟩, ⟨Hct2, ⟨%ft2, Hst2⟩⟩, ⟨Hct3, ⟨%ft3, Hst3⟩⟩, Hht0, Hht1, Hht2, Hht3, ⟨Hcu0, ⟨%fu0, Hsu0⟩⟩, ⟨Hcu1, ⟨%fu1, Hsu1⟩⟩, ⟨Hcu2, ⟨%fu2, Hsu2⟩⟩, ⟨Hcu3, ⟨%fu3, Hsu3⟩⟩, Hhu0, Hhu1, Hhu2, Hhu3, ⟨Hcd0, ⟨%fd0, Hsd0⟩⟩, ⟨Hcd1, ⟨%fd1, Hsd1⟩⟩, ⟨Hcd2, ⟨%fd2, Hsd2⟩⟩, ⟨Hcd3, ⟨%fd3, Hsd3⟩⟩, Hhd0, Hhd1, Hhd2, Hhd3⟩
  sl_exec
  sl_step
  isplitl [HO]; · iapply (owed_two c O W _ _) $$ HO
  sl_close

end Run

section Rest
variable [FloatOps F] (c : Dev nD) (XT : BufT (F := F) c) (XD : BufD (F := F) c) (XU : BufU (F := F) c)
  (i : grid0.Coords)
  (arg4 : Memref sig .tc .vmem S36x8x1 .i32) (harg4 : arg4.IsWhole) (arg5 : Memref sig .tc .vmem S36x8x1 .i32) (harg5 : arg5.IsWhole)
  (arg6 : Memref sig .tc .vmem S32x8x1 .f32) (harg6 : arg6.IsWhole) (arg7 : Memref sig .tc .vmem S32x8x1 .f32) (harg7 : arg7.IsWhole)

abbrev body : Prog (TpuEff nD τ sig (Elt F) Λ₀ .tc) PUnit :=
  cc0__main_body (F := F) i tArr (Memref.isWhole_whole _) dArr (Memref.isWhole_whole _) uArr (Memref.isWhole_whole _) arg4 harg4 arg5 harg5 arg6 harg6 arg7 harg7
    tBuf (Memref.isWhole_whole _) dBuf (Memref.isWhole_whole _) uBuf (Memref.isWhole_whole _) cc0_scratch3 cc0_scratch4 cc0_scratch5

abbrev outP {s : Shape} {e : EltTy} (a : Memref sig .tc .vmem s e) (f : Buf (Elt F) (a.view.loc (c : Thread nD τ))) : sProp 𝕄 :=
  a.view.loc (c : Thread nD τ) ↦[a.view.set]{fullShare} f

/-- The row of ids the point reads. -/
abbrev idRow (f4 : Buf (Elt F) (arg4.view.loc (c : Thread nD τ))) : S1x8x1.Idx → Elt F .i32 :=
  arg4.view.readAt (Elt F) (row36 (i 0).val (i 0).isLt).toLoadRect f4

/-- A point with drafts: after the first part has run, the rows it stores. -/
theorem body_lt (O : CellTallies nD τ sig (HIx 1)) (W : Waits sig (HIx 1)) (h32 : (i 0).val < 32) (Pre Fr : sProp 𝕄)
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (hp9 : Pre ⊢ wp frame (wpE (defs₀ (F := F)) 𝒱₀ (c : Thread nD τ) none) Set.univ (part9 i arg4 harg4 arg5 harg5 arg6 harg6 arg7 harg7)
        fun _ => iprop(owed c O W ∗ tGot c XT (i 0).val ∗ uGot c XU (i 0).val ∗ dFl c XD (i 0).val ∗ Fr)) :
    iprop(□ Transfers.MayWaits (c : Thread nD τ) (default : HIx 1) O ∗ Pre ∗ outP c arg4 f4 ∗ outP c arg5 f5 ∗ outP c arg6 f6 ∗ outP c arg7 f7)
    ⊢ wp frame (wpE (defs₀ (F := F)) 𝒱₀ (c : Thread nD τ) none) Set.univ (body i arg4 harg4 arg5 harg5 arg6 harg6 arg7 harg7)
        fun _ => iprop(owed c O W ∗ Fr ∗ outP c arg4 f4
          ∗ outP c arg5 (arg5.view.writes (Elt F) f5 [⟨row36 (i 0).val (i 0).isLt,
              recVal (F := F) (word c tArr XT (Ring.bk 36 (i 0).val)) (dword c XD (Ring.bk 32 (i 0).val)) (word c uArr XU (Ring.bk 36 (i 0).val))⟩])
          ∗ outP c arg6 (arg6.view.writes (Elt F) f6 [⟨row32 (i 0).val h32,
              dtokVal (idRow c i arg4 f4) (dword c XD (Ring.bk 32 (i 0).val))⟩])
          ∗ outP c arg7 (arg7.view.writes (Elt F) f7 [⟨row32 (i 0).val h32,
              ttokVal (idRow c i arg4 f4) (word c tArr XT (Ring.bk 36 (i 0).val))⟩])
          ∗ tFree c (i 0).val ∗ tHome c XT (i 0).val ∗ uFree c (i 0).val ∗ uHome c XU (i 0).val ∗ dFree c (i 0).val ∗ dHome c XD (i 0).val) := by
  have h7 : k0_cond7 i = 1#1 := (cond7_iff i).2 h32
  have h8 : ¬ k0_cond8 i = 1#1 := fun h => by have := (cond8_iff i).1 h; omega
  dsimp only [body]
  simp only [cc0__main_body_eq_skeleton]; unfold cc0__main_body_skel
  rw [wp_bind]
  iintro ⟨#Hmw, HP, H4, H5, H6, H7⟩
  iapply (wp_wand_r Idealize.ShloMosaic.frame (wpE (defs₀ (F := F)) 𝒱₀ (c : Thread nD τ) none))
  isplitl [HP]
  · iapply hp9; iexact HP
  iintro %r ⟨⟨%W', %hW', HO⟩, ⟨Hct, ⟨%ft, Hst⟩, Hht⟩, ⟨Hcu, ⟨%fu, Hsu⟩, Hhu⟩, ⟨%fd, HFd⟩, HFr⟩
  obtain ⟨r0, r1⟩ := r
  sl_exec
  sl_step
  have t0 := readAt_slot (F := F) tBuf (Ring.sl 4 (i 0).val) (slotOf tBuf (Ring.sl 4 (i 0).val)).view.junk (word c tArr XT (Ring.bk 36 (i 0).val)) 0 25600 (by decide) (off24_eq i) (k0_off24_inb i h7)
  have t1 := readAt_slot (F := F) tBuf (Ring.sl 4 (i 0).val) (slotOf tBuf (Ring.sl 4 (i 0).val)).view.junk (word c tArr XT (Ring.bk 36 (i 0).val)) 25600 25600 (by decide) (off25_eq i) (k0_off25_inb i h7)
  have t2 := readAt_slot (F := F) tBuf (Ring.sl 4 (i 0).val) (slotOf tBuf (Ring.sl 4 (i 0).val)).view.junk (word c tArr XT (Ring.bk 36 (i 0).val)) 51200 25600 (by decide) (off26_eq i) (k0_off26_inb i h7)
  have t3 := readAt_slot (F := F) tBuf (Ring.sl 4 (i 0).val) (slotOf tBuf (Ring.sl 4 (i 0).val)).view.junk (word c tArr XT (Ring.bk 36 (i 0).val)) 76800 23200 (by decide) (off27_eq i) (k0_off27_inb i h7)
  have d0 := readAt_slot (F := F) dBuf (Ring.sl 4 (i 0).val) (slotOf dBuf (Ring.sl 4 (i 0).val)).view.junk (dword c XD (Ring.bk 32 (i 0).val)) 0 25600 (by decide) (off24_eq i) (k0_off24_inb i h7)
  have d1 := readAt_slot (F := F) dBuf (Ring.sl 4 (i 0).val) (slotOf dBuf (Ring.sl 4 (i 0).val)).view.junk (dword c XD (Ring.bk 32 (i 0).val)) 25600 25600 (by decide) (off25_eq i) (k0_off25_inb i h7)
  have d2 := readAt_slot (F := F) dBuf (Ring.sl 4 (i 0).val) (slotOf dBuf (Ring.sl 4 (i 0).val)).view.junk (dword c XD (Ring.bk 32 (i 0).val)) 51200 25600 (by decide) (off26_eq i) (k0_off26_inb i h7)
  have d3 := readAt_slot (F := F) dBuf (Ring.sl 4 (i 0).val) (slotOf dBuf (Ring.sl 4 (i 0).val)).view.junk (dword c XD (Ring.bk 32 (i 0).val)) 76800 23200 (by decide) (off27_eq i) (k0_off27_inb i h7)
  have u0 := readAt_slot (F := F) uBuf (Ring.sl 4 (i 0).val) (slotOf uBuf (Ring.sl 4 (i 0).val)).view.junk (word c uArr XU (Ring.bk 36 (i 0).val)) 0 25600 (by decide) (off24_eq i) (k0_off24_inb i h7)
  have u1 := readAt_slot (F := F) uBuf (Ring.sl 4 (i 0).val) (slotOf uBuf (Ring.sl 4 (i 0).val)).view.junk (word c uArr XU (Ring.bk 36 (i 0).val)) 25600 25600 (by decide) (off25_eq i) (k0_off25_inb i h7)
  have u2 := readAt_slot (F := F) uBuf (Ring.sl 4 (i 0).val) (slotOf uBuf (Ring.sl 4 (i 0).val)).view.junk (word c uArr XU (Ring.bk 36 (i 0).val)) 51200 25600 (by decide) (off26_eq i) (k0_off26_inb i h7)
  have u3 := readAt_slot (F := F) uBuf (Ring.sl 4 (i 0).val) (slotOf uBuf (Ring.sl 4 (i 0).val)).view.junk (word c uArr XU (Ring.bk 36 (i 0).val)) 76800 23200 (by decide) (off27_eq i) (k0_off27_inb i h7)
  have e4 : arg4.view.readAt (Elt F) (Rect.unit (s := S36x8x1) (k0_off23 i) S1x8x1.size (k0_off23_inb i h7)).toLoadRect f4 = idRow c i arg4 f4 := by
    exact readAt_unit_congr _ (Gen.k0_off23_eq i) _ _ _
  have e5 : k0_pay1 (F := F) (body_lt.sl.r_22 c XT XD XU i h7) (body_lt.sl.r_23 c XT XD XU i h7) (body_lt.sl.r_28 c XT XD XU i h7) (body_lt.sl.r_29 c XT XD XU i h7)
      = recVal (F := F) (word c tArr XT (Ring.bk 36 (i 0).val)) (dword c XD (Ring.bk 32 (i 0).val)) (word c uArr XU (Ring.bk 36 (i 0).val)) := by
    dsimp only [recVal, ld0, ld1, ld2, ld3]
    rw [← t0, ← t1, ← t2, ← t3, ← d0, ← d1, ← d2, ← d3, ← u0, ← u1, ← u2, ← u3]
    rfl
  have e6 : k0_pay2 (F := F) (body_lt.sl.r_24 c XD i arg4 f4 h7) (body_lt.sl.r_27 c XD i h7) (body_lt.sl.r_30 c i arg4 f4 h7) body_lt.sl.cst_81
      = dtokVal (idRow c i arg4 f4) (dword c XD (Ring.bk 32 (i 0).val)) := by
    dsimp only [dtokVal, ld0, ld1, ld2, ld3]
    rw [← d0, ← d1, ← d2, ← d3, ← e4]
    rfl
  have e7 : k0_pay3 (F := F) (body_lt.sl.r_25 c XT i arg4 f4 h7) (body_lt.sl.r_26 c XT i h7) (body_lt.sl.r_30 c i arg4 f4 h7)
      = ttokVal (idRow c i arg4 f4) (word c tArr XT (Ring.bk 36 (i 0).val)) := by
    dsimp only [ttokVal, ld0, ld1, ld2, ld3]
    rw [← t0, ← t1, ← t2, ← t3, ← e4]
    rfl
  rw [e5, e6, e7, writes_unit_congr arg5.view (Gen.k0_off23_eq i) _ (row36_inb (i 0).isLt), writes_unit_congr arg6.view (Gen.k0_off28_eq i) _ (row32_inb h32),
    writes_unit_congr arg7.view (Gen.k0_off28_eq i) _ (row32_inb h32)]
  isplitl [HO]; · iapply (owed_one c O W W' _ hW') $$ HO
  sl_close

/-- A point without drafts: after the first part has run, the row it stores. -/
theorem body_ge (O : CellTallies nD τ sig (HIx 1)) (W : Waits sig (HIx 1)) (h32 : 32 ≤ (i 0).val) (Pre Fr : sProp 𝕄)
    (f5 : Buf (Elt F) (arg5.view.loc (c : Thread nD τ)))
    (hp9 : Pre ⊢ wp frame (wpE (defs₀ (F := F)) 𝒱₀ (c : Thread nD τ) none) Set.univ (part9 i arg4 harg4 arg5 harg5 arg6 harg6 arg7 harg7)
        fun _ => iprop(owed c O W ∗ tGot c XT (i 0).val ∗ uGot c XU (i 0).val ∗ Fr)) :
    iprop(□ Transfers.MayWaits (c : Thread nD τ) (default : HIx 1) O ∗ Pre ∗ outP c arg5 f5)
    ⊢ wp frame (wpE (defs₀ (F := F)) 𝒱₀ (c : Thread nD τ) none) Set.univ (body i arg4 harg4 arg5 harg5 arg6 harg6 arg7 harg7)
        fun _ => iprop(owed c O W ∗ Fr
          ∗ outP c arg5 (arg5.view.writes (Elt F) f5 [⟨row36 (i 0).val (i 0).isLt,
              bonVal (F := F) (word c tArr XT (Ring.bk 36 (i 0).val)) (word c uArr XU (Ring.bk 36 (i 0).val))⟩])
          ∗ tFree c (i 0).val ∗ tHome c XT (i 0).val ∗ uFree c (i 0).val ∗ uHome c XU (i 0).val) := by
  have h7 : ¬ k0_cond7 i = 1#1 := fun h => by have := (cond7_iff i).1 h; omega
  have h8 : k0_cond8 i = 1#1 := (cond8_iff i).2 h32
  dsimp only [body]
  simp only [cc0__main_body_eq_skeleton]; unfold cc0__main_body_skel
  rw [wp_bind]
  iintro ⟨#Hmw, HP, H5⟩
  iapply (wp_wand_r Idealize.ShloMosaic.frame (wpE (defs₀ (F := F)) 𝒱₀ (c : Thread nD τ) none))
  isplitl [HP]
  · iapply hp9; iexact HP
  iintro %r ⟨⟨%W', %hW', HO⟩, ⟨Hct, ⟨%ft, Hst⟩, Hht⟩, ⟨Hcu, ⟨%fu, Hsu⟩, Hhu⟩, HFr⟩
  obtain ⟨r0, r1⟩ := r
  sl_exec
  sl_step
  have t0 := readAt_slot (F := F) tBuf (Ring.sl 4 (i 0).val) (slotOf tBuf (Ring.sl 4 (i 0).val)).view.junk (word c tArr XT (Ring.bk 36 (i 0).val)) 0 25600 (by decide) (off29_eq i) (k0_off29_inb i h8)
  have t1 := readAt_slot (F := F) tBuf (Ring.sl 4 (i 0).val) (slotOf tBuf (Ring.sl 4 (i 0).val)).view.junk (word c tArr XT (Ring.bk 36 (i 0).val)) 25600 25600 (by decide) (off30_eq i) (k0_off30_inb i h8)
  have t2 := readAt_slot (F := F) tBuf (Ring.sl 4 (i 0).val) (slotOf tBuf (Ring.sl 4 (i 0).val)).view.junk (word c tArr XT (Ring.bk 36 (i 0).val)) 51200 25600 (by decide) (off31_eq i) (k0_off31_inb i h8)
  have t3 := readAt_slot (F := F) tBuf (Ring.sl 4 (i 0).val) (slotOf tBuf (Ring.sl 4 (i 0).val)).view.junk (word c tArr XT (Ring.bk 36 (i 0).val)) 76800 23200 (by decide) (off32_eq i) (k0_off32_inb i h8)
  have u0 := readAt_slot (F := F) uBuf (Ring.sl 4 (i 0).val) (slotOf uBuf (Ring.sl 4 (i 0).val)).view.junk (word c uArr XU (Ring.bk 36 (i 0).val)) 0 25600 (by decide) (off29_eq i) (k0_off29_inb i h8)
  have u1 := readAt_slot (F := F) uBuf (Ring.sl 4 (i 0).val) (slotOf uBuf (Ring.sl 4 (i 0).val)).view.junk (word c uArr XU (Ring.bk 36 (i 0).val)) 25600 25600 (by decide) (off30_eq i) (k0_off30_inb i h8)
  have u2 := readAt_slot (F := F) uBuf (Ring.sl 4 (i 0).val) (slotOf uBuf (Ring.sl 4 (i 0).val)).view.junk (word c uArr XU (Ring.bk 36 (i 0).val)) 51200 25600 (by decide) (off31_eq i) (k0_off31_inb i h8)
  have u3 := readAt_slot (F := F) uBuf (Ring.sl 4 (i 0).val) (slotOf uBuf (Ring.sl 4 (i 0).val)).view.junk (word c uArr XU (Ring.bk 36 (i 0).val)) 76800 23200 (by decide) (off32_eq i) (k0_off32_inb i h8)
  have e5 : k0_pay4 (F := F) (body_ge.sl.r_4 c XT XU i h8) (body_ge.sl.r_5 c XT XU i h8) (body_ge.sl.r_6 c XT i h8) (body_ge.sl.r_7 c XU i h8) k0_pay65 body_ge.sl.cst_45
      = bonVal (F := F) (word c tArr XT (Ring.bk 36 (i 0).val)) (word c uArr XU (Ring.bk 36 (i 0).val)) := by
    dsimp only [bonVal, ld0, ld1, ld2, ld3]
    rw [← t0, ← t1, ← t2, ← t3, ← u0, ← u1, ← u2, ← u3]
    rfl
  rw [e5, writes_unit_congr arg5.view (Gen.k0_off33_eq i) _ (row36_inb (i 0).isLt)]
  isplitl [HO]
  · iexists W'; isplitr; · ipureintro; exact hW'
    iexact HO
  sl_close

end Rest

end Cert.Proof.Rings

end
-- ==== Proof.RingState.lean ====
/-
  The state of a ring of four slots that runs three blocks ahead, over `NB` blocks: which blocks are home, which copies are
  in flight, which slots are free, before each point; and the steps between the points' states.
-/
module

public import proofs.«01_k».proof.Proof.TcBody

@[expose] public section

set_option maxRecDepth 16384

noncomputable section

namespace Cert.Proof.Rings

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section RingState
variable {NB : ℕ} [NeZero NB] (home : Fin NB → sProp (MT nD τ sig (HIx 1) (Elt F) ℕ UU ℕ)) (Fl Fr : ℕ → sProp (MT nD τ sig (HIx 1) (Elt F) ℕ UU ℕ))

/-- Copy `n` in flight if there is a block `n`, else its slot free. -/
def flOr (NB : ℕ) (Fl Fr : ℕ → sProp (MT nD τ sig (HIx 1) (Elt F) ℕ UU ℕ)) (n : ℕ) : sProp 𝕄 := if n < NB then Fl n else Fr n

theorem flOr_lt {n : ℕ} (h : n < NB) : flOr NB Fl Fr n = Fl n := if_pos h
theorem flOr_ge {n : ℕ} (h : NB ≤ n) : flOr NB Fl Fr n = Fr n := if_neg (by omega)

/-- Before point `p ≥ 1`: blocks `p, p+1, p+2` out, their copies in flight. -/
def ringAt (p : ℕ) : sProp 𝕄 :=
  iprop(bigSep (Ring.homeSet 3 p) home ∗ flOr NB Fl Fr p ∗ flOr NB Fl Fr (p + 1) ∗ flOr NB Fl Fr (p + 2) ∗ Fr (p + 3))
/-- Before point 0: every block home, every slot free. -/
def ringZero : sProp 𝕄 := iprop(bigSep Finset.univ home ∗ Fr 0 ∗ Fr 1 ∗ Fr 2 ∗ Fr 3)
/-- The ring before point `p`. -/
def ring (p : ℕ) : sProp 𝕄 := if p = 0 then ringZero home Fr else ringAt home Fl Fr p

theorem ring_zero : ring home Fl Fr 0 = ringZero home Fr := if_pos rfl
theorem ring_pos {p : ℕ} (h : 0 < p) : ring home Fl Fr p = ringAt home Fl Fr p := if_neg (by omega)

/-- What a point that starts a copy leaves alone. -/
def issueRest (p : ℕ) : sProp 𝕄 := iprop(bigSep ((Ring.homeSet 3 p).erase (Ring.bk NB (p + 3))) home ∗ Fl (p + 1) ∗ Fl (p + 2))

theorem ring_issue_open (p : ℕ) (h0 : 0 < p) (h : p + 3 < NB) :
    ring home Fl Fr p ⊢ iprop(Fl p ∗ Fr (p + 3) ∗ home (Ring.bk NB (p + 3)) ∗ issueRest home Fl p) := by
  rw [ring_pos home Fl Fr h0]
  unfold ringAt issueRest
  rw [flOr_lt _ _ (by omega), flOr_lt _ _ (by omega), flOr_lt _ _ (by omega), Ring.homeSet_out 3 p h,
    SparseCore.bigSep_insert' (Ring.bkL_not_mem_erase 3 p), Finset.erase_insert (Ring.bkL_not_mem_erase 3 p)]
  iintro ⟨⟨Hh, HR⟩, H0, H1, H2, H3⟩
  sl_close

theorem ring_issue_close (hFr : ∀ n, Fr (n + 4) = Fr n) (p : ℕ) (h : p + 3 < NB) :
    iprop(issueRest home Fl p ∗ Fl (p + 3) ∗ Fr p ∗ home (Ring.bk NB p)) ⊢ ring home Fl Fr (p + 1) := by
  rw [ring_pos home Fl Fr (Nat.succ_pos p)]
  unfold ringAt issueRest
  rw [flOr_lt _ _ (by omega), flOr_lt _ _ (by omega), flOr_lt _ _ (by omega), Ring.homeSet_succ 3 p h,
    SparseCore.bigSep_insert' (Ring.bk_not_mem_erase 3 p (by omega) (by omega)), show p + 1 + 3 = p + 4 from rfl, hFr p,
    show p + 1 + 1 = p + 2 from rfl, show p + 1 + 2 = p + 3 from rfl]
  iintro ⟨⟨HR, H1, H2⟩, H3, H0, Hh⟩
  sl_close

/-- What a point that starts no copy leaves alone. -/
def tailRest (p : ℕ) : sProp 𝕄 := iprop(bigSep (Ring.homeSet 3 p) home ∗ flOr NB Fl Fr (p + 1) ∗ flOr NB Fl Fr (p + 2) ∗ Fr (p + 3))

theorem ring_tail_open (p : ℕ) (h0 : 0 < p) (hp : p < NB) :
    ring home Fl Fr p ⊢ iprop(Fl p ∗ tailRest home Fl Fr p) := by
  rw [ring_pos home Fl Fr h0]
  unfold ringAt tailRest
  rw [flOr_lt Fl Fr hp]
  iintro ⟨HR, H0, H1, H2, H3⟩
  sl_close

theorem ring_tail_close (hFr : ∀ n, Fr (n + 4) = Fr n) (p : ℕ) (h : NB ≤ p + 3) (hp : p < NB) :
    iprop(tailRest home Fl Fr p ∗ Fr p ∗ home (Ring.bk NB p)) ⊢ ring home Fl Fr (p + 1) := by
  rw [ring_pos home Fl Fr (Nat.succ_pos p)]
  unfold ringAt tailRest
  rw [Ring.homeSet_succ_tail 3 p h hp, SparseCore.bigSep_insert' (Ring.bk_not_mem_homeSet 3 p hp (by omega)), show p + 1 + 3 = p + 4 from rfl, hFr p,
    show p + 1 + 1 = p + 2 from rfl, show p + 1 + 2 = p + 3 from rfl, flOr_ge Fl Fr (n := p + 3) h]
  iintro ⟨⟨HR, H1, H2, H3⟩, H0, Hh⟩
  sl_close

/-- A point past the last block: nothing moves. -/
theorem ring_idle (hFr : ∀ n, Fr (n + 4) = Fr n) (p : ℕ) (h0 : 0 < p) (h : NB ≤ p) : ring home Fl Fr p ⊢ ring home Fl Fr (p + 1) := by
  rw [ring_pos home Fl Fr (Nat.succ_pos p), ring_pos home Fl Fr h0]
  unfold ringAt
  rw [Ring.homeSet_last 3 p h, Ring.homeSet_last 3 (p + 1) (by omega), show p + 1 + 3 = p + 4 from rfl, hFr p,
    show p + 1 + 1 = p + 2 from rfl, show p + 1 + 2 = p + 3 from rfl, flOr_ge Fl Fr h, flOr_ge Fl Fr (n := p + 1) (by omega), flOr_ge Fl Fr (n := p + 2) (by omega),
    flOr_ge Fl Fr (n := p + 3) (by omega)]
  iintro ⟨HR, H0, H1, H2, H3⟩
  sl_close

/-- What point 0 leaves alone: the blocks from 4 on. -/
def firstRest : sProp 𝕄 := bigSep ((Ring.homeSet 3 0).erase (Ring.bk NB 3)) home

theorem univ_eq_first (h : 3 < NB) : (Finset.univ : Finset (Fin NB)) = insert (Ring.bk NB 0) (insert (Ring.bk NB 1) (insert (Ring.bk NB 2) (insert (Ring.bk NB 3) ((Ring.homeSet 3 0).erase (Ring.bk NB 3))))) := by
  ext b
  simp only [Finset.mem_univ, Finset.mem_insert, Finset.mem_erase, Ring.mem_homeSet, true_iff, Fin.ext_iff, Ring.bk_val (show 0 < NB by omega),
    Ring.bk_val (show 1 < NB by omega), Ring.bk_val (show 2 < NB by omega), Ring.bk_val h, Ne]
  omega

theorem ring_first_open (h : 3 < NB) :
    ring home Fl Fr 0 ⊢ iprop(Fr 0 ∗ Fr 1 ∗ Fr 2 ∗ Fr 3 ∗ home (Ring.bk NB 0) ∗ home (Ring.bk NB 1) ∗ home (Ring.bk NB 2) ∗ home (Ring.bk NB 3) ∗ firstRest home) := by
  rw [ring_zero]
  unfold ringZero firstRest
  have hm : ∀ (a : ℕ) (s : Finset (Fin NB)), (∀ b ∈ s, a < b.val) → a < NB → Ring.bk NB a ∉ s := fun a s hs ha hb => by
    have := hs _ hb; rw [Ring.bk_val ha] at this; omega
  have h3 : ∀ b ∈ ((Ring.homeSet 3 0).erase (Ring.bk NB 3) : Finset (Fin NB)), 3 < b.val := by
    intro b hb
    rw [Finset.mem_erase, Ring.mem_homeSet, Ne, Fin.ext_iff, Ring.bk_val h] at hb; omega
  rw [univ_eq_first h, SparseCore.bigSep_insert' (hm 0 _ (by
      intro b hb; simp only [Finset.mem_insert] at hb
      rcases hb with rfl | rfl | rfl | hb
      · rw [Ring.bk_val (by omega)]; omega
      · rw [Ring.bk_val (by omega)]; omega
      · rw [Ring.bk_val (by omega)]; omega
      · have := h3 b hb; omega) (by omega)),
    SparseCore.bigSep_insert' (hm 1 _ (by
      intro b hb; simp only [Finset.mem_insert] at hb
      rcases hb with rfl | rfl | hb
      · rw [Ring.bk_val (by omega)]; omega
      · rw [Ring.bk_val (by omega)]; omega
      · have := h3 b hb; omega) (by omega)),
    SparseCore.bigSep_insert' (hm 2 _ (by
      intro b hb; simp only [Finset.mem_insert] at hb
      rcases hb with rfl | hb
      · rw [Ring.bk_val (by omega)]; omega
      · have := h3 b hb; omega) (by omega)),
    SparseCore.bigSep_insert' (hm 3 _ h3 h)]
  iintro ⟨⟨H0, H1, H2, H3, HR⟩, F0, F1, F2, F3⟩
  sl_close

theorem ring_first_close (hFr : ∀ n, Fr (n + 4) = Fr n) (h : 3 < NB) :
    iprop(firstRest home ∗ Fl 1 ∗ Fl 2 ∗ Fl 3 ∗ Fr 0 ∗ home (Ring.bk NB 0)) ⊢ ring home Fl Fr 1 := by
  rw [ring_pos home Fl Fr Nat.one_pos]
  unfold ringAt firstRest
  rw [flOr_lt _ _ (by omega), flOr_lt _ _ (by omega), flOr_lt _ _ (by omega), Ring.homeSet_succ 3 0 h,
    SparseCore.bigSep_insert' (Ring.bk_not_mem_erase 3 0 (by omega) (by omega)), show 1 + 3 = 0 + 4 from rfl, hFr 0]
  iintro ⟨HR, H1, H2, H3, H0, Hh⟩
  sl_close

/-- After the last point every block is home and every slot free. -/
theorem ring_last (hFr : ∀ n, Fr (n + 4) = Fr n) (h : NB ≤ 36) : ring home Fl Fr 36 ⊢ ringZero home Fr := by
  rw [ring_pos home Fl Fr (by decide)]
  have hm : ∀ k r, Fr (4 * k + r) = Fr r := fun k r => by
    induction k with
    | zero => rw [Nat.mul_zero, Nat.zero_add]
    | succ k ih => rw [show 4 * (k + 1) + r = 4 * k + r + 4 by omega, hFr, ih]
  unfold ringAt ringZero
  rw [Ring.homeSet_last 3 36 h, flOr_ge Fl Fr h, flOr_ge Fl Fr (n := 36 + 1) (by omega), flOr_ge Fl Fr (n := 36 + 2) (by omega),
    show Fr 36 = Fr 0 from hm 9 0, show Fr (36 + 1) = Fr 1 from hm 9 1, show Fr (36 + 2) = Fr 2 from hm 9 2, show Fr (36 + 3) = Fr 3 from hm 9 3]

end RingState

end Cert.Proof.Rings

end
-- ==== Proof.Point.lean ====
/-
  One grid point of the TensorCore kernel: from the three rings before the point and the four windows' buffers, to the three
  rings after it and the row the point stores in each output window.
-/
module

public import proofs.«01_k».proof.Proof.RingState

@[expose] public section

set_option maxRecDepth 16384

noncomputable section

namespace Cert.Proof.Rings

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Rings
variable (c : Dev nD) (XT : BufT (F := F) c) (XD : BufD (F := F) c) (XU : BufU (F := F) c)

abbrev tRing (p : ℕ) : sProp 𝕄 := ring (NB := 36) (fun n => homeP c tArr XT n) (tFl c XT) (tFree c) p
abbrev uRing (p : ℕ) : sProp 𝕄 := ring (NB := 36) (fun n => homeP c uArr XU n) (uFl c XU) (uFree c) p
abbrev dRing (p : ℕ) : sProp 𝕄 := ring (NB := 32) (fun n => dhomeP c XD n) (dFl c XD) (dFree c) p

theorem tFree_add (n : ℕ) : (tFree c (n + 4) : sProp 𝕄) = tFree c n := by unfold tFree; rw [Ring.sl_add 4 n]
theorem uFree_add (n : ℕ) : (uFree c (n + 4) : sProp 𝕄) = uFree c n := by unfold uFree; rw [Ring.sl_add 4 n]
theorem dFree_add (n : ℕ) : (dFree c (n + 4) : sProp 𝕄) = dFree c n := by unfold dFree; rw [Ring.sl_add 4 n]

end Rings

section Point
variable [FloatOps F] (c : Dev nD) (XT : BufT (F := F) c) (XD : BufD (F := F) c) (XU : BufU (F := F) c)
  (i : grid0.Coords)
  (arg4 : Memref sig .tc .vmem S36x8x1 .i32) (harg4 : arg4.IsWhole) (arg5 : Memref sig .tc .vmem S36x8x1 .i32) (harg5 : arg5.IsWhole)
  (arg6 : Memref sig .tc .vmem S32x8x1 .f32) (harg6 : arg6.IsWhole) (arg7 : Memref sig .tc .vmem S32x8x1 .f32) (harg7 : arg7.IsWhole)

/-- The row of ids point `p` stores: recovered ids where there are drafts, bonus ids after. -/
def idsOut (p : ℕ) : IVec S1x8x1 32 :=
  if p < 32 then recVal (F := F) (word c tArr XT (Ring.bk 36 p)) (dword c XD (Ring.bk 32 p)) (word c uArr XU (Ring.bk 36 p))
  else bonVal (F := F) (word c tArr XT (Ring.bk 36 p)) (word c uArr XU (Ring.bk 36 p))

/-- What the point leaves in the second output window: its row stored, where there are drafts. -/
def out6 (f4 : Buf (Elt F) (arg4.view.loc (c : Thread nD τ))) (f6 : Buf (Elt F) (arg6.view.loc (c : Thread nD τ))) : Buf (Elt F) (arg6.view.loc (c : Thread nD τ)) :=
  if h : (i 0).val < 32 then arg6.view.writes (Elt F) f6 [⟨row32 (i 0).val h, dtokVal (idRow c i arg4 f4) (dword c XD (Ring.bk 32 (i 0).val))⟩] else f6
/-- What the point leaves in the third output window. -/
def out7 (f4 : Buf (Elt F) (arg4.view.loc (c : Thread nD τ))) (f7 : Buf (Elt F) (arg7.view.loc (c : Thread nD τ))) : Buf (Elt F) (arg7.view.loc (c : Thread nD τ)) :=
  if h : (i 0).val < 32 then arg7.view.writes (Elt F) f7 [⟨row32 (i 0).val h, ttokVal (idRow c i arg4 f4) (word c tArr XT (Ring.bk 36 (i 0).val))⟩] else f7

/-- The windows' buffers before the point, -/
abbrev winPre (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ))) : sProp 𝕄 :=
  iprop(outP c arg4 f4 ∗ outP c arg5 f5 ∗ outP c arg6 f6 ∗ outP c arg7 f7)
/-- and after it. -/
abbrev winPost (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ))) : sProp 𝕄 :=
  iprop(outP c arg4 f4
    ∗ outP c arg5 (arg5.view.writes (Elt F) f5 [⟨row36 (i 0).val (i 0).isLt, idsOut c XT XD XU (i 0).val⟩])
    ∗ outP c arg6 (out6 c XD i arg4 arg6 f4 f6) ∗ outP c arg7 (out7 c XT i arg4 arg7 f4 f7))

omit [FloatOps F] in
theorem first_arr (A B1 B2 B3 C E : sProp (MT nD τ sig (HIx 1) (Elt F) ℕ UU ℕ)) :
    iprop((A ∗ B1 ∗ B2 ∗ B3) ∗ C ∗ E) ⊢ iprop(A ∗ B1 ∗ B2 ∗ B3 ∗ C ∗ E) := by
  iintro ⟨⟨HA, H1, H2, H3⟩, HC, HE⟩
  sl_close

omit [FloatOps F] in
theorem issue_arr (A B C E : sProp (MT nD τ sig (HIx 1) (Elt F) ℕ UU ℕ)) :
    iprop((A ∗ B) ∗ C ∗ E) ⊢ iprop(A ∗ B ∗ C ∗ E) := by
  iintro ⟨⟨HA, HB⟩, HC, HE⟩
  sl_close

/-- A point with drafts, given its first part's run. -/
theorem point_lt (O : CellTallies nD τ sig (HIx 1)) (W : Waits sig (HIx 1)) (h32 : (i 0).val < 32)
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ))) (Pre Tr Ur Dr : sProp 𝕄)
    (hT : iprop(Tr ∗ tFree c (i 0).val ∗ tHome c XT (i 0).val) ⊢ tRing c XT ((i 0).val + 1))
    (hU : iprop(Ur ∗ uFree c (i 0).val ∗ uHome c XU (i 0).val) ⊢ uRing c XU ((i 0).val + 1))
    (hD : iprop(Dr ∗ dFree c (i 0).val ∗ dHome c XD (i 0).val) ⊢ dRing c XD ((i 0).val + 1))
    (hp9 : Pre ⊢ wp frame (wpE (defs₀ (F := F)) 𝒱₀ (c : Thread nD τ) none) Set.univ (part9 i arg4 harg4 arg5 harg5 arg6 harg6 arg7 harg7)
        fun _ => iprop(owed c O W ∗ tGot c XT (i 0).val ∗ uGot c XU (i 0).val ∗ dFl c XD (i 0).val ∗ Tr ∗ Ur ∗ Dr)) :
    iprop(□ Transfers.MayWaits (c : Thread nD τ) (default : HIx 1) O ∗ Pre ∗ winPre c arg4 arg5 arg6 arg7 f4 f5 f6 f7)
    ⊢ wp frame (wpE (defs₀ (F := F)) 𝒱₀ (c : Thread nD τ) none) Set.univ (body i arg4 harg4 arg5 harg5 arg6 harg6 arg7 harg7)
        fun _ => iprop(owed c O W ∗ tRing c XT ((i 0).val + 1) ∗ uRing c XU ((i 0).val + 1) ∗ dRing c XD ((i 0).val + 1)
          ∗ winPost c XT XD XU i arg4 arg5 arg6 arg7 f4 f5 f6 f7) := by
  iintro H
  iapply (wp_wand_r Idealize.ShloMosaic.frame (wpE (defs₀ (F := F)) 𝒱₀ (c : Thread nD τ) none))
  isplitl [H]
  · iapply (body_lt c XT XD XU i arg4 harg4 arg5 harg5 arg6 harg6 arg7 harg7 O W h32 Pre iprop(Tr ∗ Ur ∗ Dr) f4 f5 f6 f7 hp9); iexact H
  unfold winPost idsOut out6 out7
  rw [if_pos h32, dif_pos h32, dif_pos h32]
  iintro %_ ⟨HO, ⟨HT, HU, HD⟩, H4, H5, H6, H7, HTf, HTh, HUf, HUh, HDf, HDh⟩
  isplitl [HO]; · iexact HO
  isplitl [HT HTf HTh]
  · iapply hT; isplitl [HT]; · iexact HT
    isplitl [HTf]; · iexact HTf
    iexact HTh
  isplitl [HU HUf HUh]
  · iapply hU; isplitl [HU]; · iexact HU
    isplitl [HUf]; · iexact HUf
    iexact HUh
  isplitl [HD HDf HDh]
  · iapply hD; isplitl [HD]; · iexact HD
    isplitl [HDf]; · iexact HDf
    iexact HDh
  sl_close

/-- A point without drafts, given its first part's run. -/
theorem point_ge (O : CellTallies nD τ sig (HIx 1)) (W : Waits sig (HIx 1)) (h32 : 32 ≤ (i 0).val)
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ))) (Pre Tr Ur : sProp 𝕄)
    (hT : iprop(Tr ∗ tFree c (i 0).val ∗ tHome c XT (i 0).val) ⊢ tRing c XT ((i 0).val + 1))
    (hU : iprop(Ur ∗ uFree c (i 0).val ∗ uHome c XU (i 0).val) ⊢ uRing c XU ((i 0).val + 1))
    (hp9 : Pre ⊢ wp frame (wpE (defs₀ (F := F)) 𝒱₀ (c : Thread nD τ) none) Set.univ (part9 i arg4 harg4 arg5 harg5 arg6 harg6 arg7 harg7)
        fun _ => iprop(owed c O W ∗ tGot c XT (i 0).val ∗ uGot c XU (i 0).val ∗ Tr ∗ Ur)) :
    iprop(□ Transfers.MayWaits (c : Thread nD τ) (default : HIx 1) O ∗ Pre ∗ dRing c XD (i 0).val ∗ winPre c arg4 arg5 arg6 arg7 f4 f5 f6 f7)
    ⊢ wp frame (wpE (defs₀ (F := F)) 𝒱₀ (c : Thread nD τ) none) Set.univ (body i arg4 harg4 arg5 harg5 arg6 harg6 arg7 harg7)
        fun _ => iprop(owed c O W ∗ tRing c XT ((i 0).val + 1) ∗ uRing c XU ((i 0).val + 1) ∗ dRing c XD ((i 0).val + 1)
          ∗ winPost c XT XD XU i arg4 arg5 arg6 arg7 f4 f5 f6 f7) := by
  iintro ⟨#Hmw, HP, HD, H4, H5, H6, H7⟩
  iapply (wp_wand_r Idealize.ShloMosaic.frame (wpE (defs₀ (F := F)) 𝒱₀ (c : Thread nD τ) none))
  isplitl [HP H5]
  · iapply (body_ge c XT XU i arg4 harg4 arg5 harg5 arg6 harg6 arg7 harg7 O W h32 Pre iprop(Tr ∗ Ur) f5 hp9)
    isplitr; · iexact Hmw
    sl_close
  iintro %_ ⟨HO, ⟨HT, HU⟩, H5, HTf, HTh, HUf, HUh⟩
  unfold winPost idsOut out6 out7
  rw [if_neg (by omega), dif_neg (by omega), dif_neg (by omega)]
  isplitl [HO]; · iexact HO
  isplitl [HT HTf HTh]
  · iapply hT; isplitl [HT]; · iexact HT
    isplitl [HTf]; · iexact HTf
    iexact HTh
  isplitl [HU HUf HUh]
  · iapply hU; isplitl [HU]; · iexact HU
    isplitl [HUf]; · iexact HUf
    iexact HUh
  isplitl [HD]
  · iapply (ring_idle (NB := 32) _ _ _ (dFree_add c) (i 0).val (by omega) h32); iexact HD
  sl_close

/-- The whole point, whichever it is. -/
theorem point (O : CellTallies nD τ sig (HIx 1)) (W : Waits sig (HIx 1))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ))) :
    iprop(□ Transfers.MayWaits (c : Thread nD τ) (default : HIx 1) O ∗ owes (c : Thread nD τ) O W
      ∗ tRing c XT (i 0).val ∗ uRing c XU (i 0).val ∗ dRing c XD (i 0).val ∗ winPre c arg4 arg5 arg6 arg7 f4 f5 f6 f7)
    ⊢ wp frame (wpE (defs₀ (F := F)) 𝒱₀ (c : Thread nD τ) none) Set.univ (body i arg4 harg4 arg5 harg5 arg6 harg6 arg7 harg7)
        fun _ => iprop(owed c O W ∗ tRing c XT ((i 0).val + 1) ∗ uRing c XU ((i 0).val + 1) ∗ dRing c XD ((i 0).val + 1)
          ∗ winPost c XT XD XU i arg4 arg5 arg6 arg7 f4 f5 f6 f7) := by
  have h36 : (i 0).val < 36 := (i 0).isLt
  rcases Nat.eq_zero_or_pos (i 0).val with h0 | h0
  · iintro ⟨#Hmw, HO, HT, HU, HD, HW⟩
    iapply (point_lt c XT XD XU i arg4 harg4 arg5 harg5 arg6 harg6 arg7 harg7 O W (by omega) f4 f5 f6 f7
      iprop(□ Transfers.MayWaits (c : Thread nD τ) (default : HIx 1) O ∗ owes (c : Thread nD τ) O W ∗ tRing c XT (i 0).val ∗ uRing c XU (i 0).val ∗ dRing c XD (i 0).val)
      iprop(firstRest (NB := 36) (fun n => homeP c tArr XT n) ∗ tFl c XT 1 ∗ tFl c XT 2 ∗ tFl c XT 3)
      iprop(firstRest (NB := 36) (fun n => homeP c uArr XU n) ∗ uFl c XU 1 ∗ uFl c XU 2 ∗ uFl c XU 3)
      iprop(firstRest (NB := 32) (fun n => dhomeP c XD n) ∗ dFl c XD 1 ∗ dFl c XD 2 ∗ dFl c XD 3)
      (by rw [h0]; exact (first_arr _ _ _ _ _ _).trans (ring_first_close (NB := 36) (fun n => homeP c tArr XT n) _ _ (tFree_add c) (by decide)))
      (by rw [h0]; exact (first_arr _ _ _ _ _ _).trans (ring_first_close (NB := 36) (fun n => homeP c uArr XU n) _ _ (uFree_add c) (by decide)))
      (by rw [h0]; exact (first_arr _ _ _ _ _ _).trans (ring_first_close (NB := 32) (fun n => dhomeP c XD n) _ _ (dFree_add c) (by decide))) ?_)
    · iintro ⟨#Hmw, HO, HT, HU, HD⟩
      rw [h0]
      ihave HT := (ring_first_open (NB := 36) (fun n => homeP c tArr XT n) (tFl c XT) (tFree c) (by decide)) $$ HT
      ihave HU := (ring_first_open (NB := 36) (fun n => homeP c uArr XU n) (uFl c XU) (uFree c) (by decide)) $$ HU
      ihave HD := (ring_first_open (NB := 32) (fun n => dhomeP c XD n) (dFl c XD) (dFree c) (by decide)) $$ HD
      icases HT with ⟨HT0, HT1, HT2, HT3, HTh0, HTh1, HTh2, HTh3, HTr⟩
      icases HU with ⟨HU0, HU1, HU2, HU3, HUh0, HUh1, HUh2, HUh3, HUr⟩
      icases HD with ⟨HD0, HD1, HD2, HD3, HDh0, HDh1, HDh2, HDh3, HDr⟩
      iapply (wp_wand_r Idealize.ShloMosaic.frame (wpE (defs₀ (F := F)) 𝒱₀ (c : Thread nD τ) none))
      isplitr [HTr HUr HDr]
      · iapply (part9_first c XT XD XU i arg4 harg4 arg5 harg5 arg6 harg6 arg7 harg7 O W h0)
        rw [h0]
        isplitr; · iexact Hmw
        isplitl [HO]; · iexact HO
        isplitl [HT0]; · iexact HT0
        isplitl [HT1]; · iexact HT1
        isplitl [HT2]; · iexact HT2
        isplitl [HT3]; · iexact HT3
        isplitl [HTh0]; · iexact HTh0
        isplitl [HTh1]; · iexact HTh1
        isplitl [HTh2]; · iexact HTh2
        isplitl [HTh3]; · iexact HTh3
        isplitl [HU0]; · iexact HU0
        isplitl [HU1]; · iexact HU1
        isplitl [HU2]; · iexact HU2
        isplitl [HU3]; · iexact HU3
        isplitl [HUh0]; · iexact HUh0
        isplitl [HUh1]; · iexact HUh1
        isplitl [HUh2]; · iexact HUh2
        isplitl [HUh3]; · iexact HUh3
        isplitl [HD0]; · iexact HD0
        isplitl [HD1]; · iexact HD1
        isplitl [HD2]; · iexact HD2
        isplitl [HD3]; · iexact HD3
        isplitl [HDh0]; · iexact HDh0
        isplitl [HDh1]; · iexact HDh1
        isplitl [HDh2]; · iexact HDh2
        iexact HDh3
      rw [h0]
      iintro %_ ⟨HO, HTg, HT1, HT2, HT3, HUg, HU1, HU2, HU3, HDg, HD1, HD2, HD3⟩
      isplitl [HO]; · iexact HO
      isplitl [HTg]; · iexact HTg
      isplitl [HUg]; · iexact HUg
      isplitl [HDg]; · iexact HDg
      isplitl [HTr HT1 HT2 HT3]
      · isplitl [HTr]; · iexact HTr
        isplitl [HT1]; · iexact HT1
        isplitl [HT2]; · iexact HT2
        iexact HT3
      isplitl [HUr HU1 HU2 HU3]
      · isplitl [HUr]; · iexact HUr
        isplitl [HU1]; · iexact HU1
        isplitl [HU2]; · iexact HU2
        iexact HU3
      isplitl [HDr]; · iexact HDr
      isplitl [HD1]; · iexact HD1
      isplitl [HD2]; · iexact HD2
      iexact HD3
    isplitr; · iexact Hmw
    isplitr [HW]
    · isplitr; · iexact Hmw
      isplitl [HO]; · iexact HO
      isplitl [HT]; · iexact HT
      isplitl [HU]; · iexact HU
      iexact HD
    iexact HW
  · rcases (by omega : (i 0).val + 3 < 32 ∨ (29 ≤ (i 0).val ∧ (i 0).val < 32) ∨ (i 0).val = 32 ∨ 33 ≤ (i 0).val) with h | h | h | h
    · iintro ⟨#Hmw, HO, HT, HU, HD, HW⟩
      iapply (point_lt c XT XD XU i arg4 harg4 arg5 harg5 arg6 harg6 arg7 harg7 O W (by omega) f4 f5 f6 f7
        iprop(□ Transfers.MayWaits (c : Thread nD τ) (default : HIx 1) O ∗ owes (c : Thread nD τ) O W ∗ tRing c XT (i 0).val ∗ uRing c XU (i 0).val ∗ dRing c XD (i 0).val)
        iprop(issueRest (NB := 36) (fun n => homeP c tArr XT n) (tFl c XT) (i 0).val ∗ tFl c XT ((i 0).val + 3))
        iprop(issueRest (NB := 36) (fun n => homeP c uArr XU n) (uFl c XU) (i 0).val ∗ uFl c XU ((i 0).val + 3))
        iprop(issueRest (NB := 32) (fun n => dhomeP c XD n) (dFl c XD) (i 0).val ∗ dFl c XD ((i 0).val + 3))
        ((issue_arr _ _ _ _).trans (ring_issue_close (NB := 36) (fun n => homeP c tArr XT n) (tFl c XT) (tFree c) (tFree_add c) (i 0).val (by omega)))
        ((issue_arr _ _ _ _).trans (ring_issue_close (NB := 36) (fun n => homeP c uArr XU n) (uFl c XU) (uFree c) (uFree_add c) (i 0).val (by omega)))
        ((issue_arr _ _ _ _).trans (ring_issue_close (NB := 32) (fun n => dhomeP c XD n) (dFl c XD) (dFree c) (dFree_add c) (i 0).val (by omega)))
        ?_)
      · iintro ⟨#Hmw, HO, HT, HU, HD⟩
        ihave HT := (ring_issue_open (NB := 36) (fun n => homeP c tArr XT n) (tFl c XT) (tFree c) (i 0).val h0 (by omega)) $$ HT
        icases HT with ⟨HT0, HT3, HTh, HTr⟩
        ihave HU := (ring_issue_open (NB := 36) (fun n => homeP c uArr XU n) (uFl c XU) (uFree c) (i 0).val h0 (by omega)) $$ HU
        icases HU with ⟨HU0, HU3, HUh, HUr⟩
        ihave HD := (ring_issue_open (NB := 32) (fun n => dhomeP c XD n) (dFl c XD) (dFree c) (i 0).val h0 (by omega)) $$ HD
        icases HD with ⟨HD0, HD3, HDh, HDr⟩
        iapply (wp_wand_r Idealize.ShloMosaic.frame (wpE (defs₀ (F := F)) 𝒱₀ (c : Thread nD τ) none))
        isplitr [HTr HUr HDr HD0]
        · iapply (part9_mid c XT XD XU i arg4 harg4 arg5 harg5 arg6 harg6 arg7 harg7 O W h0 (by omega))
          isplitr; · iexact Hmw
          isplitl [HO]; · iexact HO
          isplitl [HT0]; · iexact HT0
          isplitl [HU0]; · iexact HU0
          isplitl [HT3]; · iexact HT3
          isplitl [HU3]; · iexact HU3
          isplitl [HD3]; · iexact HD3
          isplitl [HTh]; · iexact HTh
          isplitl [HUh]; · iexact HUh
          iexact HDh
        iintro %_ ⟨HO, HT0, HU0, HT3, HU3, HD3⟩
        isplitl [HO]; · iexact HO
        isplitl [HT0]; · iexact HT0
        isplitl [HU0]; · iexact HU0
        isplitl [HD0]; · iexact HD0
        isplitl [HTr HT3]
        · isplitl [HTr]; · iexact HTr
          iexact HT3
        isplitl [HUr HU3]
        · isplitl [HUr]; · iexact HUr
          iexact HU3
        isplitl [HDr]; · iexact HDr
        iexact HD3
      isplitr; · iexact Hmw
      isplitr [HW]
      · isplitr; · iexact Hmw
        isplitl [HO]; · iexact HO
        isplitl [HT]; · iexact HT
        isplitl [HU]; · iexact HU
        iexact HD
      iexact HW
    · iintro ⟨#Hmw, HO, HT, HU, HD, HW⟩
      iapply (point_lt c XT XD XU i arg4 harg4 arg5 harg5 arg6 harg6 arg7 harg7 O W (by omega) f4 f5 f6 f7
        iprop(□ Transfers.MayWaits (c : Thread nD τ) (default : HIx 1) O ∗ owes (c : Thread nD τ) O W ∗ tRing c XT (i 0).val ∗ uRing c XU (i 0).val ∗ dRing c XD (i 0).val)
        iprop(issueRest (NB := 36) (fun n => homeP c tArr XT n) (tFl c XT) (i 0).val ∗ tFl c XT ((i 0).val + 3))
        iprop(issueRest (NB := 36) (fun n => homeP c uArr XU n) (uFl c XU) (i 0).val ∗ uFl c XU ((i 0).val + 3))
        (tailRest (NB := 32) (fun n => dhomeP c XD n) (dFl c XD) (dFree c) (i 0).val)
        ((issue_arr _ _ _ _).trans (ring_issue_close (NB := 36) (fun n => homeP c tArr XT n) (tFl c XT) (tFree c) (tFree_add c) (i 0).val (by omega)))
        ((issue_arr _ _ _ _).trans (ring_issue_close (NB := 36) (fun n => homeP c uArr XU n) (uFl c XU) (uFree c) (uFree_add c) (i 0).val (by omega)))
        (ring_tail_close (NB := 32) (fun n => dhomeP c XD n) (dFl c XD) (dFree c) (dFree_add c) (i 0).val (by omega) (by omega))
        ?_)
      · iintro ⟨#Hmw, HO, HT, HU, HD⟩
        ihave HT := (ring_issue_open (NB := 36) (fun n => homeP c tArr XT n) (tFl c XT) (tFree c) (i 0).val h0 (by omega)) $$ HT
        icases HT with ⟨HT0, HT3, HTh, HTr⟩
        ihave HU := (ring_issue_open (NB := 36) (fun n => homeP c uArr XU n) (uFl c XU) (uFree c) (i 0).val h0 (by omega)) $$ HU
        icases HU with ⟨HU0, HU3, HUh, HUr⟩
        ihave HD := (ring_tail_open (NB := 32) (fun n => dhomeP c XD n) (dFl c XD) (dFree c) (i 0).val h0 (by omega)) $$ HD
        icases HD with ⟨HD0, HDr⟩
        iapply (wp_wand_r Idealize.ShloMosaic.frame (wpE (defs₀ (F := F)) 𝒱₀ (c : Thread nD τ) none))
        isplitr [HTr HUr HDr HD0]
        · iapply (part9_late c XT XU i arg4 harg4 arg5 harg5 arg6 harg6 arg7 harg7 O W (by omega) (by omega))
          isplitr; · iexact Hmw
          isplitl [HO]; · iexact HO
          isplitl [HT0]; · iexact HT0
          isplitl [HU0]; · iexact HU0
          isplitl [HT3]; · iexact HT3
          isplitl [HU3]; · iexact HU3
          isplitl [HTh]; · iexact HTh
          iexact HUh
        iintro %_ ⟨HO, HT0, HU0, HT3, HU3⟩
        isplitl [HO]; · iexact HO
        isplitl [HT0]; · iexact HT0
        isplitl [HU0]; · iexact HU0
        isplitl [HD0]; · iexact HD0
        isplitl [HTr HT3]
        · isplitl [HTr]; · iexact HTr
          iexact HT3
        isplitl [HUr HU3]
        · isplitl [HUr]; · iexact HUr
          iexact HU3
        iexact HDr
      isplitr; · iexact Hmw
      isplitr [HW]
      · isplitr; · iexact Hmw
        isplitl [HO]; · iexact HO
        isplitl [HT]; · iexact HT
        isplitl [HU]; · iexact HU
        iexact HD
      iexact HW
    · iintro ⟨#Hmw, HO, HT, HU, HD, HW⟩
      iapply (point_ge c XT XD XU i arg4 harg4 arg5 harg5 arg6 harg6 arg7 harg7 O W (by omega) f4 f5 f6 f7
        iprop(□ Transfers.MayWaits (c : Thread nD τ) (default : HIx 1) O ∗ owes (c : Thread nD τ) O W ∗ tRing c XT (i 0).val ∗ uRing c XU (i 0).val)
        iprop(issueRest (NB := 36) (fun n => homeP c tArr XT n) (tFl c XT) (i 0).val ∗ tFl c XT ((i 0).val + 3))
        iprop(issueRest (NB := 36) (fun n => homeP c uArr XU n) (uFl c XU) (i 0).val ∗ uFl c XU ((i 0).val + 3))
        ((issue_arr _ _ _ _).trans (ring_issue_close (NB := 36) (fun n => homeP c tArr XT n) (tFl c XT) (tFree c) (tFree_add c) (i 0).val (by omega)))
        ((issue_arr _ _ _ _).trans (ring_issue_close (NB := 36) (fun n => homeP c uArr XU n) (uFl c XU) (uFree c) (uFree_add c) (i 0).val (by omega)))
        ?_)
      · iintro ⟨#Hmw, HO, HT, HU⟩
        ihave HT := (ring_issue_open (NB := 36) (fun n => homeP c tArr XT n) (tFl c XT) (tFree c) (i 0).val h0 (by omega)) $$ HT
        icases HT with ⟨HT0, HT3, HTh, HTr⟩
        ihave HU := (ring_issue_open (NB := 36) (fun n => homeP c uArr XU n) (uFl c XU) (uFree c) (i 0).val h0 (by omega)) $$ HU
        icases HU with ⟨HU0, HU3, HUh, HUr⟩
        iapply (wp_wand_r Idealize.ShloMosaic.frame (wpE (defs₀ (F := F)) 𝒱₀ (c : Thread nD τ) none))
        isplitr [HTr HUr]
        · iapply (part9_late c XT XU i arg4 harg4 arg5 harg5 arg6 harg6 arg7 harg7 O W (by omega) (by omega))
          isplitr; · iexact Hmw
          isplitl [HO]; · iexact HO
          isplitl [HT0]; · iexact HT0
          isplitl [HU0]; · iexact HU0
          isplitl [HT3]; · iexact HT3
          isplitl [HU3]; · iexact HU3
          isplitl [HTh]; · iexact HTh
          iexact HUh
        iintro %_ ⟨HO, HT0, HU0, HT3, HU3⟩
        isplitl [HO]; · iexact HO
        isplitl [HT0]; · iexact HT0
        isplitl [HU0]; · iexact HU0
        isplitl [HTr HT3]
        · isplitl [HTr]; · iexact HTr
          iexact HT3
        isplitl [HUr]; · iexact HUr
        iexact HU3
      isplitr; · iexact Hmw
      isplitl [HO HT HU]
      · isplitr; · iexact Hmw
        isplitl [HO]; · iexact HO
        isplitl [HT]; · iexact HT
        iexact HU
      isplitl [HD]; · iexact HD
      iexact HW
    · iintro ⟨#Hmw, HO, HT, HU, HD, HW⟩
      iapply (point_ge c XT XD XU i arg4 harg4 arg5 harg5 arg6 harg6 arg7 harg7 O W (by omega) f4 f5 f6 f7
        iprop(□ Transfers.MayWaits (c : Thread nD τ) (default : HIx 1) O ∗ owes (c : Thread nD τ) O W ∗ tRing c XT (i 0).val ∗ uRing c XU (i 0).val)
        (tailRest (NB := 36) (fun n => homeP c tArr XT n) (tFl c XT) (tFree c) (i 0).val)
        (tailRest (NB := 36) (fun n => homeP c uArr XU n) (uFl c XU) (uFree c) (i 0).val)
        (ring_tail_close (NB := 36) (fun n => homeP c tArr XT n) (tFl c XT) (tFree c) (tFree_add c) (i 0).val (by omega) (by omega))
        (ring_tail_close (NB := 36) (fun n => homeP c uArr XU n) (uFl c XU) (uFree c) (uFree_add c) (i 0).val (by omega) (by omega))
        ?_)
      · iintro ⟨#Hmw, HO, HT, HU⟩
        ihave HT := (ring_tail_open (NB := 36) (fun n => homeP c tArr XT n) (tFl c XT) (tFree c) (i 0).val h0 (by omega)) $$ HT
        icases HT with ⟨HT0, HTr⟩
        ihave HU := (ring_tail_open (NB := 36) (fun n => homeP c uArr XU n) (uFl c XU) (uFree c) (i 0).val h0 (by omega)) $$ HU
        icases HU with ⟨HU0, HUr⟩
        iapply (wp_wand_r Idealize.ShloMosaic.frame (wpE (defs₀ (F := F)) 𝒱₀ (c : Thread nD τ) none))
        isplitr [HTr HUr]
        · iapply (part9_tail c XT XU i arg4 harg4 arg5 harg5 arg6 harg6 arg7 harg7 O W (by omega))
          isplitr; · iexact Hmw
          isplitl [HO]; · iexact HO
          isplitl [HT0]; · iexact HT0
          iexact HU0
        iintro %_ ⟨HO, HT0, HU0⟩
        isplitl [HO]; · iexact HO
        isplitl [HT0]; · iexact HT0
        isplitl [HU0]; · iexact HU0
        isplitl [HTr]; · iexact HTr
        iexact HUr
      isplitr; · iexact Hmw
      isplitl [HO HT HU]
      · isplitr; · iexact Hmw
        isplitl [HO]; · iexact HO
        isplitl [HT]; · iexact HT
        iexact HU
      isplitl [HD]; · iexact HD
      iexact HW

end Point

end Cert.Proof.Rings

end
-- ==== Proof.Blocks.lean ====
/-
  The rings' pieces at the region's two ends: the three arrays are their blocks, each ring's buffer is its four slots.
-/
module

public import proofs.«01_k».proof.Proof.Point

@[expose] public section

set_option maxRecDepth 16384

noncomputable section

namespace Cert.Proof.Rings

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The rectangles -/

abbrev blkRect (n : Fin 36) : Rect S9x32x100000 := Rect.unit (s := S9x32x100000) (blkOff n) S1x8x100000.size (blkOff_inb n)
abbrev dblkRect (n : Fin 32) : Rect S32x8x100000 := Rect.unit (s := S32x8x100000) (dblkOff n) S8x1x100000.size (dblkOff_inb n)
abbrev slotRect (s : Fin 4) : Rect S4x8x100000 := Rect.unit (s := S4x8x100000) (slotOff s) S1x8x100000.size (slotOff_inb s)

theorem blk_disjoint (n n' : Fin 36) (h : n ≠ n') : Disjoint (blkRect n).set (blkRect n').set := by
  rw [Finset.disjoint_left]
  intro i hi hi'
  have h0 : n.val / 4 ≤ (i 0).val ∧ (i 0).val < n.val / 4 + 1 := (Rect.mem_set_unit.mp hi) 0
  have h0' : n'.val / 4 ≤ (i 0).val ∧ (i 0).val < n'.val / 4 + 1 := (Rect.mem_set_unit.mp hi') 0
  have h1 : 8 * (n.val % 4) ≤ (i 1).val ∧ (i 1).val < 8 * (n.val % 4) + 8 := (Rect.mem_set_unit.mp hi) 1
  have h1' : 8 * (n'.val % 4) ≤ (i 1).val ∧ (i 1).val < 8 * (n'.val % 4) + 8 := (Rect.mem_set_unit.mp hi') 1
  exact h (Fin.ext (by omega))

theorem blk_cover : Finset.univ.biUnion (fun n => (blkRect n).set) = Finset.univ := by
  ext i
  simp only [Finset.mem_biUnion, Finset.mem_univ, true_and, iff_true]
  have h0 : (i 0).val < 9 := (i 0).isLt
  have h1 : (i 1).val < 32 := (i 1).isLt
  have h2 : (i 2).val < 100000 := (i 2).isLt
  refine ⟨⟨4 * (i 0).val + (i 1).val / 8, by omega⟩, Rect.mem_set_unit.mpr fun a => ?_⟩
  match a with
  | ⟨0, _⟩ => show (4 * (i 0).val + (i 1).val / 8) / 4 ≤ (i 0).val ∧ (i 0).val < (4 * (i 0).val + (i 1).val / 8) / 4 + 1; omega
  | ⟨1, _⟩ => show 8 * ((4 * (i 0).val + (i 1).val / 8) % 4) ≤ (i 1).val ∧ (i 1).val < 8 * ((4 * (i 0).val + (i 1).val / 8) % 4) + 8; omega
  | ⟨2, _⟩ => show 0 ≤ (i 2).val ∧ (i 2).val < 0 + 100000; omega

theorem dblk_disjoint (n n' : Fin 32) (h : n ≠ n') : Disjoint (dblkRect n).set (dblkRect n').set := by
  rw [Finset.disjoint_left]
  intro i hi hi'
  have h0 : n.val / 4 ≤ (i 1).val ∧ (i 1).val < n.val / 4 + 1 := (Rect.mem_set_unit.mp hi) 1
  have h0' : n'.val / 4 ≤ (i 1).val ∧ (i 1).val < n'.val / 4 + 1 := (Rect.mem_set_unit.mp hi') 1
  have h1 : 8 * (n.val % 4) ≤ (i 0).val ∧ (i 0).val < 8 * (n.val % 4) + 8 := (Rect.mem_set_unit.mp hi) 0
  have h1' : 8 * (n'.val % 4) ≤ (i 0).val ∧ (i 0).val < 8 * (n'.val % 4) + 8 := (Rect.mem_set_unit.mp hi') 0
  exact h (Fin.ext (by omega))

theorem dblk_cover : Finset.univ.biUnion (fun n => (dblkRect n).set) = Finset.univ := by
  ext i
  simp only [Finset.mem_biUnion, Finset.mem_univ, true_and, iff_true]
  have h0 : (i 0).val < 32 := (i 0).isLt
  have h1 : (i 1).val < 8 := (i 1).isLt
  have h2 : (i 2).val < 100000 := (i 2).isLt
  refine ⟨⟨4 * (i 1).val + (i 0).val / 8, by omega⟩, Rect.mem_set_unit.mpr fun a => ?_⟩
  match a with
  | ⟨0, _⟩ => show 8 * ((4 * (i 1).val + (i 0).val / 8) % 4) ≤ (i 0).val ∧ (i 0).val < 8 * ((4 * (i 1).val + (i 0).val / 8) % 4) + 8; omega
  | ⟨1, _⟩ => show (4 * (i 1).val + (i 0).val / 8) / 4 ≤ (i 1).val ∧ (i 1).val < (4 * (i 1).val + (i 0).val / 8) / 4 + 1; omega
  | ⟨2, _⟩ => show 0 ≤ (i 2).val ∧ (i 2).val < 0 + 100000; omega

theorem slot_disjoint (s s' : Fin 4) (h : s ≠ s') : Disjoint (slotRect s).set (slotRect s').set := by
  rw [Finset.disjoint_left]
  intro i hi hi'
  have h0 : s.val ≤ (i 0).val ∧ (i 0).val < s.val + 1 := (Rect.mem_set_unit.mp hi) 0
  have h0' : s'.val ≤ (i 0).val ∧ (i 0).val < s'.val + 1 := (Rect.mem_set_unit.mp hi') 0
  exact h (Fin.ext (by omega))

theorem slot_cover : Finset.univ.biUnion (fun s => (slotRect s).set) = Finset.univ := by
  ext i
  simp only [Finset.mem_biUnion, Finset.mem_univ, true_and, iff_true]
  have h0 : (i 0).val < 4 := (i 0).isLt
  have h1 : (i 1).val < 8 := (i 1).isLt
  have h2 : (i 2).val < 100000 := (i 2).isLt
  refine ⟨⟨(i 0).val, h0⟩, Rect.mem_set_unit.mpr fun a => ?_⟩
  match a with
  | ⟨0, _⟩ => show (i 0).val ≤ (i 0).val ∧ (i 0).val < (i 0).val + 1; omega
  | ⟨1, _⟩ => show 0 ≤ (i 1).val ∧ (i 1).val < 0 + 8; omega
  | ⟨2, _⟩ => show 0 ≤ (i 2).val ∧ (i 2).val < 0 + 100000; omega

/-! ## The arrays -/

section Arrays
variable (c : Dev nD)

theorem tBlk_set (n : Fin 36) : (blkOf tArr n).view.set = (blkRect n).set := by
  unfold blkOf; rw [Memref.set_view_squeeze]; exact View.set_slice_whole _ _
theorem uBlk_set (n : Fin 36) : (blkOf uArr n).view.set = (blkRect n).set := by
  unfold blkOf; rw [Memref.set_view_squeeze]; exact View.set_slice_whole _ _
theorem dBlk_set (n : Fin 32) : (dblkOf dArr n).view.set = (dblkRect n).set := by
  unfold dblkOf; rw [Memref.set_view_squeeze]; exact View.set_slice_whole _ _

theorem t_blocks (X : BufT (F := F) c) :
    (((c : Thread nD τ).loc main_v5) ↦{fullShare} X : sProp 𝕄) = bigSep Finset.univ fun n => homeP c tArr X n := by
  rw [Ring.pointsTo_blocks (ℓ := (c : Thread nD τ).loc main_v5) (fun n => (blkRect n).set) blk_disjoint blk_cover]
  exact bigSep_congr fun n _ => by unfold homeP; rw [tBlk_set]; rfl
theorem u_blocks (X : BufU (F := F) c) :
    (((c : Thread nD τ).loc main_v6) ↦{fullShare} X : sProp 𝕄) = bigSep Finset.univ fun n => homeP c uArr X n := by
  rw [Ring.pointsTo_blocks (ℓ := (c : Thread nD τ).loc main_v6) (fun n => (blkRect n).set) blk_disjoint blk_cover]
  exact bigSep_congr fun n _ => by unfold homeP; rw [uBlk_set]; rfl
theorem d_blocks (X : BufD (F := F) c) :
    (((c : Thread nD τ).loc main_arg1) ↦{fullShare} X : sProp 𝕄) = bigSep Finset.univ fun n => dhomeP c X n := by
  rw [Ring.pointsTo_blocks (ℓ := (c : Thread nD τ).loc main_arg1) (fun n => (dblkRect n).set) dblk_disjoint dblk_cover]
  exact bigSep_congr fun n _ => by unfold dhomeP; rw [dBlk_set]; rfl

/-! ## The slots -/

theorem bigSep4 {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

section Slots
variable (b : Memref sig .tc .vmem S4x8x100000 .f32) (a : DmaSems sig S4) (I : Fin 4 → Finset (Idx (b.view.loc (c : Thread nD τ))))
  (hI : ∀ (s : Fin 4) (f : Buf (Elt F) (b.view.loc (c : Thread nD τ))),
    (b.view.loc (c : Thread nD τ) ↦[I s]{fullShare} f : sProp (MT nD τ sig (HIx 1) (Elt F) ℕ UU ℕ)) = slotP c b s f)
  (hd : ∀ s s' : Fin 4, s ≠ s' → Disjoint (I s) (I s')) (hc : Finset.univ.biUnion I = Finset.univ)

include hI hd hc in
theorem slots_split :
    (iprop(∃ f : Buf (Elt F) (b.view.loc (c : Thread nD τ)), b.view.loc (c : Thread nD τ) ↦{fullShare} f) : sProp 𝕄)
      ⊢ iprop((∃ f, slotP c b 0 f) ∗ (∃ f, slotP c b 1 f) ∗ (∃ f, slotP c b 2 f) ∗ (∃ f, slotP c b 3 f)) := by
  iintro ⟨%f, H⟩
  ihave H := (Entails.of_eq ((Ring.pointsTo_blocks (ℓ := b.view.loc (c : Thread nD τ)) I hd hc f).trans ((bigSep_congr fun s _ => hI s f).trans (bigSep4 _)))) $$ H
  icases H with ⟨H0, H1, H2, H3⟩
  isplitl [H0]; · iexists f; iexact H0
  isplitl [H1]; · iexists f; iexact H1
  isplitl [H2]; · iexists f; iexact H2
  iexists f; iexact H3

include hI hd hc in
theorem slots_join [∀ e, Nonempty (Elt F e)] :
    iprop((∃ f, slotP c b 0 f) ∗ (∃ f, slotP c b 1 f) ∗ (∃ f, slotP c b 2 f) ∗ (∃ f, slotP c b 3 f))
      ⊢ (iprop(∃ f : Buf (Elt F) (b.view.loc (c : Thread nD τ)), b.view.loc (c : Thread nD τ) ↦{fullShare} f) : sProp 𝕄) := by
  refine (Entails.of_eq (bigSep4 (fun s => iprop(∃ f, slotP c b s f))).symm).trans ?_
  refine (bigSep_mono (Ψ := fun s => iprop(∃ f, b.view.loc (c : Thread nD τ) ↦[I s]{fullShare} f)) fun s _ => ?_).trans
    (Ring.pointsTo_blocks_join_exists (ℓ := b.view.loc (c : Thread nD τ)) I hd hc (fun _ => Classical.arbitrary _))
  show (iprop(∃ f, slotP c b s f) : sProp 𝕄) ⊢ iprop(∃ f, b.view.loc (c : Thread nD τ) ↦[I s]{fullShare} f)
  iintro ⟨%f, H⟩
  iexists f
  iapply (Entails.of_eq (hI s f).symm); iexact H

/-- The buffer whole and the four semaphores at zero are the four slots free. -/
abbrev freeAll : sProp 𝕄 := iprop(freeP c a b (Ring.sl 4 0) ∗ freeP c a b (Ring.sl 4 1) ∗ freeP c a b (Ring.sl 4 2) ∗ freeP c a b (Ring.sl 4 3))

include hI hd hc in
theorem free_in :
    iprop((∃ f : Buf (Elt F) (b.view.loc (c : Thread nD τ)), b.view.loc (c : Thread nD τ) ↦{fullShare} f) ∗ cellP c a 0 ∗ cellP c a 1 ∗ cellP c a 2 ∗ cellP c a 3)
      ⊢ (freeAll c b a : sProp 𝕄) := by
  iintro ⟨H, C0, C1, C2, C3⟩
  ihave H := (slots_split c b I hI hd hc) $$ H
  icases H with ⟨H0, H1, H2, H3⟩
  isplitl [C0 H0]; · isplitl [C0]; (· iexact C0); iexact H0
  isplitl [C1 H1]; · isplitl [C1]; (· iexact C1); iexact H1
  isplitl [C2 H2]; · isplitl [C2]; (· iexact C2); iexact H2
  isplitl [C3]; (· iexact C3); iexact H3

include hI hd hc in
theorem free_out [∀ e, Nonempty (Elt F e)] :
    (freeAll c b a : sProp 𝕄)
      ⊢ iprop((∃ f : Buf (Elt F) (b.view.loc (c : Thread nD τ)), b.view.loc (c : Thread nD τ) ↦{fullShare} f) ∗ cellP c a 0 ∗ cellP c a 1 ∗ cellP c a 2 ∗ cellP c a 3) := by
  iintro ⟨⟨C0, H0⟩, ⟨C1, H1⟩, ⟨C2, H2⟩, ⟨C3, H3⟩⟩
  isplitl [H0 H1 H2 H3]
  · iapply (slots_join c b I hI hd hc)
    isplitl [H0]; · iexact H0
    isplitl [H1]; · iexact H1
    isplitl [H2]; · iexact H2
    iexact H3
  isplitl [C0]; · iexact C0
  isplitl [C1]; · iexact C1
  isplitl [C2]; · iexact C2
  iexact C3

end Slots

theorem tSlot_set (s : Fin 4) : (slotOf tBuf s).view.set = (slotRect s).set := by
  unfold slotOf; rw [Memref.set_view_squeeze]; exact View.set_slice_whole _ _
theorem dSlot_set (s : Fin 4) : (slotOf dBuf s).view.set = (slotRect s).set := by
  unfold slotOf; rw [Memref.set_view_squeeze]; exact View.set_slice_whole _ _
theorem uSlot_set (s : Fin 4) : (slotOf uBuf s).view.set = (slotRect s).set := by
  unfold slotOf; rw [Memref.set_view_squeeze]; exact View.set_slice_whole _ _

/-! ## The rings at both ends -/

theorem tRing_in (X : BufT (F := F) c) :
    iprop((((c : Thread nD τ).loc main_v5) ↦{fullShare} X) ∗ freeAll c tBuf cc0_scratch3) ⊢ (tRing c X 0 : sProp 𝕄) := by
  unfold tRing; rw [ring_zero, t_blocks]; exact .rfl
theorem uRing_in (X : BufU (F := F) c) :
    iprop((((c : Thread nD τ).loc main_v6) ↦{fullShare} X) ∗ freeAll c uBuf cc0_scratch5) ⊢ (uRing c X 0 : sProp 𝕄) := by
  unfold uRing; rw [ring_zero, u_blocks]; exact .rfl
theorem dRing_in (X : BufD (F := F) c) :
    iprop((((c : Thread nD τ).loc main_arg1) ↦{fullShare} X) ∗ freeAll c dBuf cc0_scratch4) ⊢ (dRing c X 0 : sProp 𝕄) := by
  unfold dRing; rw [ring_zero, d_blocks]; exact .rfl

theorem tRing_out (X : BufT (F := F) c) :
    (tRing c X 36 : sProp 𝕄) ⊢ iprop((((c : Thread nD τ).loc main_v5) ↦{fullShare} X) ∗ freeAll c tBuf cc0_scratch3) := by
  rw [t_blocks]; exact ring_last (NB := 36) _ _ _ (tFree_add c) (by decide)
theorem uRing_out (X : BufU (F := F) c) :
    (uRing c X 36 : sProp 𝕄) ⊢ iprop((((c : Thread nD τ).loc main_v6) ↦{fullShare} X) ∗ freeAll c uBuf cc0_scratch5) := by
  rw [u_blocks]; exact ring_last (NB := 36) _ _ _ (uFree_add c) (by decide)
theorem dRing_out (X : BufD (F := F) c) :
    (dRing c X 36 : sProp 𝕄) ⊢ iprop((((c : Thread nD τ).loc main_arg1) ↦{fullShare} X) ∗ freeAll c dBuf cc0_scratch4) := by
  rw [d_blocks]; exact ring_last (NB := 32) _ _ _ (dFree_add c) (by decide)

end Arrays

end Cert.Proof.Rings

end
-- ==== Proof.RegionDat.lean ====
/-
  The TensorCore kernel's proof data over its grid: what each window's buffer holds from point to point, the three rings as the
  invariant, and the body's obligation at every point.
-/
module

public import proofs.«01_k».proof.Proof.Point
public import Idealize.ShloMosaic.Lib.Pipeline.Regions
public import Idealize.ShloMosaic.Lib.WritesUnit

@[expose] public section

set_option maxRecDepth 16384

noncomputable section

namespace Cert.Proof.Rings

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

section Data
variable (c : Dev nD) (VV : (b : Ref sig .tc) → Buf (Elt F) ((c : Thread nD τ).loc b))

/-- The three arrays the kernel streams and the ids it is given, as the region finds them. -/
abbrev vT : BufT (F := F) c := VV main_v5
abbrev vD : BufD (F := F) c := VV main_arg1
abbrev vU : BufU (F := F) c := VV main_v6
abbrev vI : S36x8x1.Idx → Elt F .i32 := VV main_v4

/-- Row `p` of the ids. -/
def idsRow (p : ℕ) : Vec F S1x8x1 .i32 := fun x => vI c VV (ix3 (Ring.bk 36 p) (x 1) (0 : Fin 1))

/-- The row of each output that point `p` stores. -/
def rowI (p : ℕ) : IVec S1x8x1 32 := idsOut c (vT c VV) (vD c VV) (vU c VV) p
def rowD (p : ℕ) : FVec F S1x8x1 .f32 := dtokVal (idsRow c VV p) (dword c (vD c VV) (Ring.bk 32 p))
def rowT (p : ℕ) : FVec F S1x8x1 .f32 := ttokVal (idsRow c VV p) (word c tArr (vT c VV) (Ring.bk 36 p))

/-- The first `n` rows of an output hold what the points below `n` store. -/
def rowsI (n : ℕ) (X : S36x8x1.Idx → Elt F .i32) : Prop := ∀ r : Fin 36, r.val < n → ∀ j : Fin 8, X (ix3 r j (0 : Fin 1)) = rowI c VV r.val (ix3 (0 : Fin 1) j (0 : Fin 1))
def rowsD (n : ℕ) (X : S32x8x1.Idx → Elt F .f32) : Prop := ∀ r : Fin 32, r.val < n → ∀ j : Fin 8, X (ix3 r j (0 : Fin 1)) = rowD c VV r.val (ix3 (0 : Fin 1) j (0 : Fin 1))
def rowsT (n : ℕ) (X : S32x8x1.Idx → Elt F .f32) : Prop := ∀ r : Fin 32, r.val < n → ∀ j : Fin 8, X (ix3 r j (0 : Fin 1)) = rowT c VV r.val (ix3 (0 : Fin 1) j (0 : Fin 1))

/-- What a window's buffer may hold after point `t`. -/
def afterR : (w : Fin cfg0.W) → Fin cfg0.N → (Y X : (cfg0.win w).block.Idx → Elt F (cfg0.win w).elt) → Prop
  | 0 => fun _ _ X => X = vI c VV
  | 1 => fun t _ X => rowsI c VV (t.val + 1) X
  | 2 => fun t _ X => rowsD c VV (t.val + 1) X
  | 3 => fun t _ X => rowsT c VV (t.val + 1) X
  | ⟨_ + 4, h⟩ => absurd h (Nat.not_lt.2 (Nat.le_add_left _ _))

/-- What holds before point `p`: the waits are allowed, and the three rings. -/
def ringsAt (O : CellTallies nD τ sig (HIx 1)) (p : ℕ) : sProp 𝕄 :=
  iprop(□ Transfers.MayWaits (c : Thread nD τ) (default : HIx 1) O ∗ tRing c (vT c VV) p ∗ uRing c (vU c VV) p ∗ dRing c (vD c VV) p)

variable (O : CellTallies nD τ sig (HIx 1)) (Rc : Set (SemLoc sig × HIx 1))

/-- The proof data of the region on core `c`. -/
def rdat : RDat τ (Elt F) (HIx 1) ℕ UU ℕ cfg0 c where
  A w := VV (Pipeline.arrRef spec0 w)
  after := afterR c VV
  Φ t := ringsAt c VV O t.val
  q _ := fullShare
  owed _ := O
  recorded _ := Rc

/-! ## What the body finds -/

theorem coords_val (t : Fin cfg0.N) : ((grid0.coords t) 0).val = t.val := by
  revert t; decide +kernel

theorem N36 (t : Fin cfg0.N) : t.val < 36 := t.isLt.trans_eq N_0

theorem fetched0 (t : Fin cfg0.N) (d : (cfg0.win 0).block.Idx → Elt F (cfg0.win 0).elt) :
    (rdat c VV O Rc).fetched 0 t d = vI c VV := by
  have h : ∀ j, (rdat c VV O Rc).fetched 0 t d j = VV main_v4 ((win0_0.rect t).emb j) := fun j => rfl
  funext j
  rw [h]
  show VV main_v4 _ = VV main_v4 j
  congr 1
  funext a
  apply Fin.ext
  rw [Rect.emb_apply]
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

theorem finds0 (t : Fin cfg0.N) (Y : (cfg0.win 0).block.Idx → Elt F (cfg0.win 0).elt) (h : (rdat c VV O Rc).Finds 0 t Y) : Y = vI c VV := by
  by_cases h0 : t.val = 0
  · rw [RDat.finds_of_fetch _ (by rw [fetch0_0]; have := h0; omega)] at h
    obtain ⟨d, rfl⟩ := h
    exact fetched0 c VV O Rc t d
  · have hf : (cfg0.win 0).fetch t = false := by
      rw [Bool.eq_false_iff]; intro hh; rw [fetch0_0] at hh; have := N36 t; omega
    rw [RDat.finds_of_pos _ hf h0] at h
    rcases h with h | ⟨Y', -, h⟩
    · exact absurd h (by decide +revert)
    · exact h

/-- Before point `t` the rows of the points below it are in the outputs' buffers. -/
theorem finds1 (t : Fin cfg0.N) (Y : (cfg0.win 1).block.Idx → Elt F (cfg0.win 1).elt) (h : (rdat c VV O Rc).Finds 1 t Y) : rowsI c VV t.val Y := by
  by_cases h0 : t.val = 0
  · intro r hr; omega
  · rw [RDat.finds_of_pos _ rfl h0] at h
    rcases h with h | ⟨Y', -, h⟩
    · rw [flush0_1] at h; have := N36 t; simp only at h; omega
    · intro r hr; exact h r (by simp only; omega)
theorem finds2 (t : Fin cfg0.N) (Y : (cfg0.win 2).block.Idx → Elt F (cfg0.win 2).elt) (h : (rdat c VV O Rc).Finds 2 t Y) : rowsD c VV t.val Y := by
  by_cases h0 : t.val = 0
  · intro r hr; omega
  · rw [RDat.finds_of_pos _ rfl h0] at h
    rcases h with h | ⟨Y', -, h⟩
    · rw [flush0_2] at h; have := N36 t; simp only at h; omega
    · intro r hr; exact h r (by simp only; omega)
theorem finds3 (t : Fin cfg0.N) (Y : (cfg0.win 3).block.Idx → Elt F (cfg0.win 3).elt) (h : (rdat c VV O Rc).Finds 3 t Y) : rowsT c VV t.val Y := by
  by_cases h0 : t.val = 0
  · intro r hr; omega
  · rw [RDat.finds_of_pos _ rfl h0] at h
    rcases h with h | ⟨Y', -, h⟩
    · rw [flush0_3] at h; have := N36 t; simp only at h; omega
    · intro r hr; exact h r (by simp only; omega)

/-! ## What a stored row leaves -/

omit [FloatOps F] in
/-- One more row stored: every row below is as it was, the row itself as stored. -/
theorem row36_read (M : Memref sig .tc .vmem S36x8x1 .i32) (f : M.view.ty.Contents (Elt F)) (n : ℕ) (hn : n < 36) (w : S1x8x1.Idx → Elt F .i32)
    (r : Fin 36) (j : Fin 8) :
    M.view.read (Elt F) (M.view.writes (Elt F) f [⟨row36 n hn, w⟩]) (ix3 r j (0 : Fin 1))
      = if r.val = n then w (ix3 (0 : Fin 1) j (0 : Fin 1)) else M.view.read (Elt F) f (ix3 r j (0 : Fin 1)) := by
  by_cases h : r.val = n
  · rw [if_pos h]
    exact View.read_writes_cons_unit_of_mem M.view f (row36_inb hn) w [] (ix3 r j (0 : Fin 1)) (ix3 (0 : Fin 1) j (0 : Fin 1)) rfl
      (fun a => by match a with
        | ⟨0, _⟩ => exact h
        | ⟨1, _⟩ => exact (Nat.zero_add _).symm
        | ⟨2, _⟩ => rfl)
  · rw [if_neg h]
    exact View.read_writes_cons_unit_of_not_mem M.view f (row36_inb hn) w [] (ix3 r j (0 : Fin 1)) rfl (0 : Fin 3)
      (by show r.val < n ∨ n + 1 ≤ r.val; omega)
omit [FloatOps F] in
theorem row32_read (M : Memref sig .tc .vmem S32x8x1 .f32) (f : M.view.ty.Contents (Elt F)) (n : ℕ) (hn : n < 32) (w : S1x8x1.Idx → Elt F .f32)
    (r : Fin 32) (j : Fin 8) :
    M.view.read (Elt F) (M.view.writes (Elt F) f [⟨row32 n hn, w⟩]) (ix3 r j (0 : Fin 1))
      = if r.val = n then w (ix3 (0 : Fin 1) j (0 : Fin 1)) else M.view.read (Elt F) f (ix3 r j (0 : Fin 1)) := by
  by_cases h : r.val = n
  · rw [if_pos h]
    exact View.read_writes_cons_unit_of_mem M.view f (row32_inb hn) w [] (ix3 r j (0 : Fin 1)) (ix3 (0 : Fin 1) j (0 : Fin 1)) rfl
      (fun a => by match a with
        | ⟨0, _⟩ => exact h
        | ⟨1, _⟩ => exact (Nat.zero_add _).symm
        | ⟨2, _⟩ => rfl)
  · rw [if_neg h]
    exact View.read_writes_cons_unit_of_not_mem M.view f (row32_inb hn) w [] (ix3 r j (0 : Fin 1)) rfl (0 : Fin 3)
      (by show r.val < n ∨ n + 1 ≤ r.val; omega)

omit [FloatOps F] in
/-- The row of ids a point loads from the first window. -/
theorem idRow_eq (i : grid0.Coords) (M : Memref sig .tc .vmem S36x8x1 .i32) (f : Buf (Elt F) (M.view.loc (c : Thread nD τ)))
    (h : M.view.read (Elt F) f = vI c VV) : idRow c i M f = idsRow c VV (i 0).val := by
  funext x
  show M.view.read (Elt F) f ((row36 (i 0).val (i 0).isLt).toLoadRect.idx x) = _
  rw [h]
  unfold idsRow
  congr 1
  funext a
  apply Fin.ext
  have hi : (i 0).val < 36 := (i 0).isLt
  match a with
  | ⟨0, _⟩ =>
    have h0 : (x 0).val < 1 := (x 0).isLt
    show (i 0).val + 1 * (x 0).val = (Ring.bk 36 (i 0).val).val
    rw [Ring.bk_val hi]; omega
  | ⟨1, _⟩ => show 0 + 1 * (x 1).val = (x 1).val; omega
  | ⟨2, _⟩ => have h2 : (x 2).val < 1 := (x 2).isLt; show 0 + 1 * (x 2).val = 0; omega

theorem rowsI_step (i : grid0.Coords) (n : ℕ) (hn : (i 0).val = n) (M : Memref sig .tc .vmem S36x8x1 .i32) (f : M.view.ty.Contents (Elt F)) (h : rowsI c VV n (M.view.read (Elt F) f)) :
    rowsI c VV (n + 1) (M.view.read (Elt F) (M.view.writes (Elt F) f [⟨row36 (i 0).val (i 0).isLt, idsOut c (vT c VV) (vD c VV) (vU c VV) (i 0).val⟩])) := by
  subst hn
  intro r hr j
  rw [row36_read (hn := (i 0).isLt)]
  by_cases e : r.val = (i 0).val
  · rw [if_pos e, e]; rfl
  · rw [if_neg e]; exact h r (by omega) j

theorem rowsD_step (i : grid0.Coords) (M4 : Memref sig .tc .vmem S36x8x1 .i32) (f4 : Buf (Elt F) (M4.view.loc (c : Thread nD τ)))
    (h4 : M4.view.read (Elt F) f4 = vI c VV) (M : Memref sig .tc .vmem S32x8x1 .f32) (f : Buf (Elt F) (M.view.loc (c : Thread nD τ)))
    (h : rowsD c VV (i 0).val (M.view.read (Elt F) f)) :
    rowsD c VV ((i 0).val + 1) (M.view.read (Elt F) (out6 c (vD c VV) i M4 M f4 f)) := by
  intro r hr j
  unfold out6
  split
  · rename_i h32
    rw [row32_read]
    by_cases e : r.val = (i 0).val
    · rw [if_pos e, e, idRow_eq c VV i M4 f4 h4]; rfl
    · rw [if_neg e]; exact h r (by omega) j
  · have := r.isLt; exact h r (by omega) j
theorem rowsT_step (i : grid0.Coords) (M4 : Memref sig .tc .vmem S36x8x1 .i32) (f4 : Buf (Elt F) (M4.view.loc (c : Thread nD τ)))
    (h4 : M4.view.read (Elt F) f4 = vI c VV) (M : Memref sig .tc .vmem S32x8x1 .f32) (f : Buf (Elt F) (M.view.loc (c : Thread nD τ)))
    (h : rowsT c VV (i 0).val (M.view.read (Elt F) f)) :
    rowsT c VV ((i 0).val + 1) (M.view.read (Elt F) (out7 c (vT c VV) i M4 M f4 f)) := by
  intro r hr j
  unfold out7
  split
  · rename_i h32
    rw [row32_read]
    by_cases e : r.val = (i 0).val
    · rw [if_pos e, e, idRow_eq c VV i M4 f4 h4]; rfl
    · rw [if_neg e]; exact h r (by omega) j
  · have := r.isLt; exact h r (by omega) j

/-! ## The obligation -/

/-- The body table's row at the point is the body as `bodyAt0` spells it. -/
theorem defs₀_row (t : Fin cfg0.N) : defs₀ (F := F) .tc cfg0.body (cfg0.bodyArgs t (cfg0.slots t)) = bodyAt0 t := by
  rfl

omit [FloatOps F] in
theorem left_at {s : Shape} {e : EltTy} (M : Memref sig .tc .vmem s e) (f : Buf (Elt F) (M.view.loc (c : Thread nD τ)))
    (P : (s.Idx → Elt F e) → Prop) (h : P (M.view.read (Elt F) f)) :
    (outP c M f : sProp 𝕄) ⊢ iprop(∃ X, ⌜P X⌝ ∗ ∃ f', ⌜M.view.read (Elt F) f' = X⌝ ∗ M.view.loc (c : Thread nD τ) ↦[M.view.set]{fullShare} f') := by
  iintro H
  iexists (M.view.read (Elt F) f)
  isplitr; · ipureintro; exact h
  iexists f
  isplitr; · ipureintro; rfl
  iexact H

theorem body_obligation (hRc : ∀ p : SemLoc sig × HIx 1, p.2 = none → p ∈ Rc) : (rdat c VV O Rc).BodyObligation (defs₀ (F := F)) 𝒱₀ (none : HIx 1) Set.univ := by
  intro t Y hY
  rw [bigSep_W0, bigSep_W0, defs₀_row]
  have h0 := finds0 c VV O Rc t _ (hY 0)
  have h1 := finds1 c VV O Rc t _ (hY 1)
  have h2 := finds2 c VV O Rc t _ (hY 2)
  have h3 := finds3 c VV O Rc t _ (hY 3)
  have hc := coords_val t
  show iprop(ringsAt c VV O t.val ∗ (rdat c VV O Rc).owesAt none t.castSucc ∗ owns (c : Thread nD τ) (st0_0 t) fullShare (Y 0) ∗ owns (c : Thread nD τ) (st0_1 t) fullShare (Y 1)
      ∗ owns (c : Thread nD τ) (st0_2 t) fullShare (Y 2) ∗ owns (c : Thread nD τ) (st0_3 t) fullShare (Y 3))
    ⊢ wp frame (wpE (defs₀ (F := F)) 𝒱₀ (c : Thread nD τ) none) Set.univ (bodyAt0 t) fun _ =>
      iprop(ringsAt c VV O (t.val + 1) ∗ (rdat c VV O Rc).owesAt none t.succ
        ∗ (∃ X, ⌜X = vI c VV⌝ ∗ owns (c : Thread nD τ) (st0_0 t) fullShare X) ∗ (∃ X, ⌜rowsI c VV (t.val + 1) X⌝ ∗ owns (c : Thread nD τ) (st0_1 t) fullShare X)
        ∗ (∃ X, ⌜rowsD c VV (t.val + 1) X⌝ ∗ owns (c : Thread nD τ) (st0_2 t) fullShare X) ∗ (∃ X, ⌜rowsT c VV (t.val + 1) X⌝ ∗ owns (c : Thread nD τ) (st0_3 t) fullShare X))
  unfold ringsAt RDat.owesAt Pipeline.owesWithin owns
  iintro ⟨⟨#Hmw, HT, HU, HD⟩, ⟨%W, %hW, HO⟩, ⟨%f4, %e4, H4⟩, ⟨%f5, %e5, H5⟩, ⟨%f6, %e6, H6⟩, ⟨%f7, %e7, H7⟩⟩
  iapply (wp_wand_r Idealize.ShloMosaic.frame (wpE (defs₀ (F := F)) 𝒱₀ (c : Thread nD τ) none))
  isplitl [HO HT HU HD H4 H5 H6 H7]
  · iapply (point c (vT c VV) (vD c VV) (vU c VV) (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) O W f4 f5 f6 f7)
    rw [hc]
    isplitr; · iexact Hmw
    isplitl [HO]; · iexact HO
    isplitl [HT]; · iexact HT
    isplitl [HU]; · iexact HU
    isplitl [HD]; · iexact HD
    unfold winPre
    isplitl [H4]; · iexact H4
    isplitl [H5]; · iexact H5
    isplitl [H6]; · iexact H6
    iexact H7
  rw [hc]
  iintro %_ ⟨⟨%W', %hW', HO⟩, HT, HU, HD, H4, H5, H6, H7⟩
  isplitl [HT HU HD]
  · isplitr; · iexact Hmw
    isplitl [HT]; · iexact HT
    isplitl [HU]; · iexact HU
    iexact HD
  isplitl [HO]
  · iexists W'
    isplitr
    · ipureintro
      intro p hp
      rcases hW' p hp with h | h
      · exact hW h
      · exact Or.inl (hRc p h)
    iexact HO
  have h4 : (st0_0 t).view.read (Elt F) f4 = vI c VV := e4.trans h0
  have g5 := rowsI_step c VV (grid0.coords t) t.val hc (st0_1 t) f5 (by rw [e5]; exact h1)
  have g6 := rowsD_step c VV (grid0.coords t) (st0_0 t) f4 h4 (st0_2 t) f6 (by rw [hc, e6]; exact h2)
  have g7 := rowsT_step c VV (grid0.coords t) (st0_0 t) f4 h4 (st0_3 t) f7 (by rw [hc, e7]; exact h3)
  rw [hc] at g6 g7
  isplitl [H4]; · iapply (left_at c (st0_0 t) f4 (fun X => X = vI c VV) h4); iexact H4
  isplitl [H5]
  · iapply (left_at c (st0_1 t) _ (fun X => rowsI c VV (t.val + 1) X) g5); iexact H5
  isplitl [H6]; · iapply (left_at c (st0_2 t) _ (fun X => rowsD c VV (t.val + 1) X) g6); iexact H6
  iapply (left_at c (st0_3 t) _ (fun X => rowsT c VV (t.val + 1) X) g7); iexact H7

end Data

end Cert.Proof.Rings

end
-- ==== Proof.Region.lean ====
/-
  The TensorCore kernel as a region of `main`: entered from every array of the core's at a valuation, left with the three
  results' rows known and every other array as it was.
-/
module

public import proofs.«01_k».proof.Proof.Blocks
public import proofs.«01_k».proof.Proof.RegionDat
public import Idealize.ShloMosaic.Lib.Pipeline.ArrRel
public import Idealize.ShloMosaic.Lib.Pipeline.RegionsLoop
public import Idealize.ShloMosaic.Lib.StableHlo.Run

@[expose] public section

set_option maxRecDepth 16384

noncomputable section

namespace Cert.Proof.Rings

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

/-! ## The program's SparseCore configuration, the body table, and where the pipeline's rounds live -/

abbrev ΛP : Labels := Pipeline.Sig Λ₀ (Fin 1) fun p => (pcfgs (F := F) p).Adm
abbrev K : SparseCore.Cfg τ sig (ΛP (F := F)) 1 := sc (F := F)
abbrev EH : Emb UH (MT nD τ sig (HIx 1) (Elt F) ℕ UU ℕ) := embL
abbrev EP : Emb UP (MT nD τ sig (HIx 1) (Elt F) ℕ UU ℕ) := (Emb.inl : Emb UP (UP × Counters)).trans embR

abbrev adm : (p : Fin 1) → (pcfgs (F := F) p).Adm := fun p => (cfgs p).toPCfg_adm

/-! ## The kernel's own semaphores -/

/-- Ring `r`'s semaphore `s`. -/
def osem : Fin 3 × Fin 4 → SemLoc sig
  | (0, s) => SemLoc.dma (semOf cc0_scratch3 s).sem
  | (1, s) => SemLoc.dma (semOf cc0_scratch4 s).sem
  | (2, s) => SemLoc.dma (semOf cc0_scratch5 s).sem

theorem osem_facts : Pipeline.OwnSemFacts spec0 osem := by decide +kernel

omit [FloatOps F] in
theorem ownSems_eq (c : Dev nD) :
    (Pipeline.ownSems0 osem c : sProp 𝕄)
      = iprop((cellP c cc0_scratch3 0 ∗ cellP c cc0_scratch3 1 ∗ cellP c cc0_scratch3 2 ∗ cellP c cc0_scratch3 3)
        ∗ (cellP c cc0_scratch4 0 ∗ cellP c cc0_scratch4 1 ∗ cellP c cc0_scratch4 2 ∗ cellP c cc0_scratch4 3)
        ∗ (cellP c cc0_scratch5 0 ∗ cellP c cc0_scratch5 1 ∗ cellP c cc0_scratch5 2 ∗ cellP c cc0_scratch5 3)) := by
  have h : (Pipeline.ownSems0 osem c : sProp 𝕄)
      = bigSep Finset.univ fun r : Fin 3 => bigSep Finset.univ fun s : Fin 4 => semVal ((c : Thread nD τ), osem (r, s)) 0 := by
    unfold Pipeline.ownSems0
    rw [bigSep_univ_prod]
  rw [h, bigSep_univ_eq_bigSepL [(0 : Fin 3), 1, 2] (by decide) (by decide)]
  show iprop((bigSep Finset.univ fun s : Fin 4 => semVal ((c : Thread nD τ), osem (0, s)) 0)
    ∗ (bigSep Finset.univ fun s : Fin 4 => semVal ((c : Thread nD τ), osem (1, s)) 0)
    ∗ (bigSep Finset.univ fun s : Fin 4 => semVal ((c : Thread nD τ), osem (2, s)) 0)) = _
  rw [bigSep4, bigSep4, bigSep4]
  rfl

/-! ## The arrays around the region -/

/-- The three arrays the kernel copies from, and the windows' arrays. -/
abbrev anyRefs : Finset (Ref sig .tc) := {main_v5, main_v6, main_arg1}
abbrev winRefs : Finset (Ref sig .tc) := Finset.univ.image (Pipeline.arrRef spec0)
abbrev freeRefs : Finset (Ref sig .tc) := (Finset.univ.filter fun b : Ref sig .tc => ¬ b.isScoped) \ winRefs

variable (W : Dev nD → Valuation τ sig (Elt F)) (O : Dev nD → CellTallies nD τ sig (HIx 1)) (Rc : Set (SemLoc sig × HIx 1))

/-- What the TensorCore's arrays hold at a valuation. -/
abbrev VW (V : Valuation τ sig (Elt F)) (c : Dev nD) : (b : Ref sig .tc) → Buf (Elt F) ((c : Thread nD τ).loc b) := fun b => V (Proc.devRef .tc b)

omit [FloatOps F] in
theorem rest_split (c : Dev nD) (V : (b : Ref sig .tc) → Buf (Elt F) ((c : Thread nD τ).loc b)) :
    (Pipeline.unscopedRest spec0 c V : sProp 𝕄)
      = iprop(((((c : Thread nD τ).loc main_v5) ↦{fullShare} V main_v5) ∗ (((c : Thread nD τ).loc main_v6) ↦{fullShare} V main_v6)
          ∗ (((c : Thread nD τ).loc main_arg1) ↦{fullShare} V main_arg1))
        ∗ bigSep (freeRefs \ anyRefs) fun b => ((c : Thread nD τ).loc b) ↦{fullShare} V b) := by
  unfold Pipeline.unscopedRest
  rw [SparseCore.bigSep_sdiff_split' (show anyRefs ⊆ freeRefs by decide),
    bigSep_eq_bigSepL_of_eq [main_v5, main_v6, main_arg1] (show anyRefs = _ by decide) (by decide)]
  rfl

abbrev rdats (p : Fin 1) (c : Dev nD) : RDat τ (Elt F) (HIx 1) ℕ UU ℕ (Pipeline.pin (pcfgs (F := F)) adm p) c :=
  match p with
  | 0 => rdat c (VW (W c) c) (O c) Rc

/-- What the region leaves: the rows in the three outputs, every other array as it was. -/
def Left (c : Dev nD) (V V' : Valuation τ sig (Elt F)) : Prop :=
  rowsI c (VW V c) 36 (V' (Proc.devRef .tc main_v7_0)) ∧ rowsD c (VW V c) 32 (V' (Proc.devRef .tc main_v7_1)) ∧ rowsT c (VW V c) 32 (V' (Proc.devRef .tc main_v7_2))
    ∧ ∀ b, b ≠ Proc.devRef .tc main_v7_0 → b ≠ Proc.devRef .tc main_v7_1 → b ≠ Proc.devRef .tc main_v7_2 → V' b = V b

/-- The core's `owes`, beside the waits it may have recorded. -/
def owesIn (c : Dev nD) : sProp 𝕄 := iprop(∃ R : Waits sig (HIx 1), ⌜(↑R : Set (SemLoc sig × HIx 1)) ⊆ Rc⌝ ∗ owes (c : Thread nD τ) (O c) R)

/-- The three outputs at contents with the rows, and every other array as it was, are the arrays at a valuation the region leaves. -/
theorem left_join (c : Dev nD) (V : Valuation τ sig (Elt F)) (X1 : S36x8x1.Idx → Elt F .i32) (X2 X3 : S32x8x1.Idx → Elt F .f32)
    (h1 : rowsI c (VW V c) 36 X1) (h2 : rowsD c (VW V c) 32 X2) (h3 : rowsT c (VW V c) 32 X3) :
    iprop((((c : Thread nD τ).loc main_v4) ↦{fullShare} VW V c main_v4)
        ∗ (((c : Thread nD τ).loc main_v7_0) ↦{fullShare} (X1 : Buf (Elt F) ((c : Thread nD τ).loc main_v7_0)))
        ∗ (((c : Thread nD τ).loc main_v7_1) ↦{fullShare} (X2 : Buf (Elt F) ((c : Thread nD τ).loc main_v7_1)))
        ∗ (((c : Thread nD τ).loc main_v7_2) ↦{fullShare} (X3 : Buf (Elt F) ((c : Thread nD τ).loc main_v7_2)))
        ∗ Pipeline.unscopedRest spec0 c (VW V c))
      ⊢ (iprop(∃ V' : Valuation τ sig (Elt F), ⌜Left c V V'⌝ ∗ unscopedBufs c (VW V' c)) : sProp 𝕄) := by
  set V' : Valuation τ sig (Elt F) := Function.update (Function.update (Function.update V (Proc.devRef .tc main_v7_0) X1)
    (Proc.devRef .tc main_v7_1) X2) (Proc.devRef .tc main_v7_2) X3 with hV'
  have e0 : V' (Proc.devRef .tc main_v7_0) = X1 := by
    rw [hV', Function.update_of_ne (by decide), Function.update_of_ne (by decide), Function.update_self]
  have e1 : V' (Proc.devRef .tc main_v7_1) = X2 := by
    rw [hV', Function.update_of_ne (by decide), Function.update_self]
  have e2 : V' (Proc.devRef .tc main_v7_2) = X3 := by rw [hV', Function.update_self]
  have eo : ∀ b, b ≠ Proc.devRef .tc main_v7_0 → b ≠ Proc.devRef .tc main_v7_1 → b ≠ Proc.devRef .tc main_v7_2 → V' b = V b := by
    intro b n0 n1 n2
    rw [hV', Function.update_of_ne n2, Function.update_of_ne n1, Function.update_of_ne n0]
  clear hV'
  clear_value V'
  have hrest : (Pipeline.unscopedRest spec0 c (VW V c) : sProp 𝕄) = Pipeline.unscopedRest spec0 c (VW V' c) := by
    unfold Pipeline.unscopedRest
    refine bigSep_congr fun b hb => ?_
    have hb' : b ∉ winRefs := (Finset.mem_sdiff.mp hb).2
    have hne : ∀ b' ∈ winRefs, (Proc.devRef .tc b : DevRef τ sig) ≠ Proc.devRef .tc b' := fun b' hm e =>
      hb' (Proc.devRef_injective _ e ▸ hm)
    show (((c : Thread nD τ).loc b) ↦{fullShare} V (Proc.devRef .tc b)) = _
    rw [← eo _ (hne _ (by decide)) (hne _ (by decide)) (hne _ (by decide))]
  have hsplit : (unscopedBufs c (VW V' c) : sProp 𝕄)
      = iprop(((((c : Thread nD τ).loc main_v4) ↦{fullShare} VW V c main_v4)
        ∗ (((c : Thread nD τ).loc main_v7_0) ↦{fullShare} (X1 : Buf (Elt F) ((c : Thread nD τ).loc main_v7_0)))
        ∗ (((c : Thread nD τ).loc main_v7_1) ↦{fullShare} (X2 : Buf (Elt F) ((c : Thread nD τ).loc main_v7_1)))
        ∗ (((c : Thread nD τ).loc main_v7_2) ↦{fullShare} (X3 : Buf (Elt F) ((c : Thread nD τ).loc main_v7_2))))
        ∗ Pipeline.unscopedRest spec0 c (VW V c)) := by
    rw [Pipeline.unscopedBufs_split cfgs (0 : Fin 1) launch0.win.arr_unscoped launch0.win.arr_inj c (VW V' c), bigSep_W0, hrest]
    have e4 : V (Proc.devRef .tc main_v4) = V' (Proc.devRef .tc main_v4) := (eo _ (by decide) (by decide) (by decide)).symm
    show iprop((_ ∗ _ ∗ _ ∗ _) ∗ _) = _
    rw [show VW V c main_v4 = V' (Proc.devRef .tc main_v4) from e4]
    subst e0 e1 e2
    rfl
  iintro ⟨H0, H1, H2, H3, Hr⟩
  iexists V'
  isplitr
  · ipureintro; exact ⟨e0 ▸ h1, e1 ▸ h2, e2 ▸ h3, eo⟩
  rw [hsplit]
  isplitr [Hr]
  · isplitl [H0]; · iexact H0
    isplitl [H1]; · iexact H1
    isplitl [H2]; · iexact H2
    iexact H3
  iexact Hr

/-! ## The rings' ends -/

/-- What the kernel's invariant is made of at entry and gives back at exit: the three arrays it copies from, and its semaphores at zero. -/
def Anys (c : Dev nD) (V : (b : Ref sig .tc) → Buf (Elt F) ((c : Thread nD τ).loc b)) : sProp 𝕄 :=
  iprop((((c : Thread nD τ).loc main_v5) ↦{fullShare} V main_v5) ∗ (((c : Thread nD τ).loc main_v6) ↦{fullShare} V main_v6)
          ∗ (((c : Thread nD τ).loc main_arg1) ↦{fullShare} V main_arg1))

omit [FloatOps F] in
theorem hI_t (c : Dev nD) (s : Fin 4) (f : Buf (Elt F) (tBuf.view.loc (c : Thread nD τ))) :
    (iprop(tBuf.view.loc (c : Thread nD τ) ↦[(slotRect s).set]{fullShare} f) : sProp 𝕄) = slotP c tBuf s f := by
  unfold slotP; rw [tSlot_set]; rfl
omit [FloatOps F] in
theorem hI_d (c : Dev nD) (s : Fin 4) (f : Buf (Elt F) (dBuf.view.loc (c : Thread nD τ))) :
    (iprop(dBuf.view.loc (c : Thread nD τ) ↦[(slotRect s).set]{fullShare} f) : sProp 𝕄) = slotP c dBuf s f := by
  unfold slotP; rw [dSlot_set]; rfl
omit [FloatOps F] in
theorem hI_u (c : Dev nD) (s : Fin 4) (f : Buf (Elt F) (uBuf.view.loc (c : Thread nD τ))) :
    (iprop(uBuf.view.loc (c : Thread nD τ) ↦[(slotRect s).set]{fullShare} f) : sProp 𝕄) = slotP c uBuf s f := by
  unfold slotP; rw [uSlot_set]; rfl

theorem rings_in (c : Dev nD) (V : (b : Ref sig .tc) → Buf (Elt F) ((c : Thread nD τ).loc b)) (O : CellTallies nD τ sig (HIx 1)) :
    iprop((□ Transfers.MayWaits (c : Thread nD τ) (default : HIx 1) O) ∗ Anys c V ∗ Pipeline.ownSems0 osem c ∗ Pipeline.scopedRest spec0 c)
      ⊢ (ringsAt c V O 0 : sProp 𝕄) := by
  unfold Anys ringsAt
  rw [ownSems_eq, scopedRest0_eq]
  iintro ⟨Hm, ⟨H5, H6, H1⟩, ⟨⟨T0, T1, T2, T3⟩, ⟨D0, D1, D2, D3⟩, ⟨U0, U1, U2, U3⟩⟩, ⟨B0, B1, B2⟩⟩
  isplitl [Hm]; · iexact Hm
  isplitl [H5 B0 T0 T1 T2 T3]
  · iapply (tRing_in c (vT c V))
    isplitl [H5]; · iexact H5
    iapply (free_in c tBuf cc0_scratch3 _ (hI_t c) slot_disjoint slot_cover)
    isplitl [B0]; · iexact B0
    isplitl [T0]; · iexact T0
    isplitl [T1]; · iexact T1
    isplitl [T2]; · iexact T2
    iexact T3
  isplitl [H6 B2 U0 U1 U2 U3]
  · iapply (uRing_in c (vU c V))
    isplitl [H6]; · iexact H6
    iapply (free_in c uBuf cc0_scratch5 _ (hI_u c) slot_disjoint slot_cover)
    isplitl [B2]; · iexact B2
    isplitl [U0]; · iexact U0
    isplitl [U1]; · iexact U1
    isplitl [U2]; · iexact U2
    iexact U3
  iapply (dRing_in c (vD c V))
  isplitl [H1]; · iexact H1
  iapply (free_in c dBuf cc0_scratch4 _ (hI_d c) slot_disjoint slot_cover)
  isplitl [B1]; · iexact B1
  isplitl [D0]; · iexact D0
  isplitl [D1]; · iexact D1
  isplitl [D2]; · iexact D2
  iexact D3

theorem rings_out [∀ e, Nonempty (Elt F e)] (c : Dev nD) (V : (b : Ref sig .tc) → Buf (Elt F) ((c : Thread nD τ).loc b)) (O : CellTallies nD τ sig (HIx 1)) :
    (ringsAt c V O 36 : sProp 𝕄) ⊢ iprop(Anys c V ∗ Pipeline.ownSems0 osem c ∗ Pipeline.scopedRest spec0 c) := by
  unfold Anys ringsAt
  rw [ownSems_eq, scopedRest0_eq]
  iintro ⟨-, HT, HU, HD⟩
  ihave HT := (tRing_out c (vT c V)) $$ HT
  ihave HU := (uRing_out c (vU c V)) $$ HU
  ihave HD := (dRing_out c (vD c V)) $$ HD
  icases HT with ⟨H5, HT⟩
  icases HU with ⟨H6, HU⟩
  icases HD with ⟨H1, HD⟩
  ihave HT := (free_out c tBuf cc0_scratch3 _ (hI_t c) slot_disjoint slot_cover) $$ HT
  ihave HU := (free_out c uBuf cc0_scratch5 _ (hI_u c) slot_disjoint slot_cover) $$ HU
  ihave HD := (free_out c dBuf cc0_scratch4 _ (hI_d c) slot_disjoint slot_cover) $$ HD
  icases HT with ⟨B0, HT⟩
  icases HU with ⟨B2, HU⟩
  icases HD with ⟨B1, HD⟩
  isplitl [H5 H6 H1]
  · isplitl [H5]; · iexact H5
    isplitl [H6]; · iexact H6
    iexact H1
  isplitl [HT HU HD]
  · isplitl [HT]; · iexact HT
    isplitl [HD]; · iexact HD
    iexact HU
  isplitl [B0]; · iexact B0
  isplitl [B1]; · iexact B1
  iexact B2

/-! ## The region -/

/-- The last point. -/
abbrev tEnd : Fin cfg0.N := ⟨35, by decide⟩

/-- An output at the end holds what some point's stores left in its buffer. -/
theorem final1 [∀ e, Nonempty (Elt F e)] (c : Dev nD) (V : (b : Ref sig .tc) → Buf (Elt F) ((c : Thread nD τ).loc b)) (O : CellTallies nD τ sig (HIx 1))
    (G : Buf (Elt F) ((cfg0.win 1).arr.view.loc (c : Thread nD τ))) (h : (rdat c V O Rc).ArrAt 1 cfg0.N G) : rowsI c V 36 G := by
  obtain ⟨X, ⟨Y, -, hX⟩, hG⟩ := RDat.ArrAt.emb_eq_of_wholeAt h (t₀ := tEnd) (by decide +kernel)
  intro r hr j
  exact (hG (ix3 r j (0 : Fin 1))).trans (hX r hr j)
theorem final2 [∀ e, Nonempty (Elt F e)] (c : Dev nD) (V : (b : Ref sig .tc) → Buf (Elt F) ((c : Thread nD τ).loc b)) (O : CellTallies nD τ sig (HIx 1))
    (G : Buf (Elt F) ((cfg0.win 2).arr.view.loc (c : Thread nD τ))) (h : (rdat c V O Rc).ArrAt 2 cfg0.N G) : rowsD c V 32 G := by
  obtain ⟨X, ⟨Y, -, hX⟩, hG⟩ := RDat.ArrAt.emb_eq_of_wholeAt h (t₀ := tEnd) (by decide +kernel)
  intro r hr j
  exact (hG (ix3 r j (0 : Fin 1))).trans (hX r (by show r.val < 35 + 1; omega) j)
theorem final3 [∀ e, Nonempty (Elt F e)] (c : Dev nD) (V : (b : Ref sig .tc) → Buf (Elt F) ((c : Thread nD τ).loc b)) (O : CellTallies nD τ sig (HIx 1))
    (G : Buf (Elt F) ((cfg0.win 3).arr.view.loc (c : Thread nD τ))) (h : (rdat c V O Rc).ArrAt 3 cfg0.N G) : rowsT c V 32 G := by
  obtain ⟨X, ⟨Y, -, hX⟩, hG⟩ := RDat.ArrAt.emb_eq_of_wholeAt h (t₀ := tEnd) (by decide +kernel)
  intro r hr j
  exact (hG (ix3 r j (0 : Fin 1))).trans (hX r (by show r.val < 35 + 1; omega) j)

/-- What the arrays hold after every write-back, one by one. -/
theorem arrays_end [∀ e, Nonempty (Elt F e)] (c : Dev nD) :
    ((rdats W O Rc 0 c).arraysAt (Pipeline.pin (pcfgs (F := F)) adm 0).N : sProp 𝕄)
      ⊢ iprop((((c : Thread nD τ).loc main_v4) ↦{fullShare} VW (W c) c main_v4)
        ∗ (∃ X1 : S36x8x1.Idx → Elt F .i32, ⌜rowsI c (VW (W c) c) 36 X1⌝ ∗ (((c : Thread nD τ).loc main_v7_0) ↦{fullShare} (X1 : Buf (Elt F) ((c : Thread nD τ).loc main_v7_0))))
        ∗ (∃ X2 : S32x8x1.Idx → Elt F .f32, ⌜rowsD c (VW (W c) c) 32 X2⌝ ∗ (((c : Thread nD τ).loc main_v7_1) ↦{fullShare} (X2 : Buf (Elt F) ((c : Thread nD τ).loc main_v7_1))))
        ∗ (∃ X3 : S32x8x1.Idx → Elt F .f32, ⌜rowsT c (VW (W c) c) 32 X3⌝ ∗ (((c : Thread nD τ).loc main_v7_2) ↦{fullShare} (X3 : Buf (Elt F) ((c : Thread nD τ).loc main_v7_2))))) := by
  rw [Pipeline.RDat.arraysAt_eq (pcfgs (F := F)) adm (rdats W O Rc) 0 c launch0.arr_whole ((rdats W O Rc 0 c).share_full fun _ => rfl), bigSep_W0]
  iintro ⟨⟨%F0, %h0, H0⟩, ⟨%F1, %h1, H1⟩, ⟨%F2, %h2, H2⟩, ⟨%F3, %h3, H3⟩⟩
  isplitl [H0]
  · have e : F0 = VW (W c) c main_v4 := by
      have h0' := h0
      rw [RDat.ArrAt_in _ _ rfl] at h0'
      exact h0'
    subst e
    iexact H0
  isplitl [H1]
  · iexists F1; isplitr; · (ipureintro; exact final1 Rc c _ _ F1 h1)
    iexact H1
  isplitl [H2]
  · iexists F2; isplitr; · (ipureintro; exact final2 Rc c _ _ F2 h2)
    iexact H2
  iexists F3; isplitr; · (ipureintro; exact final3 Rc c _ _ F3 h3)
  iexact H3

/-- THE REGION: entered from every array at `W`, left with the rows in the outputs. -/
def region [∀ e, Nonempty (Elt F e)] (hO : ∀ c g, O c g none = 0) (hRc : ∀ p : SemLoc sig × HIx 1, p.2 = none → p ∈ Rc) :
    RDat.RegionSeg (pcfgs (F := F)) adm (rdats W O Rc) (none : HIx 1) (defs₀ (F := F)) 𝒱₀ (K (F := F)).L (K (F := F)).lev (0 : Fin 1) where
  win := launch0.win.to₀
  block_pos := launch0.block_pos
  stage_whole := launch0.stage_whole
  K := Fin 3 × Fin 4
  osem := osem
  ho := osem_facts
  hbody c := body_obligation c (VW (W c) c) (O c) Rc hRc
  hwaits c := Pipeline.RDat.cellsWaits_intro (Pipeline.pin (pcfgs (F := F)) adm) (rdats W O Rc) (none : HIx 1) (0 : Fin 1) c fun w s t =>
    (show _ ⊢ MayWait (c : Thread nD τ) _ none (O c) from (K (F := F)).mayWait_none (thr := (c : Thread nD τ)) _ (hO c))
  pre c := iprop(unscopedBufs c (VW (W c) c) ∗ owesIn O Rc c)
  post c := iprop((∃ V' : Valuation τ sig (Elt F), ⌜Left c (W c) V'⌝ ∗ unscopedBufs c (VW V' c)) ∗ owesIn O Rc c)
  X c := iprop((□ Transfers.MayWaits (c : Thread nD τ) (default : HIx 1) (O c)) ∗ Anys c (VW (W c) c) ∗ Pipeline.ownSems0 osem c)
  Y c := Anys c (VW (W c) c)
  Z c := bigSep (freeRefs \ anyRefs) fun b => ((c : Thread nD τ).loc b) ↦{fullShare} VW (W c) c b
  hentry c := by
    have hsplit := Pipeline.RDat.arrays_of_unscopedBufs (p := 0) (pcfgs (F := F)) adm (rdats W O Rc) launch0.win launch0.arr_whole c
      ((rdats W O Rc 0 c).share_full fun _ => rfl) (VW (W c) c) fun _ => rfl
    unfold owesIn
    iintro ⟨⟨Hub, ⟨%R, %hR, HO⟩⟩, Hs, #Hlv⟩
    ihave H := hsplit $$ Hub
    icases H with ⟨Ha, Hr⟩
    ihave Hr := (Entails.of_eq (rest_split c (VW (W c) c))) $$ Hr
    icases Hr with ⟨Hany, Hr⟩
    ihave #Hm := (show (levAts (K (F := F)).L (K (F := F)).lev : sProp 𝕄) ⊢ Transfers.MayWaits (c : Thread nD τ) (default : HIx 1) (O c)
      from (K (F := F)).mayWaits_none (thr := (c : Thread nD τ)) (hO c)) $$ Hlv
    imodintro
    isplitl [Ha]; · iexact Ha
    isplitr; · (unfold Pipeline.prefHeld; rw [show (Finset.univ : Finset (Fin 0)) = ∅ from rfl, BI.bigSep_empty]; iempintro)
    isplitl [HO]
    · unfold Pipeline.RDat.owesAt Pipeline.owesWithin
      iexists R; isplitr; · (ipureintro; exact fun p hp => Or.inl (hR hp))
      iexact HO
    isplitl [Hany Hs]
    · isplitr; · (imodintro; iexact Hm)
      isplitl [Hany]; · (unfold Anys; iexact Hany)
      iexact Hs
    iexact Hr
  hin c := by
    show _ ⊢ ringsAt c (VW (W c) c) (O c) 0
    iintro ⟨⟨Hm, Ha, Hs⟩, -, Hr⟩
    iapply (rings_in c (VW (W c) c) (O c))
    isplitl [Hm]; · iexact Hm
    isplitl [Ha]; · iexact Ha
    isplitl [Hs]; · iexact Hs
    iexact Hr
  hout c := by
    show ringsAt c (VW (W c) c) (O c) (Fin.last cfg0.N).val ⊢ _
    rw [show (Fin.last cfg0.N).val = 36 from N_0]
    exact rings_out c (VW (W c) c) (O c)
  hexit c := by
    unfold owesIn
    iintro ⟨Ha, HO, Hy, Hz⟩
    ihave Ha := (arrays_end W O Rc c) $$ Ha
    icases Ha with ⟨H0, ⟨%X1, %h1, H1⟩, ⟨%X2, %h2, H2⟩, ⟨%X3, %h3, H3⟩⟩
    imodintro
    isplitl [H0 H1 H2 H3 Hy Hz]
    · iapply (left_join c (W c) X1 X2 X3 h1 h2 h3)
      isplitl [H0]; · iexact H0
      isplitl [H1]; · iexact H1
      isplitl [H2]; · iexact H2
      isplitl [H3]; · iexact H3
      rw [rest_split]
      isplitl [Hy]; · (unfold Anys; iexact Hy)
      iexact Hz
    unfold Pipeline.RDat.owesAt Pipeline.owesWithin
    icases HO with ⟨%R, %hR, HO⟩
    iexists R
    isplitr
    · ipureintro
      intro p hp
      rcases hR hp with h | h
      · exact h
      · exact hRc p (by obtain ⟨w, s, rfl⟩ := h; rfl)
    iexact HO

end Cert.Proof.Rings

end
-- ==== Proof.ScVal.lean ====
/-
  What the SparseCore kernel's task computes: per batch (a lane), the running acceptance mask, the number accepted, and the
  nine output words; the sixteen-lane form the task's vector operations take, read lane by lane; and the whole output array.
-/
module

public import proofs.«01_k».proof.Proof.Region
public import Idealize.ShloMosaic.Lib.Pointwise.Tactic
public import proofs.«01_k».proof.Proof.Gen.KernelIdeal.Skeleton

@[expose] public section

noncomputable section

namespace Cert.Proof.Task

open Cert.KernelIdeal Cert.KernelIdeal.Gen
open Idealize.ShloMosaic

variable {F : FTy → Type} [FloatOps F]

/-! ## One lane -/

section Lane
variable (u d t : ℕ → F .f32) (ids rec : ℕ → BitVec 32) (bon : BitVec 32)

/-- One while the first `k` candidates are all accepted, else zero. -/
def maskL : ℕ → BitVec 32
  | 0 => 1#32
  | k + 1 => Scalar.select (FloatOps.cmpf .ole (u k) (FloatOps.divf (t k) (d k))) (maskL k) 0#32

/-- How many of the first `k` candidates are accepted. -/
def naL : ℕ → BitVec 32
  | 0 => 0#32
  | k + 1 => IntOp.addi (naL k) (maskL u d t (k + 1))

/-- Candidate `k` where it is accepted. -/
def valL (k : ℕ) : BitVec 32 := Scalar.select (IntOp.cmpi .eq (maskL u d t (k + 1)) 1#32) (ids k) 4294967295#32

/-- The recovered word at the first rejection, chosen among the first `k`. -/
def recL (na : BitVec 32) : ℕ → BitVec 32
  | 0 => 0#32
  | k + 1 => Scalar.select (IntOp.cmpi .eq (IntOp.minsi na 7#32) (BitVec.ofNat 32 k)) (rec k) (recL na k)

/-- The word that follows the accepted ones. -/
def nextL : BitVec 32 := Scalar.select (IntOp.cmpi .eq (naL u d t 8) 8#32) bon (recL rec (naL u d t 8) 8)

/-- Output word `j`, from what stands there without the following word. -/
def putL (j : ℕ) (base : BitVec 32) : BitVec 32 :=
  Scalar.select (IntOp.cmpi .eq (naL u d t 8) (BitVec.ofNat 32 j)) (nextL u d t rec bon) base

/-- Output word `j`. -/
def outL (j : ℕ) : BitVec 32 := putL u d t rec bon j (if j < 8 then valL u d t ids j else 4294967295#32)

end Lane

/-! ## Sixteen lanes -/

/-- A cast to the same shape, as the task writes it around each load and store. -/
abbrev cs {α : Type} (x : S16.Idx → α) : S16.Idx → α := shapeCast S16 x shapeCasts_S16_S16

section Lanes
variable (U D T : ℕ → Vec F S16 .f32) (I R : ℕ → Vec F S16 .i32) (B : Vec F S16 .i32)

def maskV : ℕ → IVec S16 32
  | 0 => broadcast S16 1#32
  | k + 1 => select (cmpf .ole (cs (U k)) (divf (cs (T k)) (cs (D k)))) (maskV k) (broadcast S16 0#32)

def naV : ℕ → IVec S16 32
  | 0 => broadcast S16 0#32
  | k + 1 => addi (naV k) (maskV U D T (k + 1))

def valV (k : ℕ) : IVec S16 32 :=
  cs (select (cmpi .eq (maskV U D T (k + 1)) (broadcast S16 1#32)) (cs (I k)) (broadcast S16 4294967295#32))

def recV (na : IVec S16 32) : ℕ → IVec S16 32
  | 0 => broadcast S16 0#32
  | k + 1 => select (cmpi .eq (minsi na (broadcast S16 7#32)) (broadcast S16 (BitVec.ofNat 32 k))) (cs (R k)) (recV na k)

def nextOf (na : IVec S16 32) : IVec S16 32 := select (cmpi .eq na (broadcast S16 8#32)) (cs B) (recV (F := F) R na 8)

def nextV : IVec S16 32 := nextOf (F := F) R B (naV U D T 8)

def putOf (na next : IVec S16 32) (j : ℕ) (base : IVec S16 32) : IVec S16 32 :=
  cs (select (cmpi .eq na (broadcast S16 (BitVec.ofNat 32 j))) next base)

def putV (j : ℕ) (base : IVec S16 32) : IVec S16 32 := putOf (naV U D T 8) (nextV U D T R B) j base

variable (x : S16.Idx)

theorem maskV_apply (k : ℕ) : maskV U D T k x = maskL (fun k => U k x) (fun k => D k x) (fun k => T k x) k := by
  induction k with
  | zero => rfl
  | succ k ih => simp only [maskV, maskL, cs, shapeCast_self, select, cmpf, divf, ih]; rfl

theorem naV_apply (k : ℕ) : naV U D T k x = naL (fun k => U k x) (fun k => D k x) (fun k => T k x) k := by
  induction k with
  | zero => rfl
  | succ k ih => simp only [naV, naL, addi, ih, maskV_apply]

theorem valV_apply (k : ℕ) :
    valV U D T I k x = valL (fun k => U k x) (fun k => D k x) (fun k => T k x) (fun k => I k x) k := by
  simp only [valV, valL, cs, shapeCast_self, select, cmpi, maskV_apply]; rfl

theorem recV_apply (na : IVec S16 32) (k : ℕ) : recV (F := F) R na k x = recL (fun k => R k x) (na x) k := by
  induction k with
  | zero => rfl
  | succ k ih => simp only [recV, recL, cs, shapeCast_self, select, cmpi, minsi, ih]; rfl

theorem nextV_apply : nextV U D T R B x = nextL (fun k => U k x) (fun k => D k x) (fun k => T k x) (fun k => R k x) (B x) := by
  simp only [nextV, nextOf, nextL, cs, shapeCast_self, select, cmpi, naV_apply, recV_apply]; rfl

theorem putV_apply (j : ℕ) (base : IVec S16 32) :
    putV U D T R B j base x = putL (fun k => U k x) (fun k => D k x) (fun k => T k x) (fun k => R k x) (B x) j (base x) := by
  simp only [putV, putOf, putL, cs, shapeCast_self, select, cmpi, naV_apply, nextV_apply]; rfl

end Lanes

/-! ## The whole output -/

/-- Batch `b` of candidate `k` in a flat array. -/
def flat (k b : ℕ) : S256.Idx := ix1 ⟨(k % 8) * 32 + b % 32, by omega⟩

/-- The output array from the six inputs, at a flat position. -/
def scAt (ids : S256.Idx → BitVec 32) (us dt tt : S256.Idx → F .f32) (rec : S256.Idx → BitVec 32) (bon : S32.Idx → BitVec 32)
    (r : ℕ) : BitVec 32 :=
  outL (fun k => us (flat k r)) (fun k => dt (flat k r)) (fun k => tt (flat k r)) (fun k => ids (flat k r)) (fun k => rec (flat k r))
    (bon (ix1 ⟨r % 32, by omega⟩)) (r / 32)

/-- The output array. -/
def scOut (ids : S256.Idx → BitVec 32) (us dt tt : S256.Idx → F .f32) (rec : S256.Idx → BitVec 32) (bon : S32.Idx → BitVec 32) :
    S288.Idx → BitVec 32 := fun y => scAt ids us dt tt rec bon (y 0).val

end Cert.Proof.Task

end
-- ==== Proof.ScBody.lean ====
/-
  The SparseCore kernel's task on tile (0, 0), run once: six copies in, the sixteen-lane arithmetic, one copy out. Every other tile
  does nothing.
-/
module

public import proofs.«01_k».proof.Proof.ScVal
public import Idealize.ShloMosaic.Lib.SparseCore.Quiescent
public import Idealize.ShloMosaic.Lib.Tactic
public import proofs.«01_k».proof.Proof.Gen.KernelIdeal.Skeleton

@[expose] public section

set_option maxRecDepth 16384

noncomputable section

namespace Cert.Proof.Task

open Cert.KernelIdeal Cert.KernelIdeal.Gen
open Cert.Proof.Rings (UH UP UU 𝒱₀ K EH EP ΛP)

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev cV (L : grid1.Coords) : Fin τ.nSC := (L 0).castLE hcore1
abbrev jV (L : grid1.Coords) : Fin τ.nSub := (L 1).castLE hsub1

/-! ## The tile's own semaphores and buffers -/

section Own
variable (d : Dev nD) (L : grid1.Coords)

/-- The seven copies' semaphores. -/
def sem : Fin 7 → SemLoc sig
  | 0 => .dma cc1_scoped0.sem | 1 => .dma cc1_scoped1.sem | 2 => .dma cc1_scoped2.sem | 3 => .dma cc1_scoped3.sem
  | 4 => .dma cc1_scoped4.sem | 5 => .dma cc1_scoped5.sem | 6 => .dma cc1_scoped6.sem

theorem sem_inj : Function.Injective sem := by decide

def cellOf (k : Fin 7) : GSem nD τ sig := (V d (cV L) (jV L), sem k)

theorem cellOf_inj : Function.Injective (cellOf d L) := fun _ _ e => sem_inj (congrArg Prod.snd e)

theorem cells_sub : Finset.univ.map ⟨cellOf d L, cellOf_inj d L⟩ ⊆ ownCells (V d (cV L) (jV L)) := fun g hg => by
  obtain ⟨k, -, rfl⟩ := Finset.mem_map.mp hg
  refine mem_ownCells.mpr ⟨rfl, ?_⟩
  exact (show ∀ k, (sem k).isScoped .scVector = true by decide) k

/-- The tile's semaphores at zero: the seven and the rest. -/
theorem ownSems0_V :
    (ownSems0 (V d (cV L) (jV L)) : sProp 𝕄)
      = iprop((semVal (V d (cV L) (jV L), .dma cc1_scoped0.sem) 0 ∗ semVal (V d (cV L) (jV L), .dma cc1_scoped1.sem) 0
          ∗ semVal (V d (cV L) (jV L), .dma cc1_scoped2.sem) 0 ∗ semVal (V d (cV L) (jV L), .dma cc1_scoped3.sem) 0
          ∗ semVal (V d (cV L) (jV L), .dma cc1_scoped4.sem) 0 ∗ semVal (V d (cV L) (jV L), .dma cc1_scoped5.sem) 0
          ∗ semVal (V d (cV L) (jV L), .dma cc1_scoped6.sem) 0)
        ∗ bigSep (ownCells (V d (cV L) (jV L)) \ Finset.univ.map ⟨cellOf d L, cellOf_inj d L⟩) fun g => semVal g 0) := by
  unfold SparseCore.Cfg.ownSems0
  rw [SparseCore.bigSep_sdiff_split' (cells_sub d L), bigSep_map, bigSep_univ_eq_bigSepL [(0 : Fin 7), 1, 2, 3, 4, 5, 6] (by decide) (by decide)]
  rfl

/-- The tile's scratch. -/
abbrev scratch : Finset (Ref sig .scVector) :=
  {cc1_scratch0, cc1_scratch1, cc1_scratch2, cc1_scratch3, cc1_scratch4, cc1_scratch5, cc1_scratch6, cc1_scratch7}

abbrev refEmb : Ref sig .scVector ↪ DevRef τ sig := ⟨(Proc.scVector (cV L) (jV L)).devRef, Proc.devRef_injective _⟩

theorem scratch_sub : scratch.map (refEmb L) ⊆ ownRefs (τ := τ) (.scVector (cV L) (jV L)) := fun b hb => by
  obtain ⟨r, hr, rfl⟩ := Finset.mem_map.mp hb
  refine SparseCore.Cfg.mem_ownRefs_of_owner (p := Proc.scVector (cV L) (jV L)) ?_
  simp only [scratch, Finset.mem_insert, Finset.mem_singleton] at hr
  rcases hr with rfl | rfl | rfl | rfl | rfl | rfl | rfl | rfl <;> rfl

/-- The tile's buffers at some contents: the scratch and the rest. -/
theorem ownBufs_V :
    (ownBufs (V d (cV L) (jV L)) : sProp 𝕄)
      = iprop(((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f) ∗ (∃ f, (V d (cV L) (jV L)).loc cc1_scratch5 ↦{fullShare} f)
          ∗ (∃ f, (V d (cV L) (jV L)).loc cc1_scratch6 ↦{fullShare} f) ∗ (∃ f, (V d (cV L) (jV L)).loc cc1_scratch7 ↦{fullShare} f))
        ∗ bigSep (ownRefs (τ := τ) (.scVector (cV L) (jV L)) \ scratch.map (refEmb L)) fun b => iprop(∃ f, ((d, b) : Loc nD τ sig) ↦{fullShare} f)) := by
  unfold SparseCore.Cfg.ownBufs
  refine (SparseCore.bigSep_sdiff_split' (scratch_sub L)).trans ?_
  rw [bigSep_map, bigSep_eq_bigSepL_of_eq [cc1_scratch0, cc1_scratch1, cc1_scratch2, cc1_scratch3, cc1_scratch4, cc1_scratch5, cc1_scratch6, cc1_scratch7]
    (show scratch = _ by decide) (by decide)]
  rfl

end Own

/-! ## The run -/

/-- The body as the launch calls it. -/
abbrev body (L : grid1.Coords) : Prog (TpuEff nD τ sig (Elt F) Λ₀ (.scVector (cV L) (jV L))) PUnit :=
  cc1__sc_body L (Memref.whole main_v15_scv) (Memref.isWhole_whole _) (Memref.whole main_v17_scv) (Memref.isWhole_whole _) (Memref.whole main_v12_scv) (Memref.isWhole_whole _) (Memref.whole main_v13_scv) (Memref.isWhole_whole _)
    (Memref.whole main_v9_scv) (Memref.isWhole_whole _) (Memref.whole main_v11_scv) (Memref.isWhole_whole _) (Memref.whole main_v18_scv) (Memref.isWhole_whole _) (Memref.whole cc1_scratch0) (Memref.isWhole_whole _) (Memref.whole cc1_scratch1) (Memref.isWhole_whole _)
    (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _)
    (Memref.whole cc1_scratch7) (Memref.isWhole_whole _) cc1_scoped0 cc1_scoped1 cc1_scoped2 cc1_scoped3 cc1_scoped4 cc1_scoped5 cc1_scoped6

/-- The body's one condition. -/
abbrev cond (L : grid1.Coords) : BitVec 1 :=
  Scalar.cmpi .ne (Scalar.extui (Scalar.andi (Scalar.cmpi .eq (BitVec.ofNat 32 (L 0).val) 0#32) (Scalar.cmpi .eq (BitVec.ofNat 32 (L 1).val) 0#32))) 0#32

theorem cond_iff (L : grid1.Coords) : Iff (cond L = 1#1) ((L 0).val = 0 ∧ (L 1).val = 0) := by
  have h : ∀ (a : Fin 2) (b : Fin 16), Iff (Scalar.cmpi .ne (Scalar.extui (Scalar.andi (Scalar.cmpi .eq (BitVec.ofNat 32 a.val) 0#32)
      (Scalar.cmpi .eq (BitVec.ofNat 32 b.val) 0#32))) 0#32 = 1#1) (a.val = 0 ∧ b.val = 0) := by decide +kernel
  exact h (L 0) (L 1)

/-! ## The pieces the run stores -/

section Pieces

theorem rect_inb (k h : ℕ) : ∀ a, (![(k % 8) * 32 + (h % 2) * 16] : Fin 1 → ℕ) a + S16.size a ≤ S256.size a := fun a => by
  rw [Subsingleton.elim a 0]
  show (k % 8) * 32 + (h % 2) * 16 + 16 ≤ 256
  omega
theorem rectO_inb (j h : ℕ) : ∀ a, (![(j % 9) * 32 + (h % 2) * 16] : Fin 1 → ℕ) a + S16.size a ≤ S288.size a := fun a => by
  rw [Subsingleton.elim a 0]
  show (j % 9) * 32 + (h % 2) * 16 + 16 ≤ 288
  omega
theorem rectB_inb (h : ℕ) : ∀ a, (![(h % 2) * 16] : Fin 1 → ℕ) a + S16.size a ≤ S32.size a := fun a => by
  rw [Subsingleton.elim a 0]
  show (h % 2) * 16 + 16 ≤ 32
  omega

/-- Half `h` of candidate `k`, in a flat input; of output row `j`; of the bonus array. -/
abbrev rect (k h : ℕ) : Rect S256 := Rect.unit (s := S256) ![(k % 8) * 32 + (h % 2) * 16] S16.size (rect_inb k h)
abbrev rectO (j h : ℕ) : Rect S288 := Rect.unit (s := S288) ![(j % 9) * 32 + (h % 2) * 16] S16.size (rectO_inb j h)
abbrev rectB (h : ℕ) : Rect S32 := Rect.unit (s := S32) ![(h % 2) * 16] S16.size (rectB_inb h)

/-- A sixteen-lane load of a buffer a copy has filled. -/
def ld {s : Shape} {e : EltTy} (m₀ : Memref sig .scVector .hbm s e) (m₁ : Memref sig .scVector .vmem s e) (f : m₀.view.ty.Contents (Elt F))
    (g : m₁.view.ty.Contents (Elt F)) (r : Rect s) : r.shape.Idx → Elt F e :=
  View.readAt (Elt F) m₁.view r.toLoadRect
    (View.write (Elt F) m₁.view g (ReadAs.same.apply (View.read (Elt F) m₀.view f)) Finset.univ)

theorem ld_apply {s : Shape} {e : EltTy} (m₀ : Memref sig .scVector .hbm s e) (m₁ : Memref sig .scVector .vmem s e)
    (f : m₀.view.ty.Contents (Elt F)) (g : m₁.view.ty.Contents (Elt F)) (r : Rect s) (x : r.shape.Idx) :
    ld m₀ m₁ f g r x = View.read (Elt F) m₀.view f (r.emb x) := by
  unfold ld
  rw [View.readAt_apply, View.read_write_univ]; rfl

variable (f15 : Vec F S256 .i32) (f17 f12 f13 : Vec F S256 .f32) (f9 : Vec F S256 .i32) (f11 : Vec F S32 .i32)
variable (g0 : Vec F S256 .i32) (g1 g2 g3 : Vec F S256 .f32) (g4 : Vec F S256 .i32) (g5 : Vec F S32 .i32)

abbrev ldI (h k : ℕ) : Vec F S16 .i32 := ld (F := F) (Memref.whole main_v15_scv) (Memref.whole cc1_scratch0) f15 g0 (rect k h)
abbrev ldU (h k : ℕ) : Vec F S16 .f32 := ld (F := F) (Memref.whole main_v17_scv) (Memref.whole cc1_scratch1) f17 g1 (rect k h)
abbrev ldD (h k : ℕ) : Vec F S16 .f32 := ld (F := F) (Memref.whole main_v12_scv) (Memref.whole cc1_scratch2) f12 g2 (rect k h)
abbrev ldT (h k : ℕ) : Vec F S16 .f32 := ld (F := F) (Memref.whole main_v13_scv) (Memref.whole cc1_scratch3) f13 g3 (rect k h)
abbrev ldR (h k : ℕ) : Vec F S16 .i32 := ld (F := F) (Memref.whole main_v9_scv) (Memref.whole cc1_scratch4) f9 g4 (rect k h)
abbrev ldB (h : ℕ) : Vec F S16 .i32 := ld (F := F) (Memref.whole main_v11_scv) (Memref.whole cc1_scratch5) f11 g5 (rectB h)

/-- The sixteen stores of accepted words. -/
def valPieces : List (View.Piece (Elt F) S256 .i32) :=
  (List.range 16).reverse.map fun i => ⟨rect (i / 2) (i % 2),
    valV (ldU f17 g1 (i % 2)) (ldD f12 g2 (i % 2)) (ldT f13 g3 (i % 2)) (ldI f15 g0 (i % 2)) (i / 2)⟩

/-- What stands in output row `j` without the following word, from the stores of accepted words. -/
def base (P : List (View.Piece (Elt F) S256 .i32)) (h j : ℕ) : IVec S16 32 :=
  if j < 8 then cs ((Memref.whole cc1_scratch6).view.readCov P (rect j h).toLoadRect)
  else broadcast S16 4294967295#32

/-- The eighteen stores, from the counts and following words of the two halves. -/
def outOf (P : List (View.Piece (Elt F) S256 .i32)) (na next : ℕ → IVec S16 32) : List (View.Piece (Elt F) S288 .i32) :=
  (List.range 18).reverse.map fun i => ⟨rectO (i / 2) (i % 2), putOf (na (i % 2)) (next (i % 2)) (i / 2) (base P (i % 2) (i / 2))⟩

/-- The eighteen stores of output words. -/
def outPieces : List (View.Piece (Elt F) S288 .i32) :=
  outOf (valPieces f15 f17 f12 f13 g0 g1 g2 g3) (fun h => naV (ldU f17 g1 h) (ldD f12 g2 h) (ldT f13 g3 h) 8)
    fun h => nextV (ldU f17 g1 h) (ldD f12 g2 h) (ldT f13 g3 h) (ldR f9 g4 h) (ldB f11 g5 h)

/-- The accepted words, lane by lane. -/
def valAt (y : S256.Idx) : BitVec 32 :=
  valL (fun k => f17 (flat k (y 0).val)) (fun k => f12 (flat k (y 0).val)) (fun k => f13 (flat k (y 0).val))
    (fun k => f15 (flat k (y 0).val)) ((y 0).val / 32)

theorem flat_rect (k i r : ℕ) (x : S16.Idx) (hr : r % 32 = (i % 2) * 16 + (x 0).val) :
    ((rect k (i % 2)).emb x : S256.Idx) = flat k r := by
  funext a
  rw [Subsingleton.elim a 0]
  refine Fin.ext ?_
  have hx : (x 0).val < 16 := (x 0).isLt
  show (k % 8) * 32 + (i % 2 % 2) * 16 + 1 * (x 0).val = (k % 8) * 32 + r % 32
  omega

theorem flat_rectB (i r : ℕ) (x : S16.Idx) (hr : r % 32 = (i % 2) * 16 + (x 0).val) :
    ((rectB (i % 2)).emb x : S32.Idx) = ix1 ⟨r % 32, by omega⟩ := by
  funext a
  rw [Subsingleton.elim a 0]
  refine Fin.ext ?_
  have hx : (x 0).val < 16 := (x 0).isLt
  show (i % 2 % 2) * 16 + 1 * (x 0).val = r % 32
  omega

/-- An element of a flat input, or of the output, is in one of the sixteen-lane pieces. -/
theorem mem_rect (y : S256.Idx) : y ∈ (rect ((y 0).val / 16 / 2) ((y 0).val / 16 % 2)).set := by
  have hy : (y 0).val < 256 := (y 0).isLt
  refine Rect.mem_set_unit.mpr fun a => ?_
  rw [Subsingleton.elim a 0]
  show ((y 0).val / 16 / 2 % 8) * 32 + (y 0).val / 16 % 2 % 2 * 16 ≤ (y 0).val ∧ (y 0).val < ((y 0).val / 16 / 2 % 8) * 32 + (y 0).val / 16 % 2 % 2 * 16 + 16
  omega
theorem mem_rectO (y : S288.Idx) : y ∈ (rectO ((y 0).val / 16 / 2) ((y 0).val / 16 % 2)).set := by
  have hy : (y 0).val < 288 := (y 0).isLt
  refine Rect.mem_set_unit.mpr fun a => ?_
  rw [Subsingleton.elim a 0]
  show ((y 0).val / 16 / 2 % 9) * 32 + (y 0).val / 16 % 2 % 2 * 16 ≤ (y 0).val ∧ (y 0).val < ((y 0).val / 16 / 2 % 9) * 32 + (y 0).val / 16 % 2 % 2 * 16 + 16
  omega

/-- A load of half `i % 2` of a flat input, lane by lane. -/
theorem ld_flat {e : EltTy} (m₀ : Memref sig .scVector .hbm S256 e) (m₁ : Memref sig .scVector .vmem S256 e) (f : m₀.view.ty.Contents (Elt F))
    (g : m₁.view.ty.Contents (Elt F)) (k i r : ℕ) (x : S16.Idx) (hr : r % 32 = (i % 2) * 16 + (x 0).val) :
    ld m₀ m₁ f g (rect k (i % 2)) x = View.read (Elt F) m₀.view f (flat k r) :=
  (ld_apply _ _ _ _ _ _).trans (congrArg _ (flat_rect k i r x hr))

theorem val_piece (i : ℕ) (hi : i < 16) (x : S16.Idx) :
    valV (ldU f17 g1 (i % 2)) (ldD f12 g2 (i % 2)) (ldT f13 g3 (i % 2)) (ldI f15 g0 (i % 2)) (i / 2) x
      = valAt f15 f17 f12 f13 ((rect (i / 2) (i % 2)).emb x) := by
  have hx : (x 0).val < 16 := (x 0).isLt
  have hv : (((rect (i / 2) (i % 2)).emb x : S256.Idx) 0).val = (i / 2 % 8) * 32 + (i % 2 % 2) * 16 + 1 * (x 0).val := rfl
  generalize hr : (((rect (i / 2) (i % 2)).emb x : S256.Idx) 0).val = r at hv
  have hr' : r % 32 = (i % 2) * 16 + (x 0).val := by omega
  rw [valV_apply]
  unfold valAt
  rw [hr, show r / 32 = i / 2 by omega]
  simp only [ldU, ldD, ldT, ldI, ld_flat _ _ _ _ _ i r x hr']
  rfl

theorem vals_read (g : Vec F S256 .i32) (y : S256.Idx) :
    View.read (Elt F) (Memref.whole cc1_scratch6).view
      ((Memref.whole cc1_scratch6).view.writes (Elt F) g (valPieces f15 f17 f12 f13 g0 g1 g2 g3)) y = valAt f15 f17 f12 f13 y := by
  refine View.read_writes_apply_of_pieces (Val := Elt F) (e := .i32) _ _ (valAt f15 f17 f12 f13) _ (fun p hp x => ?_) y ?_
  · obtain ⟨i, hi, rfl⟩ := List.mem_map.mp hp
    exact val_piece f15 f17 f12 f13 g0 g1 g2 g3 i (by simpa using hi) x
  · have hy : (y 0).val < 256 := (y 0).isLt
    exact ⟨_, List.mem_map.mpr ⟨(y 0).val / 16, by simp; omega, rfl⟩, mem_rect y⟩

theorem out_piece (i : ℕ) (hi : i < 18) (x : S16.Idx) :
    putV (ldU f17 g1 (i % 2)) (ldD f12 g2 (i % 2)) (ldT f13 g3 (i % 2)) (ldR f9 g4 (i % 2)) (ldB f11 g5 (i % 2)) (i / 2)
      (base (valPieces f15 f17 f12 f13 g0 g1 g2 g3) (i % 2) (i / 2)) x
      = scOut f15 f17 f12 f13 f9 f11 ((rectO (i / 2) (i % 2)).emb x) := by
  have hx : (x 0).val < 16 := (x 0).isLt
  have hv : (((rectO (i / 2) (i % 2)).emb x : S288.Idx) 0).val = (i / 2 % 9) * 32 + (i % 2 % 2) * 16 + 1 * (x 0).val := rfl
  have hb : base (F := F) (valPieces f15 f17 f12 f13 g0 g1 g2 g3) (i % 2) (i / 2) x
      = if i / 2 < 8 then valAt f15 f17 f12 f13 ((rect (i / 2) (i % 2)).emb x) else 4294967295#32 := by
    unfold base
    split
    · rw [cs, shapeCast_self]
      exact vals_read f15 f17 f12 f13 g0 g1 g2 g3 _ _
    · rfl
  rw [putV_apply, hb]
  unfold scOut
  generalize hr : (((rectO (i / 2) (i % 2)).emb x : S288.Idx) 0).val = r at hv
  unfold scAt outL valAt
  have hr' : r % 32 = (i % 2) * 16 + (x 0).val := by omega
  have hj : r / 32 = i / 2 := by omega
  simp only [ldU, ldD, ldT, ldR, ldB, ld_flat _ _ _ _ _ i r x hr', ld_apply, flat_rectB i r x hr', hj]
  congr 1
  split
  · rename_i h8
    have hv' : (((rect (i / 2) (i % 2)).emb x : S256.Idx) 0).val = (i / 2 % 8) * 32 + (i % 2 % 2) * 16 + 1 * (x 0).val := rfl
    rw [show (((rect (i / 2) (i % 2)).emb x : S256.Idx) 0).val = r by omega, hj]
  · rfl

theorem out_read (g : Vec F S288 .i32) (y : S288.Idx) :
    View.read (Elt F) (Memref.whole cc1_scratch7).view
      ((Memref.whole cc1_scratch7).view.writes (Elt F) g (outPieces f15 f17 f12 f13 f9 f11 g0 g1 g2 g3 g4 g5)) y
      = scOut f15 f17 f12 f13 f9 f11 y := by
  refine View.read_writes_apply_of_pieces (Val := Elt F) (e := .i32) _ _ (scOut f15 f17 f12 f13 f9 f11) _ (fun p hp x => ?_) y ?_
  · obtain ⟨i, hi, rfl⟩ := List.mem_map.mp hp
    exact out_piece f15 f17 f12 f13 f9 f11 g0 g1 g2 g3 g4 g5 i (by simpa using hi) x
  · have hy : (y 0).val < 288 := (y 0).isLt
    exact ⟨_, List.mem_map.mpr ⟨(y 0).val / 16, by simp; omega, rfl⟩, mem_rectO y⟩

theorem outPieces_eq (n0 n1 x0 x1 : IVec S16 32)
    (hn0 : n0 = naV (ldU f17 g1 0) (ldD f12 g2 0) (ldT f13 g3 0) 8) (hn1 : n1 = naV (ldU f17 g1 1) (ldD f12 g2 1) (ldT f13 g3 1) 8)
    (hx0 : x0 = nextOf (F := F) (ldR f9 g4 0) (ldB f11 g5 0) n0) (hx1 : x1 = nextOf (F := F) (ldR f9 g4 1) (ldB f11 g5 1) n1) :
    outOf (F := F) (valPieces f15 f17 f12 f13 g0 g1 g2 g3) (fun h => if h = 0 then n0 else n1) (fun h => if h = 0 then x0 else x1)
      = outPieces f15 f17 f12 f13 f9 f11 g0 g1 g2 g3 g4 g5 := by
  subst hx0 hx1 hn0 hn1
  unfold outPieces outOf
  refine List.map_congr_left fun i _ => ?_
  rcases Nat.mod_two_eq_zero_or_one i with h | h <;> rw [h] <;> rfl

end Pieces

section Run

/-- A whole buffer, as the executor reads it. -/
theorem pts_whole (t : Thread nD τ) (b : Ref sig t.2.kind) (f : Buf (Elt F) (t.loc b)) :
    ((Memref.whole b).view.loc t ↦{fullShare} f : sProp 𝕄) = t.loc b ↦{fullShare} f := rfl

variable (d : Dev nD) (L : grid1.Coords)

set_option maxHeartbeats 2000000 in
theorem run (O : CellTallies nD τ sig (HIx 1)) (W : Waits sig (HIx 1))
    (hL : cond L = 1#1)
    (f15 : Buf (Elt F) ((V d (cV L) (jV L)).loc main_v15_scv)) (f17 : Buf (Elt F) ((V d (cV L) (jV L)).loc main_v17_scv))
    (f12 : Buf (Elt F) ((V d (cV L) (jV L)).loc main_v12_scv)) (f13 : Buf (Elt F) ((V d (cV L) (jV L)).loc main_v13_scv))
    (f9 : Buf (Elt F) ((V d (cV L) (jV L)).loc main_v9_scv)) (f11 : Buf (Elt F) ((V d (cV L) (jV L)).loc main_v11_scv))
    (f18 : Buf (Elt F) ((V d (cV L) (jV L)).loc main_v18_scv))
    (g0 : Buf (Elt F) ((V d (cV L) (jV L)).loc cc1_scratch0)) (g1 : Buf (Elt F) ((V d (cV L) (jV L)).loc cc1_scratch1))
    (g2 : Buf (Elt F) ((V d (cV L) (jV L)).loc cc1_scratch2)) (g3 : Buf (Elt F) ((V d (cV L) (jV L)).loc cc1_scratch3))
    (g4 : Buf (Elt F) ((V d (cV L) (jV L)).loc cc1_scratch4)) (g5 : Buf (Elt F) ((V d (cV L) (jV L)).loc cc1_scratch5))
    (g6 : Buf (Elt F) ((V d (cV L) (jV L)).loc cc1_scratch6)) (g7 : Buf (Elt F) ((V d (cV L) (jV L)).loc cc1_scratch7)) :
    iprop(Transfers.MayWaits (V d (cV L) (jV L)) (default : HIx 1) O
        ∗ (((V d (cV L) (jV L)).loc main_v15_scv ↦{fullShare} f15) ∗ ((V d (cV L) (jV L)).loc main_v17_scv ↦{fullShare} f17)
          ∗ ((V d (cV L) (jV L)).loc main_v12_scv ↦{fullShare} f12) ∗ ((V d (cV L) (jV L)).loc main_v13_scv ↦{fullShare} f13)
          ∗ ((V d (cV L) (jV L)).loc main_v9_scv ↦{fullShare} f9) ∗ ((V d (cV L) (jV L)).loc main_v11_scv ↦{fullShare} f11)
          ∗ ((V d (cV L) (jV L)).loc main_v18_scv ↦{fullShare} f18))
        ∗ (((V d (cV L) (jV L)).loc cc1_scratch0 ↦{fullShare} g0) ∗ ((V d (cV L) (jV L)).loc cc1_scratch1 ↦{fullShare} g1)
          ∗ ((V d (cV L) (jV L)).loc cc1_scratch2 ↦{fullShare} g2) ∗ ((V d (cV L) (jV L)).loc cc1_scratch3 ↦{fullShare} g3)
          ∗ ((V d (cV L) (jV L)).loc cc1_scratch4 ↦{fullShare} g4) ∗ ((V d (cV L) (jV L)).loc cc1_scratch5 ↦{fullShare} g5)
          ∗ ((V d (cV L) (jV L)).loc cc1_scratch6 ↦{fullShare} g6) ∗ ((V d (cV L) (jV L)).loc cc1_scratch7 ↦{fullShare} g7))
        ∗ (semVal (V d (cV L) (jV L), .dma cc1_scoped0.sem) 0 ∗ semVal (V d (cV L) (jV L), .dma cc1_scoped1.sem) 0
          ∗ semVal (V d (cV L) (jV L), .dma cc1_scoped2.sem) 0 ∗ semVal (V d (cV L) (jV L), .dma cc1_scoped3.sem) 0
          ∗ semVal (V d (cV L) (jV L), .dma cc1_scoped4.sem) 0 ∗ semVal (V d (cV L) (jV L), .dma cc1_scoped5.sem) 0
          ∗ semVal (V d (cV L) (jV L), .dma cc1_scoped6.sem) 0)
        ∗ owes (V d (cV L) (jV L)) O W)
      ⊢ wp frame (wpE (defs₀ (F := F)) 𝒱₀ (V d (cV L) (jV L)) none) Set.univ (body L)
          fun _ => (iprop((((V d (cV L) (jV L)).loc main_v15_scv ↦{fullShare} f15) ∗ ((V d (cV L) (jV L)).loc main_v17_scv ↦{fullShare} f17)
              ∗ ((V d (cV L) (jV L)).loc main_v12_scv ↦{fullShare} f12) ∗ ((V d (cV L) (jV L)).loc main_v13_scv ↦{fullShare} f13)
              ∗ ((V d (cV L) (jV L)).loc main_v9_scv ↦{fullShare} f9) ∗ ((V d (cV L) (jV L)).loc main_v11_scv ↦{fullShare} f11)
              ∗ ((V d (cV L) (jV L)).loc main_v18_scv ↦{fullShare} (scOut f15 f17 f12 f13 f9 f11 : Vec F S288 .i32)))
            ∗ ((∃ f, (V d (cV L) (jV L)).loc cc1_scratch0 ↦{fullShare} f) ∗ (∃ f, (V d (cV L) (jV L)).loc cc1_scratch1 ↦{fullShare} f)
              ∗ (∃ f, (V d (cV L) (jV L)).loc cc1_scratch2 ↦{fullShare} f) ∗ (∃ f, (V d (cV L) (jV L)).loc cc1_scratch3 ↦{fullShare} f)
              ∗ (∃ f, (V d (cV L) (jV L)).loc cc1_scratch4 ↦{fullShare} f) ∗ (∃ f, (V d (cV L) (jV L)).loc cc1_scratch5 ↦{fullShare} f)
              ∗ (∃ f, (V d (cV L) (jV L)).loc cc1_scratch6 ↦{fullShare} f) ∗ (∃ f, (V d (cV L) (jV L)).loc cc1_scratch7 ↦{fullShare} f))
            ∗ (semVal (V d (cV L) (jV L), .dma cc1_scoped0.sem) 0 ∗ semVal (V d (cV L) (jV L), .dma cc1_scoped1.sem) 0
              ∗ semVal (V d (cV L) (jV L), .dma cc1_scoped2.sem) 0 ∗ semVal (V d (cV L) (jV L), .dma cc1_scoped3.sem) 0
              ∗ semVal (V d (cV L) (jV L), .dma cc1_scoped4.sem) 0 ∗ semVal (V d (cV L) (jV L), .dma cc1_scoped5.sem) 0
              ∗ semVal (V d (cV L) (jV L), .dma cc1_scoped6.sem) 0)
            ∗ ∃ W', ⌜∀ p ∈ W', p ∈ W ∨ p.2 = none⌝ ∗ owes (V d (cV L) (jV L)) O W') : sProp 𝕄) := by
  unfold body
  rw [cc1__sc_body_eq_skeleton]; unfold cc1__sc_body_skel
  simp only [dif_pos hL]
  simp only [k1_part1_eq_skeleton, k1_part2_eq_skeleton, k1_part3_eq_skeleton, k1_part4_eq_skeleton, k1_part5_eq_skeleton, k1_part6_eq_skeleton,
    k1_part7_eq_skeleton, k1_part8_eq_skeleton, k1_part9_eq_skeleton, k1_part10_eq_skeleton, k1_part11_eq_skeleton, k1_part12_eq_skeleton,
    k1_part13_eq_skeleton, k1_part14_eq_skeleton]
  iintro ⟨Hmw, ⟨H15, H17, H12, H13, H9, H11, H18⟩, ⟨G0, G1, G2, G3, G4, G5, G6, G7⟩, ⟨S0, S1, S2, S3, S4, S5, S6⟩, HO⟩
  ihave H15 := (Entails.of_eq (pts_whole (F := F) (V d (cV L) (jV L)) main_v15_scv _).symm) $$ H15
  ihave H17 := (Entails.of_eq (pts_whole (F := F) (V d (cV L) (jV L)) main_v17_scv _).symm) $$ H17
  ihave H12 := (Entails.of_eq (pts_whole (F := F) (V d (cV L) (jV L)) main_v12_scv _).symm) $$ H12
  ihave H13 := (Entails.of_eq (pts_whole (F := F) (V d (cV L) (jV L)) main_v13_scv _).symm) $$ H13
  ihave H9 := (Entails.of_eq (pts_whole (F := F) (V d (cV L) (jV L)) main_v9_scv _).symm) $$ H9
  ihave H11 := (Entails.of_eq (pts_whole (F := F) (V d (cV L) (jV L)) main_v11_scv _).symm) $$ H11
  ihave H18 := (Entails.of_eq (pts_whole (F := F) (V d (cV L) (jV L)) main_v18_scv _).symm) $$ H18
  ihave G0 := (Entails.of_eq (pts_whole (F := F) (V d (cV L) (jV L)) cc1_scratch0 _).symm) $$ G0
  ihave G1 := (Entails.of_eq (pts_whole (F := F) (V d (cV L) (jV L)) cc1_scratch1 _).symm) $$ G1
  ihave G2 := (Entails.of_eq (pts_whole (F := F) (V d (cV L) (jV L)) cc1_scratch2 _).symm) $$ G2
  ihave G3 := (Entails.of_eq (pts_whole (F := F) (V d (cV L) (jV L)) cc1_scratch3 _).symm) $$ G3
  ihave G4 := (Entails.of_eq (pts_whole (F := F) (V d (cV L) (jV L)) cc1_scratch4 _).symm) $$ G4
  ihave G5 := (Entails.of_eq (pts_whole (F := F) (V d (cV L) (jV L)) cc1_scratch5 _).symm) $$ G5
  ihave G6 := (Entails.of_eq (pts_whole (F := F) (V d (cV L) (jV L)) cc1_scratch6 _).symm) $$ G6
  ihave G7 := (Entails.of_eq (pts_whole (F := F) (V d (cV L) (jV L)) cc1_scratch7 _).symm) $$ G7
  sl_exec
  sl_exec
  have e6 : run.sl.G6_16 d L f15 f17 f12 f13 g0 g1 g2 g3 = valPieces f15 f17 f12 f13 g0 g1 g2 g3 := rfl
  have n0 : run.sl.r_33 d L f17 f12 f13 g1 g2 g3 = naV (ldU f17 g1 0) (ldD f12 g2 0) (ldT f13 g3 0) 8 := rfl
  have n1 : run.sl.r_34 d L f17 f12 f13 g1 g2 g3 = naV (ldU f17 g1 1) (ldD f12 g2 1) (ldT f13 g3 1) 8 := rfl
  have x0 : run.sl.v376 d L f17 f12 f13 f9 f11 g1 g2 g3 g4 g5
      = nextOf (F := F) (ldR f9 g4 0) (ldB f11 g5 0) (run.sl.r_33 d L f17 f12 f13 g1 g2 g3) := rfl
  have x1 : run.sl.v424 d L f17 f12 f13 f9 f11 g1 g2 g3 g4 g5
      = nextOf (F := F) (ldR f9 g4 1) (ldB f11 g5 1) (run.sl.r_34 d L f17 f12 f13 g1 g2 g3) := rfl
  have e7 : run.sl.G7_18 d L f15 f17 f12 f13 f9 f11 g0 g1 g2 g3 g4 g5
      = outOf (F := F) (run.sl.G6_16 d L f15 f17 f12 f13 g0 g1 g2 g3)
          (fun h => if h = 0 then run.sl.r_33 d L f17 f12 f13 g1 g2 g3 else run.sl.r_34 d L f17 f12 f13 g1 g2 g3)
          (fun h => if h = 0 then run.sl.v376 d L f17 f12 f13 f9 f11 g1 g2 g3 g4 g5 else run.sl.v424 d L f17 f12 f13 f9 f11 g1 g2 g3 g4 g5) := rfl
  have e8 : View.write (Elt F) (Memref.whole main_v18_scv).view f18 (run.sl.dma166 d L f15 f17 f12 f13 f9 f11 g0 g1 g2 g3 g4 g5 g7) Finset.univ
      = (scOut f15 f17 f12 f13 f9 f11 : Vec F S288 .i32) := by
    rw [View.write_whole_univ]
    unfold run.sl.dma166
    rw [e7, e6, outPieces_eq f15 f17 f12 f13 f9 f11 g0 g1 g2 g3 g4 g5 _ _ _ _ n0 n1 x0 x1]
    funext y
    exact out_read f15 f17 f12 f13 f9 f11 g0 g1 g2 g3 g4 g5 g7 y
  rw [e8, wp_ret]
  imodintro
  isplitl [H15 H17 H12 H13 H9 H11 H18]
  · isplitl [H15]; · iexact H15
    isplitl [H17]; · iexact H17
    isplitl [H12]; · iexact H12
    isplitl [H13]; · iexact H13
    isplitl [H9]; · iexact H9
    isplitl [H11]; · iexact H11
    iexact H18
  isplitl [G0 G1 G2 G3 G4 G5 G6 G7]
  · isplitl [G0]; · iexists _; iexact G0
    isplitl [G1]; · iexists _; iexact G1
    isplitl [G2]; · iexists _; iexact G2
    isplitl [G3]; · iexists _; iexact G3
    isplitl [G4]; · iexists _; iexact G4
    isplitl [G5]; · iexists _; iexact G5
    isplitl [G6]; · iexists _; iexact G6
    iexists _; iexact G7
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  iexists _
  isplitr [HO]
  rotate_left
  · iexact HO
  · ipureintro
    intro p hp
    simp only [Finset.mem_insert] at hp
    rcases hp with rfl | rfl | rfl | rfl | rfl | rfl | rfl | hp
    all_goals first | exact Or.inl hp | exact Or.inr rfl

end Run

end Cert.Proof.Task

end
-- ==== Proof.Launch.lean ====
/-
  The launch: what the SparseCore call carries, each tile's task from it, and `main` on the TensorCore — the host operations,
  the TensorCore kernel's region and the SparseCore call, with every array's contents at the end.
-/
module

public import proofs.«01_k».proof.Proof.ScBody
public import proofs.«01_k».proof.Proof.Region

@[expose] public section

set_option maxRecDepth 16384

noncomputable section

namespace Cert.Proof.Launch

open Cert.KernelIdeal Cert.KernelIdeal.Gen
open Cert.Proof.Rings (UH UP UU 𝒱₀ K EH EP ΛP adm Left region rdats VW rowsI rowsD rowsT)
open Cert.Proof.Task (cV jV body cond cond_iff ownBufs_V ownSems0_V run scOut)

open Idealize.ShloMosaic Idealize.ShloMosaic.TcCoe Idealize.ShloMosaic.Tactic
open Idealize.ShloMosaic.SparseCore (S V)
open Idealize.ShloMosaic.SparseCore.Cfg (HIx Pay)
open Idealize.ShloMosaic.StableHlo (held after seq launchContents)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The program as the launch theorem sees it -/

abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The host operations and the arrays' contents between them -/

/-- Before the TensorCore kernel: the drafted tokens by row, padded, and the two transposed tables. -/
def opsA : List (HloOp τ sig (Elt F)) := [
  StableHlo.unary main_arg0 main_v0 ((transpose S8x32 [1, 0] · transposes_S32x8_S8x32_1_0) : (⟨S32x8, .i32⟩ : BufTy).Contents (Elt F) → (⟨S8x32, .i32⟩ : BufTy).Contents (Elt F)),
  StableHlo.reshape main_v0 main_v1 (rfl : (.i32 : EltTy) = .i32) shapeCasts_S8x32_S8x4x8,
  StableHlo.reshape main_v1 main_v2 (rfl : (.i32 : EltTy) = .i32) shapeCasts_S8x4x8_S32x8x1,
  StableHlo.nullary main_c (constantI S_ 32 0#32),
  StableHlo.unary main_c main_v3 (broadcastInDim S4x8x1 ![] bcast_S_S4x8x1 : (⟨S_, .i32⟩ : BufTy).Contents (Elt F) → (⟨S4x8x1, .i32⟩ : BufTy).Contents (Elt F)),
  StableHlo.binary main_v2 main_v3 main_v4 ((fun a b => concatenate S36x8x1 0 [⟨S32x8x1, a⟩, ⟨S4x8x1, b⟩] concatenates_S32x8x1_S4x8x1_S36x8x1_d0) : (⟨S32x8x1, .i32⟩ : BufTy).Contents (Elt F) → (⟨S4x8x1, .i32⟩ : BufTy).Contents (Elt F) → (⟨S36x8x1, .i32⟩ : BufTy).Contents (Elt F)),
  StableHlo.unary main_arg2 main_v5 ((transpose S9x32x100000 [1, 0, 2] · transposes_S32x9x100000_S9x32x100000_1_0_2) : (⟨S32x9x100000, .f32⟩ : BufTy).Contents (Elt F) → (⟨S9x32x100000, .f32⟩ : BufTy).Contents (Elt F)),
  StableHlo.unary main_arg4 main_v6 ((transpose S9x32x100000 [1, 0, 2] · transposes_S32x9x100000_S9x32x100000_1_0_2) : (⟨S32x9x100000, .f32⟩ : BufTy).Contents (Elt F) → (⟨S9x32x100000, .f32⟩ : BufTy).Contents (Elt F))]

/-- Between the two kernels: the six flat inputs of the SparseCore task. -/
def opsB : List (HloOp τ sig (Elt F)) := [
  StableHlo.unary main_v7_0 main_v8 ((extractStridedSlice S32x8x1 ![0, 0, 0] · slices_S36x8x1_S32x8x1_0_0_0) : (⟨S36x8x1, .i32⟩ : BufTy).Contents (Elt F) → (⟨S32x8x1, .i32⟩ : BufTy).Contents (Elt F)),
  StableHlo.reshape main_v8 main_v9 (rfl : (.i32 : EltTy) = .i32) shapeCasts_S32x8x1_S256,
  StableHlo.unary main_v7_0 main_v10 ((extractStridedSlice S4x8x1 ![32, 0, 0] · slices_S36x8x1_S4x8x1_32_0_0) : (⟨S36x8x1, .i32⟩ : BufTy).Contents (Elt F) → (⟨S4x8x1, .i32⟩ : BufTy).Contents (Elt F)),
  StableHlo.reshape main_v10 main_v11 (rfl : (.i32 : EltTy) = .i32) shapeCasts_S4x8x1_S32,
  StableHlo.reshape main_v7_1 main_v12 (rfl : (.f32 : EltTy) = .f32) shapeCasts_S32x8x1_S256,
  StableHlo.reshape main_v7_2 main_v13 (rfl : (.f32 : EltTy) = .f32) shapeCasts_S32x8x1_S256,
  StableHlo.unary main_arg0 main_v14 ((transpose S8x32 [1, 0] · transposes_S32x8_S8x32_1_0) : (⟨S32x8, .i32⟩ : BufTy).Contents (Elt F) → (⟨S8x32, .i32⟩ : BufTy).Contents (Elt F)),
  StableHlo.reshape main_v14 main_v15 (rfl : (.i32 : EltTy) = .i32) shapeCasts_S8x32_S256,
  StableHlo.unary main_arg3 main_v16 ((transpose S8x32 [1, 0] · transposes_S32x8_S8x32_1_0) : (⟨S32x8, .f32⟩ : BufTy).Contents (Elt F) → (⟨S8x32, .f32⟩ : BufTy).Contents (Elt F)),
  StableHlo.reshape main_v16 main_v17 (rfl : (.f32 : EltTy) = .f32) shapeCasts_S8x32_S256]

/-- After the SparseCore task: its flat result by batch row. -/
def opsC : List (HloOp τ sig (Elt F)) := [
  StableHlo.reshape main_v18 main_v19 (rfl : (.i32 : EltTy) = .i32) shapeCasts_S288_S9x32,
  StableHlo.unary main_v19 main_v20 ((transpose S32x9 [1, 0] · transposes_S9x32_S32x9_1_0) : (⟨S9x32, .i32⟩ : BufTy).Contents (Elt F) → (⟨S32x9, .i32⟩ : BufTy).Contents (Elt F))]

theorem main_eq (d : Dev nD) : main (F := F) d = seq opsA >>= fun _ =>
    (Prog.lift (.customCall (SparseCore.inner (Pipeline.entry 0)) ()) : Prog (TpuEff nD τ sig (Elt F) (SparseCore.Sig (ΛP (F := F)) 1) .tc) PUnit) >>= fun _ =>
    seq opsB >>= fun _ => (K (F := F)).run d 0 >>= fun _ => seq opsC >>= fun _ => pure ⟨⟩ := rfl

variable (m : (ℓ : Loc nD τ sig) → Buf (Elt F) ℓ) (ρ : Dev nD → PrngReg)

def V1 (d : Dev nD) : Valuation τ sig (Elt F) := after opsA (launchContents m d)

open Classical in
/-- What the TensorCore kernel leaves. -/
def V2 (d : Dev nD) : Valuation τ sig (Elt F) := if h : ∃ V', Left d (V1 m d) V' then h.choose else V1 m d

def V3 (d : Dev nD) : Valuation τ sig (Elt F) := after opsB (V2 m d)

/-- What the SparseCore task leaves in its result. -/
def scO (d : Dev nD) : Vec F S288 .i32 :=
  scOut (V3 m d (Proc.devRef .tc main_v15)) (V3 m d (Proc.devRef .tc main_v17)) (V3 m d (Proc.devRef .tc main_v12)) (V3 m d (Proc.devRef .tc main_v13))
    (V3 m d (Proc.devRef .tc main_v9)) (V3 m d (Proc.devRef .tc main_v11))

def V4 (d : Dev nD) : Valuation τ sig (Elt F) := Function.update (V3 m d) (Proc.devRef .tc main_v18) (scO m d)

def V5 (d : Dev nD) : Valuation τ sig (Elt F) := after opsC (V4 m d)

omit [FloatOps F] in
/-- A row-indexed array is what its rows are. -/
theorem rows_ext {α : Type} {n : ℕ} {X Y : (⟨3, ![n, 8, 1]⟩ : Shape).Idx → α}
    (h : ∀ (r : Fin n) (j : Fin 8), X (ix3 r j (0 : Fin 1)) = Y (ix3 r j (0 : Fin 1))) : X = Y := by
  funext y
  have hy : y = ix3 (y 0) (y 1) (0 : Fin 1) := by
    funext a
    match a with
    | 0 => rfl
    | 1 => rfl
    | 2 => exact Subsingleton.elim (α := Fin 1) _ _
  rw [hy]; exact h (y 0) (y 1)

/-- The region leaves one valuation. -/
theorem left_unique {d : Dev nD} {W V V' : Valuation τ sig (Elt F)} (h : Left d W V) (h' : Left d W V') : V = V' := by
  obtain ⟨a, b, c, e⟩ := h
  obtain ⟨a', b', c', e'⟩ := h'
  funext x
  by_cases h0 : x = Proc.devRef .tc main_v7_0
  · subst h0; exact rows_ext (n := 36) fun r j => (a r r.isLt j).trans (a' r r.isLt j).symm
  by_cases h1 : x = Proc.devRef .tc main_v7_1
  · subst h1; exact rows_ext (n := 32) fun r j => (b r r.isLt j).trans (b' r r.isLt j).symm
  by_cases h2 : x = Proc.devRef .tc main_v7_2
  · subst h2; exact rows_ext (n := 32) fun r j => (c r r.isLt j).trans (c' r r.isLt j).symm
  rw [e x h0 h1 h2, e' x h0 h1 h2]

theorem V2_eq {d : Dev nD} {V' : Valuation τ sig (Elt F)} (h : Left d (V1 m d) V') : V' = V2 m d := by
  have hex : ∃ V', Left d (V1 m d) V' := ⟨V', h⟩
  unfold V2; rw [dif_pos hex]; exact left_unique h hex.choose_spec

/-! ## What the call carries -/

/-- The task's seven arrays: the six inputs, and its result at `X`. -/
abbrev arrs (d : Dev nD) (X : Vec F S288 .i32) : sProp 𝕄 :=
  iprop(((SparseCore.T d).loc main_v15 ↦{fullShare} V3 m d (Proc.devRef .tc main_v15)) ∗ ((SparseCore.T d).loc main_v17 ↦{fullShare} V3 m d (Proc.devRef .tc main_v17))
    ∗ ((SparseCore.T d).loc main_v12 ↦{fullShare} V3 m d (Proc.devRef .tc main_v12)) ∗ ((SparseCore.T d).loc main_v13 ↦{fullShare} V3 m d (Proc.devRef .tc main_v13))
    ∗ ((SparseCore.T d).loc main_v9 ↦{fullShare} V3 m d (Proc.devRef .tc main_v9)) ∗ ((SparseCore.T d).loc main_v11 ↦{fullShare} V3 m d (Proc.devRef .tc main_v11))
    ∗ ((SparseCore.T d).loc main_v18 ↦{fullShare} X))

/-- A resource at the first SparseCore, nothing at the other. -/
def atCore (k : ℕ) (A : sProp 𝕄) : sProp 𝕄 := if k = 0 then A else iprop(emp)
/-- A resource at tile (0, 0), nothing at the others. -/
def atTile (k i : ℕ) (A : sProp 𝕄) : sProp 𝕄 := if k = 0 ∧ i = 0 then A else iprop(emp)

instance atCore_storable (k : ℕ) (A : sProp 𝕄) [BI.Storable (upEmb : UEmb _ 𝕄) A] : BI.Storable (upEmb : UEmb _ 𝕄) (atCore k A) := by
  unfold atCore; split <;> infer_instance
instance atTile_storable (k i : ℕ) (A : sProp 𝕄) [BI.Storable (upEmb : UEmb _ 𝕄) A] : BI.Storable (upEmb : UEmb _ 𝕄) (atTile k i A) := by
  unfold atTile; split <;> infer_instance

/-- The one call carries the seven arrays to SparseCore 0 and its tile 0, and back with the result written. -/
def P : (K (F := F)).Pay (nD := nD) (Val := Elt F) (Name := ℕ) (U := UU) where
  st := fun q d c => match q with | 0 => atCore c.val (arrs m d (V3 m d (Proc.devRef .tc main_v18)))
  dn := fun q d c => match q with | 0 => atCore c.val (arrs m d (scO m d))
  go := fun q d c i => match q with | 0 => atTile c.val i.val (arrs m d (V3 m d (Proc.devRef .tc main_v18)))
  td := fun q d c i => match q with | 0 => atTile c.val i.val (arrs m d (scO m d))
  x := fun _ _ => iprop(emp)

instance P_storable : (P (F := F) m).IsStorable where
  st q d c := match q with
    | 0 => (inferInstance : BI.Storable (upEmb : UEmb _ 𝕄) (atCore c.val (arrs m d (V3 m d (Proc.devRef .tc main_v18)))))
  dn q d c := match q with
    | 0 => (inferInstance : BI.Storable (upEmb : UEmb _ 𝕄) (atCore c.val (arrs m d (scO m d))))
  go q d c i := match q with
    | 0 => (inferInstance : BI.Storable (upEmb : UEmb _ 𝕄) (atTile c.val i.val (arrs m d (V3 m d (Proc.devRef .tc main_v18)))))
  td q d c i := match q with
    | 0 => (inferInstance : BI.Storable (upEmb : UEmb _ 𝕄) (atTile c.val i.val (arrs m d (scO m d))))

/-! ## The task on a tile -/

section Tile
variable (d : Dev nD) (L : grid1.Coords)

/-- The task on any tile, from what the call brings it: the run on tile (0, 0), nothing elsewhere. -/
theorem tile_body (hF : (K (F := F)).Facts) (O : CellTallies nD τ sig (HIx 1)) (W : Waits sig (HIx 1)) (hO : ∀ g, O g none = 0) :
    iprop(levAts (K (F := F)).L (K (F := F)).lev ∗ emp ∗ atTile (L 0).val (L 1).val (arrs m d (V3 m d (Proc.devRef .tc main_v18)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (body L)
          fun _ => (iprop(atTile (L 0).val (L 1).val (arrs m d (scO m d)) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  by_cases hL : cond L = 1#1
  · have h0 := (cond_iff L).1 hL
    unfold atTile
    rw [if_pos h0, if_pos h0, (K (F := F)).scopedBufs_V hF d (cV L) (jV L), SparseCore.Cfg.scopedSems0_V (Val := Elt F) d (cV L) (jV L), ownSems0_V, ownBufs_V]
    iintro ⟨#Hlv, -, Harr, ⟨⟨⟨%g0, G0⟩, ⟨%g1, G1⟩, ⟨%g2, G2⟩, ⟨%g3, G3⟩, ⟨%g4, G4⟩, ⟨%g5, G5⟩, ⟨%g6, G6⟩, ⟨%g7, G7⟩⟩, Hbufs⟩, ⟨HS, Hsems⟩, HO⟩
    ihave Hmw := (show levAts (K (F := F)).L (K (F := F)).lev ⊢ Transfers.MayWaits (V d (cV L) (jV L)) (default : HIx 1) O
      from (K (F := F)).mayWaits_none (thr := V d (cV L) (jV L)) hO) $$ Hlv
    iapply (wp_wand_r frame (wpE (defs₀ (F := F)) 𝒱₀ (V d (cV L) (jV L)) none))
    isplitl [Hmw Harr G0 G1 G2 G3 G4 G5 G6 G7 HS HO]
    · iapply (run d L O W hL (V3 m d (Proc.devRef .tc main_v15)) (V3 m d (Proc.devRef .tc main_v17)) (V3 m d (Proc.devRef .tc main_v12)) (V3 m d (Proc.devRef .tc main_v13))
        (V3 m d (Proc.devRef .tc main_v9)) (V3 m d (Proc.devRef .tc main_v11)) (V3 m d (Proc.devRef .tc main_v18)) g0 g1 g2 g3 g4 g5 g6 g7)
      isplitl [Hmw]; · iexact Hmw
      isplitl [Harr]; · iexact Harr
      isplitl [G0 G1 G2 G3 G4 G5 G6 G7]
      · isplitl [G0]; · iexact G0
        isplitl [G1]; · iexact G1
        isplitl [G2]; · iexact G2
        isplitl [G3]; · iexact G3
        isplitl [G4]; · iexact G4
        isplitl [G5]; · iexact G5
        isplitl [G6]; · iexact G6
        iexact G7
      isplitl [HS]; · iexact HS
      iexact HO
    iintro %_ ⟨Harr, HG, HS, HO⟩
    isplitl [Harr]; · iexact Harr
    isplitl [HG Hbufs]
    · isplitl [HG]; · iexact HG
      iexact Hbufs
    isplitl [HS Hsems]
    · isplitl [HS]; · iexact HS
      iexact Hsems
    iexact HO
  · have h0 : ¬((L 0).val = 0 ∧ (L 1).val = 0) := fun h => hL ((cond_iff L).2 h)
    unfold atTile
    rw [if_neg h0, if_neg h0]
    unfold Task.body
    rw [cc1__sc_body_eq_skeleton]; unfold cc1__sc_body_skel
    simp only [dif_neg hL]
    iintro ⟨-, -, -, Hb, Hs, HO⟩
    sl_step
    isplitr; · iempintro
    isplitl [Hb]; · iexact Hb
    isplitl [Hs]; · iexact Hs
    iexists W; isplitr
    · ipureintro; exact fun p hp => Or.inl hp
    iexact HO

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => body (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P (F := F) m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

/-! ## The call's arrays go to tile (0, 0) and come back -/

omit [FloatOps F] in
theorem tiles_eq (n k : ℕ) (hn : 0 < n) (A : sProp (MT nD τ sig (HIx 1) (Elt F) ℕ UU ℕ)) :
    (bigSep Finset.univ fun i : Fin n => atTile k i.val A) = atCore k A := by
  unfold atTile atCore
  by_cases hk : k = 0
  · have hs : (bigSep (Finset.univ.erase (⟨0, hn⟩ : Fin n)) fun i : Fin n => if k = 0 ∧ i.val = 0 then A else iprop(emp)) = (iprop(emp) : sProp 𝕄) := by
      refine (bigSep_congr (Ψ := fun _ => iprop(emp)) fun i hi => if_neg fun h => Finset.ne_of_mem_erase hi (Fin.ext h.2)).trans (bigSep_emp_const _)
    rw [SparseCore.bigSep_erase' (Finset.mem_univ (⟨0, hn⟩ : Fin n)), hs, if_pos ⟨hk, rfl⟩, if_pos hk]
    exact BI.equiv_iff.mp sep_emp
  · rw [if_neg hk]
    exact (bigSep_congr (Ψ := fun _ => iprop(emp)) fun i _ => if_neg fun h => hk h.1).trans (bigSep_emp_const _)

theorem vecSplit : (K (F := F)).VecSplit' (P m) 0 := by
  intro d c
  show atCore c.val (arrs m d (V3 m d (Proc.devRef .tc main_v18))) ⊢ |={Set.univ}=> iprop(
      (bigSep Finset.univ fun i : Fin ((K (F := F)).nSub 0) => atTile c.val i.val (arrs m d (V3 m d (Proc.devRef .tc main_v18))))
      ∗ ((bigSep Finset.univ fun i : Fin ((K (F := F)).nSub 0) => atTile c.val i.val (arrs m d (scO m d))) -∗ atCore c.val (arrs m d (scO m d))))
  rw [tiles_eq _ _ (show 0 < 16 by decide), tiles_eq _ _ (show 0 < 16 by decide)]
  iintro H; imodintro
  isplitl [H]; · iexact H
  iintro H; iexact H

omit [FloatOps F] in
theorem cores_eq (n : ℕ) (hn : 0 < n) (A : sProp (MT nD τ sig (HIx 1) (Elt F) ℕ UU ℕ)) :
    (bigSep Finset.univ fun c : Fin n => atCore c.val A) = A := by
  have h := tiles_eq n 0 hn A
  unfold atTile atCore at h
  simp only [true_and, if_true] at h
  exact h

theorem st0_eq (d : Dev nD) : (bigSep Finset.univ fun c : Fin ((K (F := F)).nCore 0) => (P m).st 0 d c) = arrs m d (V3 m d (Proc.devRef .tc main_v18)) := cores_eq _ (show 0 < 2 by decide) _
theorem dn0_eq (d : Dev nD) : (bigSep Finset.univ fun c : Fin ((K (F := F)).nCore 0) => (P m).dn 0 d c) = arrs m d (scO m d) := cores_eq _ (show 0 < 2 by decide) _

end Cert.Proof.Launch

end
-- ==== Proof.Run.lean ====
/-
  The kernel's program run: `main` on the TensorCore from every array at the launch memory, and every array's contents at the end.
-/
module

public import proofs.«01_k».proof.Proof.Launch
public import Idealize.ShloMosaic.Lib.StableHlo.RunRead

@[expose] public section

set_option maxRecDepth 16384

noncomputable section

namespace Cert.Proof.Launch

open Cert.KernelIdeal Cert.KernelIdeal.Gen
open Cert.Proof.Rings (UH UP UU 𝒱₀ K EH EP ΛP adm Left region rdats VW owesIn)

open Idealize.ShloMosaic Idealize.ShloMosaic.TcCoe Idealize.ShloMosaic.Tactic
open Idealize.ShloMosaic.SparseCore (S V)
open Idealize.ShloMosaic.SparseCore.Cfg (HIx Pay)
open Idealize.ShloMosaic.StableHlo (held after seq launchContents wp_seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What each device's TensorCore keeps for its pipeline's cells. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks) (initOf (Pipeline.cells (Pipeline.pin (pcfgs (F := F)) adm) cellOf_inj) (Pipeline.launchToks (Pipeline.pin (pcfgs (F := F)) adm) cellOf_inj), (1 : Counters))) $$ Hu
  icases H with ⟨HH, HP⟩
  ihave H := (own_pair_emb embR (initOf (Pipeline.cells (Pipeline.pin (pcfgs (F := F)) adm) cellOf_inj) (Pipeline.launchToks (Pipeline.pin (pcfgs (F := F)) adm) cellOf_inj)) (1 : Counters)) $$ HP
  icases H with ⟨HP, -⟩
  imod (Pipeline.fund_ghost (nD := nD) (τ := τ) (Pipeline.pin (pcfgs (F := F)) adm) EP cellOf_inj) $$ HP with ⟨Hg, Ht⟩
  imodintro
  isplitl [HH]; · iexact HH
  isplitl [Hg Ht]
  · ihave Hg := (Entails.of_eq (bigSep_congr (s := Finset.univ) fun (d : Dev nD) _ => bigSep_univ_of_subsingleton (0 : Fin 1)
      (Φ := fun p => Pipeline.cellsGhost (Pipeline.pin (pcfgs (F := F)) adm) EP p d))) $$ Hg
    ihave Ht := (Entails.of_eq (bigSep_congr (s := Finset.univ) fun (d : Dev nD) _ => bigSep_univ_of_subsingleton (0 : Fin 1)
      (Φ := fun p => (Pipeline.toksInit (Pipeline.pin (pcfgs (F := F)) adm) EP p d : sProp 𝕄)))) $$ Ht
    unfold G
    rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arrays -/

/-- The TensorCore's arrays that live through `main`. -/
def ucRefs : Finset (DevRef τ sig) := (StableHlo.tcRefs τ sig).filter fun b => ¬ b.isScoped

omit [FloatOps F] in
theorem unscopedBufs_held (c : Dev nD) (W : Valuation τ sig (Elt F)) :
    (unscopedBufs c (VW W c) : sProp 𝕄) = held (SparseCore.T c) ucRefs W := by
  unfold unscopedBufs held ucRefs StableHlo.tcRefs; rw [Finset.filter_map, bigSep_map]; rfl

theorem opsA_sub : ∀ op ∈ opsA (F := F), op.bufs ⊆ ucRefs := by
  simp only [opsA, List.forall_mem_cons, List.not_mem_nil, false_imp_iff, implies_true, and_true, StableHlo.unary_bufs, StableHlo.reshape_bufs,
    StableHlo.nullary_bufs, StableHlo.binary_bufs, Finset.insert_subset_iff, Finset.singleton_subset_iff]
  and_intros <;> decide
theorem opsB_sub : ∀ op ∈ opsB (F := F), op.bufs ⊆ ucRefs := by
  simp only [opsB, List.forall_mem_cons, List.not_mem_nil, false_imp_iff, implies_true, and_true, StableHlo.unary_bufs, StableHlo.reshape_bufs,
    Finset.insert_subset_iff, Finset.singleton_subset_iff]
  and_intros <;> decide
theorem opsC_sub : ∀ op ∈ opsC (F := F), op.bufs ⊆ ucRefs := by
  simp only [opsC, List.forall_mem_cons, List.not_mem_nil, false_imp_iff, implies_true, and_true, StableHlo.unary_bufs, StableHlo.reshape_bufs,
    Finset.insert_subset_iff, Finset.singleton_subset_iff]
  and_intros <;> decide
theorem opsA_fresh : ∀ op ∈ opsA (F := F), op.fresh = ∅ := by
  simp only [opsA, List.forall_mem_cons, List.not_mem_nil, false_imp_iff, implies_true, and_true]; and_intros <;> rfl
theorem opsB_fresh : ∀ op ∈ opsB (F := F), op.fresh = ∅ := by
  simp only [opsB, List.forall_mem_cons, List.not_mem_nil, false_imp_iff, implies_true, and_true]; and_intros <;> rfl
theorem opsC_fresh : ∀ op ∈ opsC (F := F), op.fresh = ∅ := by
  simp only [opsC, List.forall_mem_cons, List.not_mem_nil, false_imp_iff, implies_true, and_true]; and_intros <;> rfl

/-- The seven arrays of the SparseCore call. -/
def callRefs : Finset (DevRef τ sig) :=
  {Proc.devRef .tc main_v15, Proc.devRef .tc main_v17, Proc.devRef .tc main_v12, Proc.devRef .tc main_v13, Proc.devRef .tc main_v9, Proc.devRef .tc main_v11, Proc.devRef .tc main_v18}

theorem callRefs_sub : callRefs ⊆ ucRefs := by decide

theorem held_call (d : Dev nD) (W : Valuation τ sig (Elt F)) :
    (held (SparseCore.T d) ucRefs W : sProp 𝕄)
      = iprop((((SparseCore.T d).loc main_v15 ↦{fullShare} W (Proc.devRef .tc main_v15)) ∗ ((SparseCore.T d).loc main_v17 ↦{fullShare} W (Proc.devRef .tc main_v17))
    ∗ ((SparseCore.T d).loc main_v12 ↦{fullShare} W (Proc.devRef .tc main_v12)) ∗ ((SparseCore.T d).loc main_v13 ↦{fullShare} W (Proc.devRef .tc main_v13))
    ∗ ((SparseCore.T d).loc main_v9 ↦{fullShare} W (Proc.devRef .tc main_v9)) ∗ ((SparseCore.T d).loc main_v11 ↦{fullShare} W (Proc.devRef .tc main_v11))
    ∗ ((SparseCore.T d).loc main_v18 ↦{fullShare} W (Proc.devRef .tc main_v18))) ∗ held (SparseCore.T d) (ucRefs \ callRefs) W) := by
  rw [StableHlo.held_sub_split (SparseCore.T d) callRefs_sub]
  congr 1
  unfold held callRefs
  rw [bigSep_eq_bigSepL_of_eq [Proc.devRef .tc main_v15, Proc.devRef .tc main_v17, Proc.devRef .tc main_v12, Proc.devRef .tc main_v13, Proc.devRef .tc main_v9, Proc.devRef .tc main_v11, Proc.devRef .tc main_v18]
    (by decide) (by decide)]
  rfl

theorem held_before (d : Dev nD) :
    (held (SparseCore.T d) ucRefs (V3 m d) : sProp 𝕄) = iprop(arrs m d (V3 m d (Proc.devRef .tc main_v18)) ∗ held (SparseCore.T d) (ucRefs \ callRefs) (V3 m d)) :=
  held_call d (V3 m d)

theorem V4_ne (d : Dev nD) {b : DevRef τ sig} (h : b ≠ Proc.devRef .tc main_v18) : V4 m d b = V3 m d b := Function.update_of_ne h _ _
theorem V4_self (d : Dev nD) : V4 m d (Proc.devRef .tc main_v18) = scO m d := Function.update_self _ _ _

theorem held_after (d : Dev nD) :
    (held (SparseCore.T d) ucRefs (V4 m d) : sProp 𝕄) = iprop(arrs m d (scO m d) ∗ held (SparseCore.T d) (ucRefs \ callRefs) (V3 m d)) := by
  rw [held_call d (V4 m d), StableHlo.held_congr (SparseCore.T d) (S := ucRefs \ callRefs) (V := V4 m d) (V' := V3 m d) fun b hb => V4_ne m d (by
      rintro rfl; exact absurd hb (by decide)),
    V4_self, V4_ne m d (show Proc.devRef .tc main_v15 ≠ _ by decide), V4_ne m d (show Proc.devRef .tc main_v17 ≠ _ by decide), V4_ne m d (show Proc.devRef .tc main_v12 ≠ _ by decide),
    V4_ne m d (show Proc.devRef .tc main_v13 ≠ _ by decide), V4_ne m d (show Proc.devRef .tc main_v9 ≠ _ by decide), V4_ne m d (show Proc.devRef .tc main_v11 ≠ _ by decide)]

/-! ## The TensorCore kernel's region in `main` -/

theorem Otc_none (c : Dev nD) (n : ℕ) (g : GSem nD τ sig) : (K (F := F)).Otc c n g (none : HIx 1) = 0 := by
  unfold SparseCore.Cfg.Otc
  simp only [Finset.sum_apply, Finsupp.finset_sum_apply]
  refine Finset.sum_eq_zero fun q _ => ?_
  split
  · simp only [Finset.sum_apply, Finsupp.finset_sum_apply]
    refine Finset.sum_eq_zero fun c _ => ?_
    rw [tallyAt_apply, if_neg fun e => nomatch e.2]
  · rfl

/-- The waits the TensorCore may have recorded before call 0. -/
def Rc (d : Dev nD) : Set (SemLoc sig × HIx 1) := {p | (K (F := F)).lev (SparseCore.T d, p.1) p.2 ≤ 0}

theorem Rc_none (d : Dev nD) (p : SemLoc sig × HIx 1) (h : p.2 = none) : p ∈ Rc (F := F) d := by
  show (K (F := F)).lev _ p.2 ≤ _; rw [h]; exact Nat.zero_le _

section Region

/-- The call of the region, under the certificate's own labels. -/
abbrev entryProg : Prog (TpuEff nD τ sig (Elt F) (ΛP (F := F)) .tc) PUnit := .op (.customCall (Pipeline.entry 0) ()) fun _ => .ret ⟨⟩

variable (W : Dev nD → Valuation τ sig (Elt F)) (O : Dev nD → CellTallies nD τ sig (HIx 1)) (R : Set (SemLoc sig × HIx 1))
  (hO : ∀ c g, O c g none = 0) (hR : ∀ p : SemLoc sig × HIx 1, p.2 = none → p ∈ R)

theorem entry_lift : (Prog.lift (.customCall (SparseCore.inner (Pipeline.entry 0)) ()) : Prog (TpuEff nD τ sig (Elt F) (SparseCore.Sig (ΛP (F := F)) 1) .tc) PUnit)
    = SparseCore.liftProg (entryProg (F := F)) := rfl

include hO hR in
set_option backward.isDefEq.respectTransparency.types false in
/-- The region run from the arrays at any valuation, under the certificate's own body table. -/
theorem region_wp [∀ e, Nonempty (Elt F e)] (d : Dev nD) :
    iprop(boundary (d.tc : Thread nD τ) ∗ (unscopedBufs d (VW (W d) d) ∗ owesIn O R d) ∗ levAts (K (F := F)).L (K (F := F)).lev ∗ G d)
      ⊢ wp frame (wpE (D (F := F)) 𝒱 (d.tc : Thread nD τ) none) Set.univ
          (entryProg (F := F))
          fun _ => (iprop(boundary (d.tc : Thread nD τ) ∗ (∃ V' : Valuation τ sig (Elt F), ⌜Left d (W d) V'⌝ ∗ unscopedBufs d (VW V' d)) ∗ owesIn O R d) : sProp 𝕄) := by
  have hw := Pipeline.RDat.RegionSeg.wp (pcfgs (F := F)) adm (rdats W O R) (none : HIx 1) cellOf_inj EP defs₀ 𝒱₀ (K (F := F)).L (K (F := F)).lev
    (region W O R hO hR) d none (fun _ h => nomatch h) (fun _ => (Prog.ret ⟨⟩ : Prog (TpuEff nD τ sig (Elt F) (ΛP (F := F)) .tc) PUnit))
    (fun _ => iprop(boundary (d.tc : Thread nD τ) ∗ (region W O R hO hR).post d))
  unfold G
  iintro ⟨Hb, Hp, Hlv, Hg, Ht⟩
  iapply hw
  isplitr
  · iintro H; rw [wp_ret]; imodintro; iexact H
  isplitl [Hb]; · iexact Hb
  isplitl [Hp]
  · rw [show (region W O R hO hR).pre d = iprop(unscopedBufs d (VW (W d) d) ∗ owesIn O R d) from rfl]
    iexact Hp
  isplitl [Hlv]; · iexact Hlv
  isplitl [Hg] <;> iassumption

end Region

/-- The region as `main` runs it. -/
theorem region_step [∀ e, Nonempty (Elt F e)] (d : Dev nD) :
    iprop(boundary (SparseCore.T d) ∗ held (SparseCore.T d) ucRefs (V1 m d) ∗ (K (F := F)).tcSt EH d 0 ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 1) .tc) PUnit)
          fun _ => (iprop(boundary (SparseCore.T d) ∗ held (SparseCore.T d) ucRefs (V2 m d) ∗ (K (F := F)).tcSt EH d 0) : sProp 𝕄) := by
  rw [entry_lift]
  have hw := region_wp (V1 m) (fun c => (K (F := F)).Otc c 0) (Rc (F := F) d) (fun c g => Otc_none c 0 g) (Rc_none d) d
  unfold SparseCore.Cfg.tcSt
  iintro ⟨Hb, Hh, ⟨⟨%W, %hW, HO⟩, Hst⟩, Hlv, HG⟩
  iapply ((K (F := F)).wp_liftProg (D (F := F)) 𝒱 (SparseCore.T d) Set.univ none (entryProg (F := F)) _)
  iapply (wp_wand_r frame (wpE (D (F := F)) 𝒱 (SparseCore.T d) none))
  isplitl [Hb Hh HO Hlv HG]
  · iapply hw
    isplitl [Hb]; · iexact Hb
    isplitl [Hh HO]
    · rw [unscopedBufs_held]
      isplitl [Hh]; · iexact Hh
      unfold owesIn
      iexists W; isplitr
      · ipureintro; exact fun p hp => hW p hp
      iexact HO
    isplitl [Hlv]; · iexact Hlv
    iexact HG
  iintro %_ ⟨Hb, Hp⟩
  unfold owesIn
  icases Hp with ⟨⟨%V', %hV', Hh⟩, %R, %hR, HO⟩
  isplitl [Hb]; · iexact Hb
  rw [← V2_eq m hV', ← unscopedBufs_held]
  isplitl [Hh]; · iexact Hh
  isplitl [HO]
  · iexists R; isplitr
    · ipureintro; exact fun p hp => hR hp
    iexact HO
  iexact Hst

/-! ## `main` -/

abbrev FIN (d : Dev nD) : sProp 𝕄 := held (SparseCore.T d) ucRefs (V5 m d)

set_option backward.isDefEq.respectTransparency.types false in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) ucRefs (launchContents m d) from
    unscopedBufs_held d (launchContents m d), main_eq]
  iintro ⟨#Hctx, Hst, ⟨Hb, Hh, Hts, -⟩, HG⟩
  ihave #Hlv := (SparseCore.Cfg.ctx_levAts κ) $$ Hctx
  iapply (wp_seq 𝒱 none Set.univ d ucRefs _ opsA opsA_sub opsA_fresh (launchContents m d)) $$ [Hb Hh]
  · isplitl [Hb] <;> iassumption
  iintro ⟨Hb, Hh⟩
  rw [wp_bind]
  iapply (wp_wand_r frame (wpE ((K (F := F)).defs (D (F := F))) 𝒱 (SparseCore.T d) none))
  isplitl [Hb Hh Hst HG]
  · iapply (region_step m d)
    isplitl [Hb]; · iexact Hb
    isplitl [Hh]; · iexact Hh
    isplitl [Hst]; · iexact Hst
    isplitr; · iexact Hlv
    iexact HG
  iintro %_ ⟨Hb, Hh, Hst⟩
  iapply (wp_seq 𝒱 none Set.univ d ucRefs _ opsB opsB_sub opsB_fresh (V2 m d)) $$ [Hb Hh]
  · isplitl [Hb] <;> iassumption
  iintro ⟨Hb, Hh⟩
  ihave Hh := (show (held (SparseCore.T d) ucRefs (after opsB (V2 m d)) : sProp 𝕄) ⊢ _ from Entails.of_eq (held_before m d)) $$ Hh
  icases Hh with ⟨Ha, Hh⟩
  rw [wp_bind]
  iapply ((K (F := F)).wp_run (D (F := F)) 𝒱 (EH := EH) (P := P m) κ d 0) $$ [Hst Ha Hb Hh Hts]
  isplitr; · iexact Hctx
  isplitl [Hst]; · iexact Hst
  isplitl [Ha]
  · rw [st0_eq]; iexact Ha
  iintro ⟨Hst, Hdn⟩
  ihave Ha := (Entails.of_eq (dn0_eq m d)) $$ Hdn
  ihave Hh := (Entails.of_eq (held_after m d).symm) $$ [Ha Hh]
  · isplitl [Ha] <;> iassumption
  iapply (wp_seq 𝒱 none Set.univ d ucRefs _ opsC opsC_sub opsC_fresh (V4 m d)) $$ [Hb Hh]
  · isplitl [Hb] <;> iassumption
  iintro ⟨Hb, Hh⟩
  rw [wp_pure]; imodintro
  isplitl [Hst]; · iexact Hst
  isplitl [Hh]; · iexact Hh
  isplitl [Hb] <;> iassumption

def fq (d : Dev nD) (s' : Phys nD τ sig (Elt F)) : Prop := ∀ b ∈ ucRefs, s'.mem.mem ((d, b) : Loc nD τ sig) = V5 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) ucRefs) $$ [HSI H]
  · isplitl [HSI]; · iexact HSI
    iexact H
  ipureintro
  exact fun b hb => h b hb

/-- Every array at the end, and the machine quiet. -/
def QC : PUnit × MemSt nD τ sig (Elt F) → Prop := fun r => (∀ d : Dev nD, ∀ b ∈ ucRefs, r.2.mem ((d, b) : Loc nD τ sig) = V5 m d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

/-! ## The arguments -/

/-- What the program writes. -/
theorem V5_arg (d : Dev nD) (r : Ref sig .tc)
    (hA : r ∉ [main_v0, main_v1, main_v2, main_c, main_v3, main_v4, main_v5, main_v6])
    (hL : r ∉ [main_v7_0, main_v7_1, main_v7_2])
    (hB : r ∉ [main_v8, main_v9, main_v10, main_v11, main_v12, main_v13, main_v14, main_v15, main_v16, main_v17])
    (hC : r ∉ [main_v18, main_v19, main_v20]) : V5 m d (Proc.devRef .tc r) = launchContents m d (Proc.devRef .tc r) := by
  have h5 : V5 m d (Proc.devRef .tc r) = V4 m d (Proc.devRef .tc r) :=
    StableHlo.after_unwritten [main_v19, main_v20] rfl (fun h => hC (List.mem_cons_of_mem _ h)) _
  have h4 : V4 m d (Proc.devRef .tc r) = V3 m d (Proc.devRef .tc r) := V4_ne m d (StableHlo.devRef_ne_of_ne fun h => hC (h ▸ List.mem_cons_self))
  have h3 : V3 m d (Proc.devRef .tc r) = V2 m d (Proc.devRef .tc r) :=
    StableHlo.after_unwritten [main_v8, main_v9, main_v10, main_v11, main_v12, main_v13, main_v14, main_v15, main_v16, main_v17] rfl hB _
  have h2 : V2 m d (Proc.devRef .tc r) = V1 m d (Proc.devRef .tc r) := by
    unfold V2; split
    next h =>
      simp only [List.mem_cons, List.not_mem_nil, _root_.or_false, not_or] at hL
      exact h.choose_spec.2.2.2 _ (StableHlo.devRef_ne_of_ne hL.1) (StableHlo.devRef_ne_of_ne hL.2.1) (StableHlo.devRef_ne_of_ne hL.2.2)
    next => rfl
  have h1 : V1 m d (Proc.devRef .tc r) = launchContents m d (Proc.devRef .tc r) :=
    StableHlo.after_unwritten [main_v0, main_v1, main_v2, main_c, main_v3, main_v4, main_v5, main_v6] rfl hA _
  rw [h5, h4, h3, h2, h1]

/-- Every argument ends as launched. -/
theorem args_kept {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have key (a : Ref sig .tc) (hu : Proc.devRef .tc a ∈ ucRefs) hA hL hB hC : r.2.mem ((c.tc : Thread nD τ).loc a) = m ((c.tc : Thread nD τ).loc a) :=
    (h.1 c _ hu).trans (V5_arg m c a hA hL hB hC)
  exact ⟨key _ (by decide) (by decide) (by decide) (by decide) (by decide), key _ (by decide) (by decide) (by decide) (by decide) (by decide),
    key _ (by decide) (by decide) (by decide) (by decide) (by decide), key _ (by decide) (by decide) (by decide) (by decide) (by decide),
    key _ (by decide) (by decide) (by decide) (by decide) (by decide)⟩

end Cert.Proof.Launch

end
-- ==== Proof.Same.lean ====
/-
  The kernel as printed and its reading over the extended reals have one text: over any float values their body
  tables are equal, so that a run of one is a run of the other.
-/
module

public import proofs.«01_k».proof.Proof.Gen.Kernel
public import proofs.«01_k».proof.Proof.Gen.KernelIdeal

@[expose] public section

set_option maxRecDepth 16384

noncomputable section

namespace Cert.Proof.Same

open Idealize.ShloMosaic Idealize.SL.Sem

variable {F : FTy → Type} [FloatOps F]

instance hK : Cert.Kernel.Facts := Cert.Kernel.Gen.facts
instance hI : Cert.KernelIdeal.Facts := Cert.KernelIdeal.Gen.facts

/-- The kernels' bodies agree at every label. -/
theorem bodies_eq : Cert.Kernel.defs₀ (F := F) = Cert.KernelIdeal.defs₀ (F := F) := by
  funext p ℓ a
  rcases p with _ | _ | _
  all_goals
    rcases ℓ with ⟨_ | _ | n, h⟩
    · rfl
    · rfl
    · exact absurd h (by omega)

/-- The body tables agree. -/
theorem defs_eq : Cert.Kernel.defs (F := F) = Cert.KernelIdeal.defs (F := F) :=
  congrArg (fun D => Cert.KernelIdeal.sc.defs (Pipeline.defs Cert.KernelIdeal.pcfgs D)) bodies_eq

end Cert.Proof.Same

end
-- ==== Proof.Pick.lean ====
/-
  The first position of a largest value: what it is, that it is one, that a rescaled logarithm keeps it; and the two ways
  the programs find it — a fold of pairs in any order, and the maximum followed by the smallest position that attains it.
-/
module

public import Idealize.ShloMosaic.PureOps
public import Idealize.ShloMosaic.PureOps.Reduce
public import Idealize.ShloMosaic.PureOps.Ideal.Laws
public import Mathlib.Analysis.SpecialFunctions.Log.Basic

@[expose] public section

noncomputable section

namespace Cert.Proof.Pick

open Idealize.ShloMosaic

/-! ## The first position of a largest value -/

/-- Among the positions `lo ≤ k < hi`, `m` is the largest value of `f` and the word `w` is the first position that has it. -/
def BestOn (f : ℕ → EReal) (lo hi : ℕ) (m : EReal) (w : BitVec 32) : Prop :=
  ∃ k, lo ≤ k ∧ k < hi ∧ m = f k ∧ w = BitVec.ofNat 32 k ∧ (∀ j, lo ≤ j → j < hi → f j ≤ m) ∧ ∀ j, lo ≤ j → j < k → f j < m

/-- Two neighbouring ranges: the later one wins only when its value is larger. -/
theorem BestOn.merge {f : ℕ → EReal} {lo mid hi : ℕ} {m m' : EReal} {w w' : BitVec 32} (h : BestOn f lo mid m w) (h' : BestOn f mid hi m' w') :
    BestOn f lo hi (if m < m' then m' else m) (if m < m' then w' else w) := by
  obtain ⟨k, h1, h2, rfl, rfl, h5, h6⟩ := h
  obtain ⟨k', h1', h2', rfl, rfl, h5', h6'⟩ := h'
  by_cases c : f k < f k'
  · rw [if_pos c, if_pos c]
    refine ⟨k', by omega, h2', rfl, rfl, fun j a b => ?_, fun j a b => ?_⟩
    · rcases lt_or_ge j mid with e | e
      · exact (h5 j a e).trans c.le
      · exact h5' j e b
    · rcases lt_or_ge j mid with e | e
      · exact (h5 j a e).trans_lt c
      · exact h6' j e b
  · rw [if_neg c, if_neg c]
    refine ⟨k, h1, by omega, rfl, rfl, fun j a b => ?_, fun j a b => h6 j a b⟩
    rcases lt_or_ge j mid with e | e
    · exact h5 j a e
    · exact (h5' j e b).trans (not_lt.1 c)

/-- Two functions that order the positions alike have the same first position. -/
theorem BestOn.unique {f g : ℕ → EReal} {lo hi : ℕ} {m m' : EReal} {w w' : BitVec 32} (h : BestOn f lo hi m w) (h' : BestOn g lo hi m' w')
    (hfg : ∀ i j, lo ≤ i → i < hi → lo ≤ j → j < hi → (f i < f j ↔ g i < g j)) : w = w' := by
  obtain ⟨k, h1, h2, rfl, rfl, h5, h6⟩ := h
  obtain ⟨k', h1', h2', rfl, rfl, h5', h6'⟩ := h'
  congr 1
  rcases lt_trichotomy k k' with e | e | e
  · exact absurd ((hfg k k' h1 h2 h1' h2').2 (h6' k h1 e)) (not_lt.2 (h5 k' h1' h2'))
  · exact e
  · exact absurd ((hfg k' k h1' h2' h1 h2).1 (h6 k' h1' e)) (not_lt.2 (h5' k h1 h2))

/-- Only the values in the range count. -/
theorem BestOn.congr {f g : ℕ → EReal} {lo hi : ℕ} {m : EReal} {w : BitVec 32} (h : BestOn f lo hi m w)
    (hfg : ∀ i, lo ≤ i → i < hi → f i = g i) : BestOn g lo hi m w := by
  obtain ⟨k, h1, h2, rfl, rfl, h5, h6⟩ := h
  exact ⟨k, h1, h2, hfg k h1 h2, rfl, fun j a b => by rw [← hfg j a b]; exact h5 j a b, fun j a b => by rw [← hfg j a (by omega)]; exact h6 j a b⟩

/-! ## The maximum, then the smallest position that attains it -/

theorem minsi_toInt_le (c x y : BitVec 32) : c.toInt ≤ (IntOp.minsi x y).toInt ↔ c.toInt ≤ x.toInt ∧ c.toInt ≤ y.toInt := by
  unfold IntOp.minsi
  simp only [BitVec.slt, decide_eq_true_eq]
  split <;> constructor <;> intro h <;> omega

theorem ofNat_toInt {n : ℕ} (h : n < 2 ^ 31) : (BitVec.ofNat 32 n).toInt = (n : ℤ) := by
  rw [BitVec.toInt_eq_toNat_cond, BitVec.toNat_ofNat, Nat.mod_eq_of_lt (by omega), if_pos (by omega)]

/-- A stretch's maximum and the smallest of its positions that attain it, the others standing for a large number. -/
theorem bestOn_chunk {N : ℕ} (hN : 0 < N) (o : ℕ) (ho : o + N ≤ 100000) (r : Fin N → EReal) (f : ℕ → EReal) (hf : ∀ k : Fin N, f (o + k.val) = r k)
    (init : EReal) (hi : init = ⊥) (m : EReal) (hm : m = (Finset.univ : Finset (Fin N)).fold max init r)
    (w : BitVec 32) (hw : w = (Finset.univ : Finset (Fin N)).fold IntOp.minsi 2147483647#32
      (fun k => if r k = m then BitVec.ofNat 32 (o + k.val) else 1073741824#32)) :
    BestOn f o (o + N) m w := by
  subst hi
  haveI : Nonempty (Fin N) := ⟨⟨0, hN⟩⟩
  have hle : ∀ k, r k ≤ m := fun k => by rw [hm]; exact (Finset.le_fold_max _).2 (Or.inr ⟨k, Finset.mem_univ k, le_rfl⟩)
  obtain ⟨k₀, -, hk₀⟩ := Finset.exists_max_image (Finset.univ : Finset (Fin N)) r Finset.univ_nonempty
  have hm₀ : r k₀ = m := le_antisymm (hle k₀) (by
    rw [hm]; exact (Finset.fold_max_le _).2 ⟨bot_le, fun k hk => hk₀ k hk⟩)
  have hex : ∃ n, ∃ h : n < N, r ⟨n, h⟩ = m := ⟨k₀.val, k₀.isLt, hm₀⟩
  classical
  obtain ⟨hn, hr⟩ := Nat.find_spec hex
  set n := Nat.find hex with hn_def
  have hmin : ∀ j, j < n → ∀ h : j < N, r ⟨j, h⟩ ≠ m := fun j hj h e => Nat.find_min hex hj ⟨h, e⟩
  have hw' : w = BitVec.ofNat 32 (o + n) := by
    have key := fun c : BitVec 32 => Finset.fold_op_rel_iff_and (op := IntOp.minsi) (r := fun x y : BitVec 32 => x.toInt ≤ y.toInt)
      (f := fun k : Fin N => if r k = m then BitVec.ofNat 32 (o + k.val) else 1073741824#32) (b := 2147483647#32) (s := Finset.univ)
      (fun {x y z} => minsi_toInt_le x y z) (c := c)
    rw [← hw] at key
    apply BitVec.eq_of_toInt_eq
    apply le_antisymm
    · have h1 := ((key w).1 le_rfl).2 ⟨n, hn⟩ (Finset.mem_univ _)
      beta_reduce at h1
      rw [if_pos hr] at h1
      exact h1
    · refine (key _).2 ⟨?_, fun k _ => ?_⟩
      · rw [ofNat_toInt (by omega)]; show _ ≤ (2147483647 : ℤ); omega
      · by_cases e : r k = m
        · have hge : n ≤ k.val := by
            by_contra hlt
            exact hmin k.val (not_le.1 hlt) k.isLt e
          simp only [e, if_true]
          rw [ofNat_toInt (by omega), ofNat_toInt (by have := k.isLt; omega)]; omega
        · simp only [e, if_false]
          rw [ofNat_toInt (by omega)]; show _ ≤ (1073741824 : ℤ); omega
  refine ⟨o + n, by omega, by omega, ?_, hw', fun j a b => ?_, fun j a b => ?_⟩
  · rw [hf ⟨n, hn⟩]; exact hr.symm
  · have := hf ⟨j - o, by omega⟩
    simp only [Nat.add_sub_cancel' a] at this
    rw [this]; exact hle _
  · have := hf ⟨j - o, by omega⟩
    simp only [Nat.add_sub_cancel' a] at this
    rw [this]; exact lt_of_le_of_ne (hle _) (hmin (j - o) (by omega) _)

/-! ## A fold of pairs -/

/-- The pair kept of two: the larger value, of equal ones the smaller position. -/
def keep (a b : EReal × BitVec 32) : EReal × BitVec 32 :=
  if b.1 < a.1 then a else if a.1 = b.1 ∧ a.2.toInt < b.2.toInt then (b.1, a.2) else b

theorem keep_mem (a b : EReal × BitVec 32) : keep a b = a ∨ keep a b = b := by
  unfold keep
  split
  · exact Or.inl rfl
  · split
    · rename_i h; exact Or.inl (by rw [← h.1])
    · exact Or.inr rfl

/-- `a` is at least as good as `b`. -/
def Ge (a b : EReal × BitVec 32) : Prop := b.1 < a.1 ∨ (b.1 = a.1 ∧ a.2.toInt ≤ b.2.toInt)

theorem Ge.trans {a b c : EReal × BitVec 32} (h : Ge a b) (h' : Ge b c) : Ge a c := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

theorem keep_ge (a b : EReal × BitVec 32) : Ge (keep a b) a ∧ Ge (keep a b) b := by
  unfold keep Ge
  split
  · rename_i h; exact ⟨Or.inr ⟨rfl, le_rfl⟩, Or.inl h⟩
  · rename_i h
    split
    · rename_i h'; exact ⟨Or.inr ⟨h'.1, le_rfl⟩, Or.inr ⟨rfl, h'.2.le⟩⟩
    · rename_i h'
      refine ⟨?_, Or.inr ⟨rfl, le_rfl⟩⟩
      rcases (not_lt.1 h).lt_or_eq with e | e
      · exact Or.inl e
      · exact Or.inr ⟨e, not_lt.1 fun c => h' ⟨e, c⟩⟩

theorem foldl_keep {ι : Type} (p : ι → EReal × BitVec 32) (l : List ι) (a : EReal × BitVec 32) :
    (l.foldl (fun r n => keep r (p n)) a = a ∨ ∃ n ∈ l, l.foldl (fun r n => keep r (p n)) a = p n)
      ∧ Ge (l.foldl (fun r n => keep r (p n)) a) a ∧ ∀ n ∈ l, Ge (l.foldl (fun r n => keep r (p n)) a) (p n) := by
  induction l generalizing a with
  | nil => exact ⟨Or.inl rfl, Or.inr ⟨rfl, le_rfl⟩, fun n h => absurd h List.not_mem_nil⟩
  | cons x l ih =>
    obtain ⟨h1, h2, h3⟩ := ih (keep a (p x))
    rw [List.foldl_cons]
    refine ⟨?_, h2.trans (keep_ge a (p x)).1, fun n hn => ?_⟩
    · rcases h1 with h1 | ⟨n, hn, h1⟩
      · rcases keep_mem a (p x) with e | e
        · exact Or.inl (h1.trans e)
        · exact Or.inr ⟨x, List.mem_cons_self, h1.trans e⟩
      · exact Or.inr ⟨n, List.mem_cons_of_mem _ hn, h1⟩
    · rcases List.mem_cons.1 hn with rfl | hn
      · exact h2.trans (keep_ge a (p n)).2
      · exact h3 n hn

/-- The fold over all the positions, in any order, from the least value at position 0. -/
theorem bestOn_foldl {ι : Type} (p : ι → EReal × BitVec 32) (l : List ι) (N : ℕ) (hN : 0 < N) (hN' : N ≤ 100000) (f : ℕ → EReal)
    (hl : ∀ n ∈ l, ∃ k, k < N ∧ p n = (f k, BitVec.ofNat 32 k)) (hl' : ∀ k, k < N → ∃ n ∈ l, p n = (f k, BitVec.ofNat 32 k)) :
    BestOn f 0 N (l.foldl (fun r n => keep r (p n)) (⊥, 0#32)).1 (l.foldl (fun r n => keep r (p n)) (⊥, 0#32)).2 := by
  obtain ⟨h1, h2, h3⟩ := foldl_keep p l (⊥, 0#32)
  set R := l.foldl (fun r n => keep r (p n)) (⊥, 0#32)
  have hR : ∃ k, k < N ∧ R = (f k, BitVec.ofNat 32 k) := by
    rcases h1 with h1 | ⟨n, hn, h1⟩
    · obtain ⟨n, hn, e⟩ := hl' 0 hN
      have := h3 n hn
      rw [h1, e] at this
      refine ⟨0, hN, ?_⟩
      rw [h1]
      rcases this with h | ⟨h, -⟩
      · exact absurd h not_lt_bot
      · exact Prod.ext h.symm rfl
    · obtain ⟨k, hk, e⟩ := hl n hn
      exact ⟨k, hk, h1.trans e⟩
  obtain ⟨k, hk, e⟩ := hR
  refine ⟨k, Nat.zero_le k, hk, by rw [e], by rw [e], fun j _ hj => ?_, fun j _ hj => ?_⟩
  · obtain ⟨n, hn, e'⟩ := hl' j hj
    have := h3 n hn
    rw [e'] at this
    rcases this with h | ⟨h, -⟩
    · exact h.le
    · exact h.le
  · obtain ⟨n, hn, e'⟩ := hl' j (by omega)
    have := h3 n hn
    rw [e'] at this
    rcases this with h | ⟨-, h⟩
    · exact h
    · rw [e] at h
      rw [ofNat_toInt (by omega), ofNat_toInt (by omega)] at h
      omega

/-! ## The two scores -/

theorem log_coe {r : ℝ} (h : 0 < r) : Ideal.log (r : EReal) = (Real.log r : EReal) := by
  show (if r ≤ 0 then (⊥ : EReal) else (Real.log r : EReal)) = _
  rw [if_neg (not_le.2 h)]
theorem log_zero : Ideal.log (0 : EReal) = ⊥ := by
  show (if (0 : ℝ) ≤ 0 then (⊥ : EReal) else (Real.log 0 : EReal)) = ⊥
  rw [if_pos le_rfl]

/-- The quotient score of a nonnegative weight: a nonnegative real. -/
theorem div_real {p : ℝ} (hp : 0 ≤ p) {w : EReal} (hw : 0 < w) : ∃ q : ℝ, 0 ≤ q ∧ Ideal.div (p : EReal) w = (q : EReal)
    ∧ ∀ c : ℝ, 0 < c → Ideal.log ((p * c : ℝ) : EReal) + -Ideal.log w = Ideal.log ((q * c : ℝ) : EReal) := by
  unfold Ideal.div
  rw [if_neg hw.ne']
  induction w with
  | bot => exact absurd hw not_lt_bot
  | top =>
    refine ⟨0, le_rfl, by simp, fun c _ => ?_⟩
    have : Ideal.log (⊤ : EReal) = ⊤ := rfl
    rw [this, EReal.neg_top, EReal.add_bot, zero_mul, EReal.coe_zero, log_zero]
  | coe w =>
    have hw' : 0 < w := EReal.coe_pos.1 hw
    refine ⟨p * w⁻¹, mul_nonneg hp (inv_nonneg.2 hw'.le), by push_cast [EReal.coe_inv]; rfl, fun c hc => ?_⟩
    rcases hp.lt_or_eq with h | h
    · have hq : 0 < p * w⁻¹ * c := by positivity
      rw [log_coe (mul_pos h hc), log_coe hw', log_coe hq, ← EReal.coe_neg, ← EReal.coe_add]
      congr 1
      rw [Real.log_mul (mul_pos h (inv_pos.2 hw')).ne' hc.ne', Real.log_mul h.ne' (inv_pos.2 hw').ne', Real.log_mul h.ne' hc.ne', Real.log_inv]
      ring
    · rw [← h]; simp only [zero_mul, EReal.coe_zero, log_zero, EReal.bot_add]

/-- Rescaled logarithms order nonnegative reals as they are. -/
theorem log_lt_log {q q' c : ℝ} (h : 0 ≤ q) (h' : 0 ≤ q') (hc : 0 < c) :
    Ideal.log ((q * c : ℝ) : EReal) < Ideal.log ((q' * c : ℝ) : EReal) ↔ (q : EReal) < (q' : EReal) := by
  rw [EReal.coe_lt_coe_iff]
  rcases h.lt_or_eq with h | rfl <;> rcases h'.lt_or_eq with h' | rfl
  · rw [log_coe (mul_pos h hc), log_coe (mul_pos h' hc), EReal.coe_lt_coe_iff, Real.log_lt_log_iff (mul_pos h hc) (mul_pos h' hc), mul_lt_mul_iff_left₀ hc]
  · rw [zero_mul, EReal.coe_zero, log_zero]
    exact ⟨fun k => absurd k not_lt_bot, fun k => absurd k (not_lt.2 h.le)⟩
  · rw [zero_mul, EReal.coe_zero, log_zero, log_coe (mul_pos h' hc)]
    exact ⟨fun _ => h', fun _ => EReal.bot_lt_coe _⟩
  · simp

/-- The noise's word in the quotient: positive as long as the noise is at most 1. -/
theorem weight_pos {e u : EReal} {ε : ℝ} (he : e = (ε : EReal)) (hε : 0 < ε) (hu : u ≤ 1) : 0 < e - Ideal.log (u + e) := by
  subst he
  induction u with
  | bot => rw [EReal.bot_add]; show (0 : EReal) < (ε : EReal) - ⊥; simp
  | top => exact absurd hu (by decide)
  | coe u =>
    have hu' : u ≤ 1 := by exact_mod_cast hu
    rw [← EReal.coe_add]
    by_cases h : u + ε ≤ 0
    · have : Ideal.log ((u + ε : ℝ) : EReal) = ⊥ := by
        show (if u + ε ≤ 0 then (⊥ : EReal) else _) = ⊥
        rw [if_pos h]
      rw [this]; simp
    · have h' := not_le.1 h
      rw [log_coe h', ← EReal.coe_sub]
      apply EReal.coe_pos.2
      have h1 : Real.log (u + ε) ≤ Real.log (1 + ε) := Real.log_le_log h' (by linarith)
      have h2 : Real.log (1 + ε) < 1 + ε - 1 := Real.log_lt_sub_one_of_pos (by linarith) (by linarith)
      linarith

end Cert.Proof.Pick

end
-- ==== Proof.RefOps.lean ====
/-
  The reference's array operations read at one element: the gather of a row's words, the conjunction over an axis of one,
  the running minimum, the row's count, the first largest score of a row and the scatter of one word in every row.
-/
module

public import proofs.«01_k».proof.Proof.RefRun
public import proofs.«01_k».proof.Proof.Pick
public import Idealize.ShloMosaic.Lib.Pipeline.Value
public import Idealize.ShloMosaic.Lib.Routing.OpsPair
public import Idealize.ShloMosaic.Lib.Routing.OpsSet
public import Idealize.ShloMosaic.Lib.Pointwise.Tactic

@[expose] public section

set_option maxRecDepth 16384

noncomputable section

namespace Cert.Proof.Ref

open Cert.ReferenceIdeal Cert.ReferenceIdeal.Gen Cert.Proof.Pick
open Idealize.ShloMosaic Idealize.ShloMosaic.TcCoe Idealize.ShloMosaic.Routing

/-! ## The gathers -/

/-- The operand's index on an axis that runs with the result's. -/
theorem operand_batching {s si t : Shape} {w : Nat} (d : GatherDims s si t) (j : t.Idx) (i : IVec si w) (a : Fin s.rank) (hm : a ∈ d.operandBatchingDims) :
    (d.operandIdx j i a).val = d.batchCoord j a := by
  show d.start j i a + d.batchCoord j a + d.offCoord j a = _
  rw [GatherDims.start_batching d _ i _ hm, GatherDims.offCoord_eq_zero d _ _ (fun h => ((GatherDims.mem_sKept _ _).mp h).2 hm), Nat.zero_add, Nat.add_zero]

/-- The operand's index on an axis of which one element is taken. -/
theorem operand_taken {s si t : Shape} {w : Nat} (d : GatherDims s si t) (j : t.Idx) (i : IVec si w) (a : Fin s.rank)
    (hb : a ∉ d.operandBatchingDims) (hc : a ∈ d.collapsedSliceDims) : (d.operandIdx j i a).val = d.start j i a := by
  show d.start j i a + d.batchCoord j a + d.offCoord j a = _
  rw [GatherDims.batchCoord_eq_zero d _ _ hb, GatherDims.offCoord_eq_zero d _ _ (fun h => ((GatherDims.mem_sKept _ _).mp h).1 hc), Nat.add_zero]

theorem take3 {α : Type} (x : S32x8x100000.Idx → α) (i : IVec S32x8x1x1 32) (b : Fin 32) (k : Fin 8)
    (h : (i (ix4 b k 0 0)).toInt.toNat < 100000) :
    Host.gather gather_S32x8x100000_S32x8x1x1_S32x8x1_n_2_01_01_2_3_111 x i (ix3 b k 0) = x (ix3 b k ⟨(i (ix4 b k 0 0)).toInt.toNat, h⟩) := by
  unfold Host.gather
  refine congrArg x (funext fun a => Fin.ext ?_)
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · refine (operand_batching _ _ i _ (by decide)).trans ?_
    unfold GatherDims.batchCoord
    rw [dif_pos (by decide)]
    rfl
  · refine (operand_batching _ _ i _ (by decide)).trans ?_
    unfold GatherDims.batchCoord
    rw [dif_pos (by decide)]
    rfl
  · refine (operand_taken _ _ i _ (by decide) (by decide)).trans ?_
    have hm : (2 : Fin 3) ∈ gather_S32x8x100000_S32x8x1x1_S32x8x1_n_2_01_01_2_3_111.startIndexMap := by decide
    unfold GatherDims.start
    rw [dif_pos hm]
    have hsi : gather_S32x8x100000_S32x8x1x1_S32x8x1_n_2_01_01_2_3_111.siIdx (ix3 b k 0) ⟨List.idxOf (2 : Fin 3) _, List.idxOf_lt_length_iff.2 hm⟩ = ix4 b k 0 0 := by
      funext c; refine Fin.ext ?_
      match c with
      | ⟨0, _⟩ => rfl
      | ⟨1, _⟩ => rfl
      | ⟨2, _⟩ => rfl
      | ⟨3, _⟩ => rfl
    rw [hsi]
    exact min_eq_left (Nat.le_sub_one_of_lt h)

theorem take2 {α : Type} (x : S32x8.Idx → α) (i : IVec S32x1x1 32) (b : Fin 32) (h : (i (ix3 b 0 0)).toInt.toNat < 8) :
    Host.gather gather_S32x8_S32x1x1_S32x1_n_1_0_0_1_2_11 x i (ix2 b 0) = x (ix2 b ⟨(i (ix3 b 0 0)).toInt.toNat, h⟩) := by
  unfold Host.gather
  refine congrArg x (funext fun a => Fin.ext ?_)
  have h01 : a = 0 ∨ a = 1 := by
    match a with
    | ⟨0, _⟩ => exact Or.inl rfl
    | ⟨1, _⟩ => exact Or.inr rfl
  rcases h01 with rfl | rfl
  · refine (operand_batching _ _ i _ (by decide)).trans ?_
    unfold GatherDims.batchCoord
    rw [dif_pos (by decide)]
    rfl
  · refine (operand_taken _ _ i _ (by decide) (by decide)).trans ?_
    have hm : (1 : Fin 2) ∈ gather_S32x8_S32x1x1_S32x1_n_1_0_0_1_2_11.startIndexMap := by decide
    unfold GatherDims.start
    rw [dif_pos hm]
    have hsi : gather_S32x8_S32x1x1_S32x1_n_1_0_0_1_2_11.siIdx (ix2 b 0) ⟨List.idxOf (1 : Fin 2) _, List.idxOf_lt_length_iff.2 hm⟩ = ix3 b 0 0 := by
      funext c; refine Fin.ext ?_
      match c with
      | ⟨0, _⟩ => rfl
      | ⟨1, _⟩ => rfl
      | ⟨2, _⟩ => rfl
    rw [hsi]
    exact min_eq_left (Nat.le_sub_one_of_lt h)

/-! ## The reductions of words -/

theorem fold_one {α : Type} (f : α → α → α) [Std.Commutative f] [Std.Associative f] (v : α) (g : Fin 1 → α) :
    (Finset.univ : Finset (Fin 1)).fold f v g = f (g 0) v := by
  rw [Finset.univ_unique, Finset.fold_singleton]
  rfl

theorem all4 (x : IVec S32x8x1x1 1) (v : IVec S_ 1) (b : Fin 32) (k : Fin 8) :
    Host.reduce IntOp.andi x v reducesTo_S32x8x1x1_S32x8x1_d3 h_S_ (ix3 b k 0) = IntOp.andi (x (ix4 b k 0 0)) (v (Shape.Idx.first h_S_)) := by
  have hr : Shape.Reduces S32x8x1x1 [3] S32x8x1 := by decide
  rw [Host.reduce_eq_fold_single IntOp.andi x v reducesTo_S32x8x1x1_S32x8x1_d3 hr h_S_]
  refine (fold_one IntOp.andi _ _).trans ?_
  refine congrArg (fun j => IntOp.andi (x j) _) ?_
  funext c; refine Fin.ext ?_
  match c with
  | ⟨0, _⟩ => rfl
  | ⟨1, _⟩ => rfl
  | ⟨2, _⟩ => rfl
  | ⟨3, _⟩ => rfl

theorem all3 (x : IVec S32x1x1 1) (v : IVec S_ 1) (b : Fin 32) :
    Host.reduce IntOp.andi x v reducesTo_S32x1x1_S32x1_d2 h_S_ (ix2 b 0) = IntOp.andi (x (ix3 b 0 0)) (v (Shape.Idx.first h_S_)) := by
  have hr : Shape.Reduces S32x1x1 [2] S32x1 := by decide
  rw [Host.reduce_eq_fold_single IntOp.andi x v reducesTo_S32x1x1_S32x1_d2 hr h_S_]
  refine (fold_one IntOp.andi _ _).trans ?_
  refine congrArg (fun j => IntOp.andi (x j) _) ?_
  funext c; refine Fin.ext ?_
  match c with
  | ⟨0, _⟩ => rfl
  | ⟨1, _⟩ => rfl
  | ⟨2, _⟩ => rfl

/-- The sum of the first `k` words. -/
def sumTo (f : ℕ → BitVec 32) : ℕ → BitVec 32
  | 0 => 0#32
  | k + 1 => IntOp.addi (sumTo f k) (f k)

theorem sumTo_eq (f : ℕ → BitVec 32) (n : ℕ) : (Finset.univ : Finset (Fin n)).fold IntOp.addi 0#32 (fun k => f k.val) = sumTo f n := by
  have h : ∀ n, (Finset.range n).fold IntOp.addi 0#32 f = sumTo f n := fun n => by
    induction n with
    | zero => rfl
    | succ n ih =>
      rw [Finset.range_add_one, Finset.fold_insert Finset.notMem_range_self, ih]
      exact Std.Commutative.comm (op := IntOp.addi) _ _
  have hr : Finset.range n = (Finset.univ : Finset (Fin n)).map Fin.valEmbedding := by rw [Fin.map_valEmbedding_univ, Nat.Iio_eq_range]
  rw [← h, hr, Finset.fold_map]
  rfl

theorem rowSum (x : IVec S32x8 32) (v : IVec S_ 32) (hv : v (Shape.Idx.first h_S_) = 0#32) (f : ℕ → BitVec 32) (b : Fin 32)
    (hf : ∀ k : Fin 8, x (ix2 b k) = f k.val) :
    Host.reduce IntOp.addi x v reducesTo_S32x8_S32_d1 h_S_ (ix1 b) = sumTo f 8 := by
  have hr : Shape.Reduces S32x8 [1] S32 := by decide
  rw [Host.reduce_eq_fold_single IntOp.addi x v reducesTo_S32x8_S32_d1 hr h_S_, hv, ← sumTo_eq]
  refine congrArg (fun g => (Finset.univ : Finset (Fin 8)).fold IntOp.addi 0#32 g) (funext fun k : Fin 8 => ?_)
  rw [← hf k]
  refine congrArg x ?_
  funext c; refine Fin.ext ?_
  match c with
  | ⟨0, _⟩ => rfl
  | ⟨1, _⟩ => rfl

/-- The smallest of the first `k` words. -/
def minTo (f : ℕ → BitVec 32) : ℕ → BitVec 32
  | 0 => 2147483647#32
  | k + 1 => IntOp.minsi (minTo f k) (f k)

/-- What a window reads at one of its positions. -/
theorem window_word (x : IVec S32x8 32) (f : ℕ → BitVec 32) (b : Fin 32) (hf : ∀ k : Fin 8, x (ix2 b k) = f k.val) (q : ℕ) (hq : q < 15)
    (p : Fin 2 → ℕ) (h0 : p 0 = b.val) (h1 : p 1 = q)
    (inst : Decidable (∀ a : Fin 2, (![0, 7] : Fin 2 → ℕ) a ≤ p a ∧ p a - (![0, 7] : Fin 2 → ℕ) a < S32x8.size a)) :
    (@dite _ (∀ a : Fin 2, (![0, 7] : Fin 2 → ℕ) a ≤ p a ∧ p a - (![0, 7] : Fin 2 → ℕ) a < S32x8.size a) inst
      (fun hin => x (fun a => ⟨p a - (![0, 7] : Fin 2 → ℕ) a, (hin a).2⟩)) (fun _ => 2147483647#32))
      = if 7 ≤ q then f (q - 7) else 2147483647#32 := by
  by_cases h7 : 7 ≤ q
  · have hlt : q - 7 < 8 := by omega
    rw [if_pos h7, dif_pos, ← hf ⟨q - 7, hlt⟩]
    · refine congrArg x ?_
      funext a; refine Fin.ext ?_
      match a with
      | ⟨0, _⟩ => exact (congrArg (· - 0) h0).trans rfl
      | ⟨1, _⟩ => exact (congrArg (· - 7) h1).trans rfl
    · intro a
      match a with
      | ⟨0, _⟩ => show 0 ≤ p 0 ∧ p 0 - 0 < 32; have := b.isLt; omega
      | ⟨1, _⟩ => show 7 ≤ p 1 ∧ p 1 - 7 < 8; omega
  · rw [if_neg h7, dif_neg]
    intro h
    have := (h 1).1
    change 7 ≤ p 1 at this
    omega

/-- A window of eight that ends at a row's word `k`, what lies before the row standing for the largest word. -/
theorem runMin (x : IVec S32x8 32) (v : IVec S_ 32) (hv : v (Shape.Idx.first h_S_) = 2147483647#32) (f : ℕ → BitVec 32) (b : Fin 32)
    (hf : ∀ k : Fin 8, x (ix2 b k) = f k.val) (k : Fin 8) :
    Host.reduceWindow IntOp.minsi ![1, 8] ![1, 1] ![0, 7] ![0, 0] x v reduceWindows_S32x8_S32x8_w1s1p0_0_w8s1p7_0 h_S_ (ix2 b k) = minTo f (k.val + 1) := by
  have hw : ∀ n : Fin (Shape.numel ⟨2, ![1, 8]⟩), (Shape.rowMajor ⟨2, ![1, 8]⟩).symm n = ix2 (0 : Fin 1) (⟨n.val, n.isLt⟩ : Fin 8) := fun n =>
    ((Shape.rowMajor ⟨2, ![1, 8]⟩).symm_apply_eq).2 (Fin.ext (by
      rw [Shape.rowMajor_val_two]
      show n.val = 0 * 8 + n.val
      omega))
  unfold Host.reduceWindow
  rw [hv]
  refine Eq.trans (congrArg (fun g => (List.finRange (Shape.numel ⟨2, ![1, 8]⟩)).foldl g 2147483647#32)
    (funext fun r => funext fun n => congrArg (IntOp.minsi r) (window_word x f b hf (k.val + n.val) ?_ _ ?_ ?_ _))) ?_
  · have h1 : n.val < 8 := n.isLt
    have h2 := k.isLt
    omega
  · refine (congrArg (fun j : Shape.Idx ⟨2, ![1, 8]⟩ => b.val * 1 + (j 0).val) (hw n)).trans ?_
    show b.val * 1 + 0 = b.val
    omega
  · refine (congrArg (fun j : Shape.Idx ⟨2, ![1, 8]⟩ => k.val * 1 + (j 1).val) (hw n)).trans ?_
    show k.val * 1 + n.val = k.val + n.val
    omega
  have e : List.finRange (Shape.numel ⟨2, ![1, 8]⟩) = (List.finRange 8 : List (Fin 8)) := rfl
  have hmm : IntOp.minsi 2147483647#32 2147483647#32 = 2147483647#32 := by decide
  show (List.finRange 8 : List (Fin 8)).foldl (fun r n => IntOp.minsi r (if 7 ≤ k.val + n.val then f (k.val + n.val - 7) else 2147483647#32)) 2147483647#32 = _
  fin_cases k <;> simp [List.finRange_succ, minTo, hmm]

/-! ## The first largest score -/

/-- The comparison the reference's arg-max makes. -/
theorem reducer_eq (a b : EReal × BitVec 32) : reducer_argmax_f32_i32 (F := Ideal) a b = keep a b := by
  obtain ⟨a, i⟩ := a
  obtain ⟨b, j⟩ := b
  show (Scalar.select (IntOp.ori (BitVec.ofBool (decide (b < a))) (BitVec.ofBool (decide (a ≠ a)))) a b,
    Scalar.select (IntOp.ori (IntOp.ori (BitVec.ofBool (decide (b < a))) (BitVec.ofBool (decide (a ≠ a))))
      (IntOp.andi (BitVec.ofBool (decide (a = b))) (BitVec.ofBool (i.slt j)))) i j) = keep (a, i) (b, j)
  have hne : decide (a ≠ a) = false := by simp
  rw [hne]
  unfold keep
  have hs : i.slt j = decide (i.toInt < j.toInt) := rfl
  rw [hs]
  by_cases h1 : b < a
  · have h1' : ¬ a = b := fun e => (lt_irrefl _ (e ▸ h1))
    simp [h1, h1', Scalar.select, IntOp.ori, IntOp.andi]
  · by_cases h2 : a = b
    · subst h2
      by_cases h3 : i.toInt < j.toInt
      · simp [h3, Scalar.select, IntOp.ori, IntOp.andi]
      · simp [h3, Scalar.select, IntOp.ori, IntOp.andi]
    · simp [h1, h2, Scalar.select, IntOp.ori, IntOp.andi]

theorem best3 (x : FVec Ideal S32x8x100000 .f32) (y : IVec S32x8x100000 32) (u : FVec Ideal S_ .f32) (v : IVec S_ 32)
    (hy : ∀ b k (n : Fin 100000), y (ix3 b k n) = BitVec.ofNat 32 n.val) (hu : u (Shape.Idx.first h_S_) = ⊥) (hv : v (Shape.Idx.first h_S_) = 0#32)
    (b : Fin 32) (k : Fin 8) (f : ℕ → EReal) (hf : ∀ n : Fin 100000, x (ix3 b k n) = f n.val) :
    ∃ M, BestOn f 0 100000 M (Host.argReduce reducer_argmax_f32_i32 x y u v reducesTo_S32x8x100000_S32x8_d2 h_S_ (ix2 b k)).2 := by
  rw [Ideal.argReduce_eq_reduce2]
  unfold Host.reduce2
  rw [hu, hv]
  have hk : (reducer_argmax_f32_i32 (F := Ideal)) = keep := funext fun a => funext fun b => reducer_eq a b
  rw [hk]
  have hd : ∀ p : S32x8x100000.Idx, reducesTo_S32x8x100000_S32x8_d2.drop p = ix2 (p 0) (p 1) := fun p => by
    funext a; refine Fin.ext ?_
    match a with
    | ⟨0, _⟩ => rfl
    | ⟨1, _⟩ => rfl
  have h3 : ∀ p : S32x8x100000.Idx, p = ix3 (p 0) (p 1) (p 2) := fun p => by
    funext a; refine Fin.ext ?_
    match a with
    | ⟨0, _⟩ => rfl
    | ⟨1, _⟩ => rfl
    | ⟨2, _⟩ => rfl
  refine ⟨_, bestOn_foldl (fun n => (x (S32x8x100000.rowMajor.symm n), y (S32x8x100000.rowMajor.symm n))) _ 100000 (by omega) le_rfl f ?_ ?_⟩
  · intro n hn
    have hn := of_decide_eq_true (List.mem_filter.1 hn).2
    generalize S32x8x100000.rowMajor.symm n = p at hn ⊢
    rw [hd] at hn
    have e0 : p 0 = b := congrFun hn 0
    have e1 : p 1 = k := congrFun hn 1
    refine ⟨(p 2).val, (p 2).isLt, ?_⟩
    rw [h3 p, e0, e1]
    exact Prod.ext (hf _) (hy _ _ _)
  · intro n hn
    refine ⟨S32x8x100000.rowMajor (ix3 b k ⟨n, hn⟩), List.mem_filter.2 ⟨List.mem_finRange _, decide_eq_true ?_⟩, ?_⟩
    · rw [Equiv.symm_apply_apply, hd]
      rfl
    · simp only [Equiv.symm_apply_apply]
      exact Prod.ext (hf _) (hy _ _ _)

theorem best2 (x : FVec Ideal S32x100000 .f32) (y : IVec S32x100000 32) (u : FVec Ideal S_ .f32) (v : IVec S_ 32)
    (hy : ∀ b (n : Fin 100000), y (ix2 b n) = BitVec.ofNat 32 n.val) (hu : u (Shape.Idx.first h_S_) = ⊥) (hv : v (Shape.Idx.first h_S_) = 0#32)
    (b : Fin 32) (f : ℕ → EReal) (hf : ∀ n : Fin 100000, x (ix2 b n) = f n.val) :
    ∃ M, BestOn f 0 100000 M (Host.argReduce reducer_argmax_f32_i32 x y u v reducesTo_S32x100000_S32_d1 h_S_ (ix1 b)).2 := by
  rw [Ideal.argReduce_eq_reduce2]
  unfold Host.reduce2
  rw [hu, hv]
  have hk : (reducer_argmax_f32_i32 (F := Ideal)) = keep := funext fun a => funext fun b => reducer_eq a b
  rw [hk]
  have hd : ∀ p : S32x100000.Idx, reducesTo_S32x100000_S32_d1.drop p = ix1 (p 0) := fun p => by
    funext a; refine Fin.ext ?_
    match a with
    | ⟨0, _⟩ => rfl
  have h3 : ∀ p : S32x100000.Idx, p = ix2 (p 0) (p 1) := fun p => by
    funext a; refine Fin.ext ?_
    match a with
    | ⟨0, _⟩ => rfl
    | ⟨1, _⟩ => rfl
  refine ⟨_, bestOn_foldl (fun n => (x (S32x100000.rowMajor.symm n), y (S32x100000.rowMajor.symm n))) _ 100000 (by omega) le_rfl f ?_ ?_⟩
  · intro n hn
    have hn := of_decide_eq_true (List.mem_filter.1 hn).2
    generalize S32x100000.rowMajor.symm n = p at hn ⊢
    rw [hd] at hn
    have e0 : p 0 = b := congrFun hn 0
    refine ⟨(p 1).val, (p 1).isLt, ?_⟩
    rw [h3 p, e0]
    exact Prod.ext (hf _) (hy _ _)
  · intro n hn
    refine ⟨S32x100000.rowMajor (ix2 b ⟨n, hn⟩), List.mem_filter.2 ⟨List.mem_finRange _, decide_eq_true ?_⟩, ?_⟩
    · rw [Equiv.symm_apply_apply, hd]
      rfl
    · simp only [Equiv.symm_apply_apply]
      exact Prod.ext (hf _) (hy _ _)

/-! ## The scatter -/

theorem scatter_lands (idx : IVec S32x2 32) (b : Fin 32) (r : Fin 32) (c : Fin 9) :
    (scatter_S32x9_S32x2_S32_n_01_01_1).resultIdx? (ix1 b) idx = some (ix2 r c)
      ↔ (idx (ix2 b 0)).toInt = r.val ∧ (idx (ix2 b 1)).toInt = c.val := by
  set d := scatter_S32x9_S32x2_S32_n_01_01_1 with hd
  have hm : ∀ q : Fin 2, q ∈ d.scatterDimsToOperandDims := by decide
  have hwin : ∀ q : Fin 2, d.window (ix1 b) q = 0 := fun q => by
    unfold ScatterDims.window
    rw [dif_neg]
    revert q; decide
  have hst : ∀ q : Fin 2, d.start (ix1 b) idx q = (idx (ix2 b q)).toInt := fun q => by
    unfold ScatterDims.start
    rw [dif_pos (hm q)]
    refine congrArg (fun j => (idx j).toInt) ?_
    funext a; refine Fin.ext ?_
    match q, a with
    | ⟨0, _⟩, ⟨0, _⟩ => rfl
    | ⟨0, _⟩, ⟨1, _⟩ => rfl
    | ⟨1, _⟩, ⟨0, _⟩ => rfl
    | ⟨1, _⟩, ⟨1, _⟩ => rfl
  refine (resultIdx?_ix2 d (ix1 b) idx r c).trans ?_
  rw [hst, hst, hwin, hwin]
  simp

/-- One word put in every row, at the position the row names. -/
theorem scatter_row (x : IVec S32x9 32) (idx : IVec S32x2 32) (upd : IVec S32 32) (b : Fin 32) (j : Fin 9)
    (h0 : ∀ b : Fin 32, (idx (ix2 b 0)).toInt = b.val) (n : ℕ) (h1 : (idx (ix2 b 1)).toInt = n) :
    Host.scatter scatter_S32x9_S32x2_S32_n_01_01_1 (fun _ b => b) x idx upd (ix2 b j) = if n = j.val then upd (ix1 b) else x (ix2 b j) := by
  have hk : ∀ k : S32.Idx, k = ix1 (k 0) := fun k => by
    funext a
    match a with
    | ⟨0, _⟩ => rfl
  by_cases h : n = j.val
  · rw [if_pos h]
    refine scatter_set_hit _ x idx upd (ix2 b j) _ (fun k hkk => ?_) (ix1 b) ((scatter_lands idx b b j).2 ⟨h0 b, by rw [h1, h]⟩)
    rw [hk k] at hkk ⊢
    have := (h0 (k 0)).symm.trans ((scatter_lands idx (k 0) b j).1 hkk).1
    exact congrArg (fun q : Fin 32 => upd (ix1 q)) (Fin.ext (by exact_mod_cast this))
  · rw [if_neg h]
    refine scatter_set_miss _ x idx upd (ix2 b j) (fun k hkk => ?_)
    rw [hk k] at hkk
    obtain ⟨e0, e1⟩ := (scatter_lands idx (k 0) b j).1 hkk
    have : k 0 = b := Fin.ext (by exact_mod_cast (h0 (k 0)).symm.trans e0)
    rw [this, h1] at e1
    exact h (by exact_mod_cast e1)

end Cert.Proof.Ref
-- ==== Proof.PayVal.lean ====
/-
  The rows the TensorCore kernel stores, over the extended reals: the first lane of the largest score, and the
  probabilities at the row's ids.
-/
module

public import proofs.«01_k».proof.Proof.Values
public import proofs.«01_k».proof.Proof.Pick
public import Idealize.ShloMosaic.Lib.Pointwise
public import Idealize.ShloMosaic.Lib.Pipeline.Value

@[expose] public section

set_option maxRecDepth 16384

noncomputable section

namespace Cert.Proof.Rings

open Cert.KernelIdeal Cert.KernelIdeal.Gen
open Cert.Proof.Pick
open Idealize.ShloMosaic

/-! ## One stretch of lanes -/

section Chunk
variable {N : ℕ} (hR : (⟨2, ![8, N]⟩ : Shape).Reduces [1] S8) (hB : S8x1.Broadcasts ⟨2, ![8, N]⟩) (hI : (⟨2, ![8, N]⟩ : Shape).Iotas .tc 32 [1])

/-- A row's maximum over the stretch. -/
abbrev stretchMax (r : FVec Ideal ⟨2, ![8, N]⟩ .f32) : FVec Ideal S8x1 .f32 :=
  shapeCast S8x1 (multiReduction .maximumf [1] S8 r 0xFF800000#32 hR (.inl rfl) rfl) shapeCasts_S8_S8x1

/-- The columns of the stretch that starts at `o`. -/
abbrev stretchCol (o : BitVec 32) : IVec ⟨2, ![8, N]⟩ 32 := addi (broadcast _ o) (iota .tc _ 32 [1] hI)

/-- The smallest column that attains it. -/
abbrev stretchArg (r : FVec Ideal ⟨2, ![8, N]⟩ .f32) (o : BitVec 32) : IVec S8x1 32 :=
  shapeCast S8x1 (multiReductionI .minsi [1] S8 (select (cmpf .oeq r (broadcastTo _ (stretchMax hR r) hB)) (stretchCol hI o)
    (broadcast _ 1073741824#32)) 2147483647#32 hR rfl) shapeCasts_S8_S8x1

/-- A row's sum, over the stretch, of the values whose column is the row's id. -/
abbrev stretchSum (x : FVec Ideal ⟨2, ![8, N]⟩ .f32) (o : BitVec 32) (id : IVec S8x1 32) : FVec Ideal S8x1 .f32 :=
  shapeCast S8x1 (multiReduction .add [1] S8 (select (cmpi .eq (stretchCol hI o) (broadcastTo _ id hB)) x (broadcast _ (Scalar.ofBits .f32 0x00000000#32)))
    0x00000000#32 hR (.inl rfl) rfl) shapeCasts_S8_S8x1

theorem lift_row (j : Fin 8) (k : Fin N) : hR.lift (ix1 j : S8.Idx) k = ix2 j k := by
  funext a
  apply Fin.ext
  match a with
  | ⟨0, _⟩ => rfl
  | ⟨1, _⟩ => rfl

theorem cast_col {α : Type} (x : S8.Idx → α) (j : Fin 8) : shapeCast S8x1 x shapeCasts_S8_S8x1 (ix2 j (0 : Fin 1)) = x (ix1 j) := by
  refine shapeCast_apply x _ _ _ ?_
  rw [Shape.rowMajor_val_one, Shape.rowMajor_val_two]
  show j.val = j.val * 1 + 0
  omega

theorem cast_row {α : Type} (x : S8x1.Idx → α) (j : Fin 8) : shapeCast S1x8x1 x shapeCasts_S8x1_S1x8x1 (ix3 (0 : Fin 1) j (0 : Fin 1)) = x (ix2 j (0 : Fin 1)) := by
  refine shapeCast_apply x _ _ _ ?_
  rw [Shape.rowMajor_val_two, Shape.rowMajor_val_three]
  show j.val * 1 + 0 = (0 * 8 + j.val) * 1 + 0
  omega

theorem cast_row' {α : Type} (x : S1x8x1.Idx → α) (j : Fin 8) : shapeCast S8x1 x shapeCasts_S1x8x1_S8x1 (ix2 j (0 : Fin 1)) = x (ix3 (0 : Fin 1) j (0 : Fin 1)) := by
  refine shapeCast_apply x _ _ _ ?_
  rw [Shape.rowMajor_val_two, Shape.rowMajor_val_three]
  show (0 * 8 + j.val) * 1 + 0 = j.val * 1 + 0
  omega

theorem bc_col {α : Type} (x : S8x1.Idx → α) (j : Fin 8) (k : Fin N) : broadcastTo ⟨2, ![8, N]⟩ x hB (ix2 j k) = x (ix2 j (0 : Fin 1)) := by
  refine broadcastTo_apply x hB _ _ fun a => ?_
  match a with
  | ⟨0, _⟩ => rfl
  | ⟨1, _⟩ => rfl

theorem stretchMax_apply (r : FVec Ideal ⟨2, ![8, N]⟩ .f32) (j : Fin 8) :
    stretchMax hR r (ix2 j (0 : Fin 1)) = (Finset.univ : Finset (Fin N)).fold max (Ideal.ofBits .f32 0xFF800000#32) (fun k => r (ix2 j k)) := by
  unfold stretchMax
  rw [cast_col]
  refine (Ideal.multiReduction_maximumf_single ..).trans ?_
  exact congrArg (Finset.fold max _ · _) (funext fun k : Fin N => congrArg r (lift_row hR j k))

theorem neg_inf : Ideal.ofBits .f32 0xFF800000#32 = ⊥ := by simp [Ideal.ofBits, Ideal.ieee]

theorem select_ofBool {α : Type} (p : Prop) [Decidable p] (a b : α) : Scalar.select (BitVec.ofBool (decide p)) a b = if p then a else b := by
  unfold Scalar.select
  by_cases h : p <;> simp [h]

theorem stretchCol_apply (o : ℕ) (j : Fin 8) (k : Fin N) : stretchCol hI (BitVec.ofNat 32 o) (ix2 j k) = BitVec.ofNat 32 (o + k.val) := by
  show IntOp.addi (BitVec.ofNat 32 o) (iota .tc _ 32 [1] hI (ix2 j k)) = _
  rw [iota_single_apply]
  exact (BitVec.ofNat_add o k.val).symm

/-- The stretch's maximum and its first column. -/
theorem stretch_best (hN : 0 < N) (o : ℕ) (ho : o + N ≤ 100000) (r : FVec Ideal ⟨2, ![8, N]⟩ .f32) (j : Fin 8) (f : ℕ → EReal)
    (hf : ∀ k : Fin N, f (o + k.val) = r (ix2 j k)) :
    BestOn f o (o + N) (stretchMax hR r (ix2 j (0 : Fin 1))) (stretchArg hR hB hI r (BitVec.ofNat 32 o) (ix2 j (0 : Fin 1))) := by
  refine bestOn_chunk hN o ho (fun k => r (ix2 j k)) f hf _ neg_inf _ (stretchMax_apply hR r j) _ ?_
  unfold stretchArg
  rw [cast_col]
  refine ((multiReductionI_eq_fold ..).trans (hR.fold_filter_drop_single ..)).trans ?_
  refine congrArg (Finset.fold _ _ · _) (funext fun k : Fin N => ?_)
  show Scalar.select (Ideal.cmp .oeq (r (hR.lift (ix1 j) k)) (broadcastTo _ (stretchMax hR r) hB (hR.lift (ix1 j) k)))
    (stretchCol hI (BitVec.ofNat 32 o) (hR.lift (ix1 j) k)) 1073741824#32 = _
  rw [lift_row, bc_col, stretchCol_apply]
  exact select_ofBool _ _ _

/-- The stretch's part of a row's value at its id. -/
theorem stretchSum_apply (o : ℕ) (ho : o + N ≤ 100000) (x : FVec Ideal ⟨2, ![8, N]⟩ .f32) (id : IVec S8x1 32) (j : Fin 8) (t : ℕ) (ht : t < 100000)
    (hid : id (ix2 j (0 : Fin 1)) = BitVec.ofNat 32 t) :
    stretchSum hR hB hI x (BitVec.ofNat 32 o) id (ix2 j (0 : Fin 1)) = if h : o ≤ t ∧ t < o + N then x (ix2 j ⟨t - o, by omega⟩) else 0 := by
  unfold stretchSum
  rw [cast_col]
  refine (Ideal.multiReduction_add_single ..).trans ?_
  have e : ∀ k : Fin N, select (cmpi .eq (stretchCol hI (BitVec.ofNat 32 o)) (broadcastTo _ id hB)) x (broadcast _ (Scalar.ofBits .f32 0x00000000#32)) (hR.lift (ix1 j) k)
      = if o + k.val = t then x (ix2 j k) else 0 := by
    intro k
    rw [lift_row]
    show Scalar.select (BitVec.ofBool (stretchCol hI (BitVec.ofNat 32 o) (ix2 j k) == broadcastTo _ id hB (ix2 j k))) (x (ix2 j k)) (Ideal.ofBits .f32 0x00000000#32) = _
    rw [bc_col, stretchCol_apply, hid, Ideal.ofBits_zero_f32]
    have hk := k.isLt
    have hiff : (BitVec.ofNat 32 (o + k.val) == BitVec.ofNat 32 t) = decide (o + k.val = t) := by
      rw [Bool.eq_iff_iff, beq_iff_eq, decide_eq_true_eq]
      refine ⟨fun h => ?_, fun h => by rw [h]⟩
      have := congrArg BitVec.toNat h
      rw [BitVec.toNat_ofNat, BitVec.toNat_ofNat, Nat.mod_eq_of_lt (by omega), Nat.mod_eq_of_lt (by omega)] at this
      exact this
    rw [hiff]
    exact select_ofBool _ _ _
  refine (Finset.sum_congr rfl fun k _ => e k).trans ?_
  show (∑ k : Fin N, if o + k.val = t then x (ix2 j k) else 0) = _
  split
  · rename_i h
    rw [Finset.sum_eq_single (⟨t - o, by omega⟩ : Fin N)]
    · rw [if_pos (by show o + (t - o) = t; omega)]
    · intro k _ hk
      rw [if_neg]
      intro hk'
      exact hk (Fin.ext (by show k.val = t - o; omega))
    · intro hk; exact absurd (Finset.mem_univ _) hk
  · rename_i h
    refine Finset.sum_eq_zero fun k _ => if_neg fun hk => h ?_
    have := k.isLt
    omega

end Chunk

/-! ## The scores -/

/-- The small number added to the noise. -/
abbrev eps : EReal := Ideal.ofBits .f32 0x2EDBE6FF#32
/-- The least weight of a recovered token. -/
abbrev floorP : EReal := Ideal.ofBits .f32 0x3727C5AC#32

/-- The kernel's score of a weight `p` under the noise `u`. -/
def quot (p u : EReal) : EReal := Ideal.div p (eps - Ideal.log (u + eps))

/-- Row `j` of a block's words, at a natural column. -/
def rowAt (x : S8x100000.Idx → EReal) (j : Fin 8) (k : ℕ) : EReal := if h : k < 100000 then x (ix2 j ⟨k, h⟩) else 0

/-- The scores of a point with drafts, of one without. -/
def recScore (wt wd wu : S8x100000.Idx → EReal) (j : Fin 8) (k : ℕ) : EReal := quot (max (rowAt wt j k - rowAt wd j k) floorP) (rowAt wu j k)
def bonScore (wt wu : S8x100000.Idx → EReal) (j : Fin 8) (k : ℕ) : EReal := quot (rowAt wt j k) (rowAt wu j k)

theorem ld_row {N : ℕ} (o : ℕ) (h : o + N ≤ 100000) (w : S8x100000.Idx → EReal) (hc : (⟨3, ![1, 8, N]⟩ : Shape).ShapeCasts ⟨2, ![8, N]⟩) (j : Fin 8) (k : Fin N) :
    shapeCast ⟨2, ![8, N]⟩ (ld (F := Ideal) o h w) hc (ix2 j k) = rowAt w j (o + k.val) := by
  rw [shapeCast_apply (ld (F := Ideal) o h w) hc (ix2 j k) (ix3 (0 : Fin 1) j k) (by
    rw [Shape.rowMajor_val_two, Shape.rowMajor_val_three]
    show (0 * 8 + j.val) * N + k.val = j.val * N + k.val
    rw [Nat.zero_mul, Nat.zero_add])]
  have hk := k.isLt
  unfold rowAt
  rw [dif_pos (by omega)]
  rfl

section Rows
variable (wt wd wu : S8x100000.Idx → EReal) (j : Fin 8)

/-- The scores of a stretch, as the payloads spell them. -/
abbrev recR {N : ℕ} (hc : (⟨3, ![1, 8, N]⟩ : Shape).ShapeCasts ⟨2, ![8, N]⟩) (a b c : Vec Ideal ⟨3, ![1, 8, N]⟩ .f32) : FVec Ideal ⟨2, ![8, N]⟩ .f32 :=
  divf (maximumf (subf (shapeCast ⟨2, ![8, N]⟩ a hc) (shapeCast ⟨2, ![8, N]⟩ b hc)) (broadcast _ (Scalar.ofBits .f32 0x3727C5AC#32)))
    (subf (broadcast _ (Scalar.ofBits .f32 0x2EDBE6FF#32)) (log (addf (shapeCast ⟨2, ![8, N]⟩ c hc) (broadcast _ (Scalar.ofBits .f32 0x2EDBE6FF#32)))))
abbrev bonR {N : ℕ} (hc : (⟨3, ![1, 8, N]⟩ : Shape).ShapeCasts ⟨2, ![8, N]⟩) (a c : Vec Ideal ⟨3, ![1, 8, N]⟩ .f32) : FVec Ideal ⟨2, ![8, N]⟩ .f32 :=
  divf (shapeCast ⟨2, ![8, N]⟩ a hc)
    (subf (broadcast _ (Scalar.ofBits .f32 0x2EDBE6FF#32)) (log (addf (shapeCast ⟨2, ![8, N]⟩ c hc) (broadcast _ (Scalar.ofBits .f32 0x2EDBE6FF#32)))))

theorem recR_apply {N : ℕ} (o : ℕ) (h : o + N ≤ 100000) (hc : (⟨3, ![1, 8, N]⟩ : Shape).ShapeCasts ⟨2, ![8, N]⟩) (k : Fin N) :
    recScore wt wd wu j (o + k.val) = recR hc (ld (F := Ideal) o h wt) (ld (F := Ideal) o h wd) (ld (F := Ideal) o h wu) (ix2 j k) := by
  unfold recScore
  rw [← ld_row o h wt hc j k, ← ld_row o h wd hc j k, ← ld_row o h wu hc j k]
  rfl
theorem bonR_apply {N : ℕ} (o : ℕ) (h : o + N ≤ 100000) (hc : (⟨3, ![1, 8, N]⟩ : Shape).ShapeCasts ⟨2, ![8, N]⟩) (k : Fin N) :
    bonScore wt wu j (o + k.val) = bonR hc (ld (F := Ideal) o h wt) (ld (F := Ideal) o h wu) (ix2 j k) := by
  unfold bonScore
  rw [← ld_row o h wt hc j k, ← ld_row o h wu hc j k]
  rfl

/-- Two words chosen by the comparison of two maxima. -/
theorem select_ogt {α : Type} (m m' : EReal) (a b : α) : Scalar.select (FloatOps.cmpf (F := Ideal) (φ := .f32) .ogt m' m) a b = if m < m' then a else b :=
  select_ofBool _ _ _

/-- The word chosen after four stretches. -/
def four (m0 m1 m2 m3 : EReal) (w0 w1 w2 w3 : BitVec 32) : BitVec 32 :=
  have a := if m0 < m1 then m1 else m0
  have b := if a < m2 then m2 else a
  if b < m3 then w3 else if a < m2 then w2 else if m0 < m1 then w1 else w0

theorem four_best {f : ℕ → EReal} {m0 m1 m2 m3 : EReal} {w0 w1 w2 w3 : BitVec 32} (h0 : BestOn f 0 25600 m0 w0) (h1 : BestOn f 25600 51200 m1 w1)
    (h2 : BestOn f 51200 76800 m2 w2) (h3 : BestOn f 76800 100000 m3 w3) : ∃ M, BestOn f 0 100000 M (four m0 m1 m2 m3 w0 w1 w2 w3) :=
  ⟨_, ((h0.merge h1).merge h2).merge h3⟩

theorem recVal_best : ∃ M, BestOn (recScore wt wd wu j) 0 100000 M (recVal (F := Ideal) wt wd wu (ix3 (0 : Fin 1) j (0 : Fin 1))) := by
  have h0 := stretch_best reduces_S8x25600_S8 broadcasts_S8x1_S8x25600 iota_S8x25600_d1_w32 (by decide) 0 (by decide) _ j _
    (recR_apply wt wd wu j 0 (by decide) shapeCasts_S1x8x25600_S8x25600)
  have h1 := stretch_best reduces_S8x25600_S8 broadcasts_S8x1_S8x25600 iota_S8x25600_d1_w32 (by decide) 25600 (by decide) _ j _
    (recR_apply wt wd wu j 25600 (by decide) shapeCasts_S1x8x25600_S8x25600)
  have h2 := stretch_best reduces_S8x25600_S8 broadcasts_S8x1_S8x25600 iota_S8x25600_d1_w32 (by decide) 51200 (by decide) _ j _
    (recR_apply wt wd wu j 51200 (by decide) shapeCasts_S1x8x25600_S8x25600)
  have h3 := stretch_best reduces_S8x23200_S8 broadcasts_S8x1_S8x23200 iota_S8x23200_d1_w32 (by decide) 76800 (by decide) _ j _
    (recR_apply wt wd wu j 76800 (by decide) shapeCasts_S1x8x23200_S8x23200)
  obtain ⟨M, hM⟩ := four_best h0 h1 h2 h3
  refine ⟨M, ?_⟩
  convert hM using 1
  unfold recVal k0_pay1
  rw [cast_row]
  exact (select_ogt _ _ _ _).trans (by
    unfold four
    simp only [k0_pay38, k0_pay39, k0_pay37, k0_pay25, k0_pay26, k0_pay24, select, cmpf, select_ogt]
    rfl)

theorem bonVal_best : ∃ M, BestOn (bonScore wt wu j) 0 100000 M (bonVal (F := Ideal) wt wu (ix3 (0 : Fin 1) j (0 : Fin 1))) := by
  have h0 := stretch_best reduces_S8x25600_S8 broadcasts_S8x1_S8x25600 iota_S8x25600_d1_w32 (by decide) 0 (by decide) _ j _
    (bonR_apply wt wu j 0 (by decide) shapeCasts_S1x8x25600_S8x25600)
  have h1 := stretch_best reduces_S8x25600_S8 broadcasts_S8x1_S8x25600 iota_S8x25600_d1_w32 (by decide) 25600 (by decide) _ j _
    (bonR_apply wt wu j 25600 (by decide) shapeCasts_S1x8x25600_S8x25600)
  have h2 := stretch_best reduces_S8x25600_S8 broadcasts_S8x1_S8x25600 iota_S8x25600_d1_w32 (by decide) 51200 (by decide) _ j _
    (bonR_apply wt wu j 51200 (by decide) shapeCasts_S1x8x25600_S8x25600)
  have h3 := stretch_best reduces_S8x23200_S8 broadcasts_S8x1_S8x23200 iota_S8x23200_d1_w32 (by decide) 76800 (by decide) _ j _
    (bonR_apply wt wu j 76800 (by decide) shapeCasts_S1x8x23200_S8x23200)
  obtain ⟨M, hM⟩ := four_best h0 h1 h2 h3
  refine ⟨M, ?_⟩
  convert hM using 1
  unfold bonVal k0_pay4
  rw [cast_row]
  exact (select_ogt _ _ _ _).trans (by
    unfold four
    simp only [k0_pay61, k0_pay62, k0_pay60, k0_pay57, k0_pay56, select, cmpf, select_ogt]
    rfl)

/-- A row's four parts of the value at its id are that value. -/
theorem four_sum (x : S8x100000.Idx → EReal) (id : IVec S8x1 32) (t : ℕ) (ht : t < 100000) (hid : id (ix2 j (0 : Fin 1)) = BitVec.ofNat 32 t) :
    stretchSum reduces_S8x25600_S8 broadcasts_S8x1_S8x25600 iota_S8x25600_d1_w32 (shapeCast S8x25600 (ld0 (F := Ideal) x) shapeCasts_S1x8x25600_S8x25600) 0#32 id (ix2 j (0 : Fin 1))
      + stretchSum reduces_S8x25600_S8 broadcasts_S8x1_S8x25600 iota_S8x25600_d1_w32 (shapeCast S8x25600 (ld1 (F := Ideal) x) shapeCasts_S1x8x25600_S8x25600) 25600#32 id (ix2 j (0 : Fin 1))
      + stretchSum reduces_S8x25600_S8 broadcasts_S8x1_S8x25600 iota_S8x25600_d1_w32 (shapeCast S8x25600 (ld2 (F := Ideal) x) shapeCasts_S1x8x25600_S8x25600) 51200#32 id (ix2 j (0 : Fin 1))
      + stretchSum reduces_S8x23200_S8 broadcasts_S8x1_S8x23200 iota_S8x23200_d1_w32 (shapeCast S8x23200 (ld3 (F := Ideal) x) shapeCasts_S1x8x23200_S8x23200) 76800#32 id (ix2 j (0 : Fin 1))
      = rowAt x j t := by
  rw [stretchSum_apply _ _ _ 0 (by decide) _ id j t ht hid, stretchSum_apply _ _ _ 25600 (by decide) _ id j t ht hid,
    stretchSum_apply _ _ _ 51200 (by decide) _ id j t ht hid, stretchSum_apply _ _ _ 76800 (by decide) _ id j t ht hid]
  rcases lt_or_ge t 25600 with h | h
  · rw [dif_pos (by omega), dif_neg (by omega), dif_neg (by omega), dif_neg (by omega), add_zero, add_zero, add_zero, ld_row]
    exact congrArg (rowAt x j) (show 0 + (t - 0) = t by omega)
  rcases lt_or_ge t 51200 with h | h
  · rw [dif_neg (by omega), dif_pos (by omega), dif_neg (by omega), dif_neg (by omega), add_zero, add_zero, zero_add, ld_row]
    exact congrArg (rowAt x j) (show 25600 + (t - 25600) = t by omega)
  rcases lt_or_ge t 76800 with h | h
  · rw [dif_neg (by omega), dif_neg (by omega), dif_pos (by omega), dif_neg (by omega), add_zero, zero_add, zero_add, ld_row]
    exact congrArg (rowAt x j) (show 51200 + (t - 51200) = t by omega)
  · rw [dif_neg (by omega), dif_neg (by omega), dif_neg (by omega), dif_pos (by omega), zero_add, zero_add, zero_add, ld_row]
    exact congrArg (rowAt x j) (show 76800 + (t - 76800) = t by omega)

variable (v : Vec Ideal S1x8x1 .i32) (t : ℕ) (ht : t < 100000) (hv : v (ix3 (0 : Fin 1) j (0 : Fin 1)) = BitVec.ofNat 32 t)
include ht hv

theorem dtokVal_apply : dtokVal (F := Ideal) v wd (ix3 (0 : Fin 1) j (0 : Fin 1)) = rowAt wd j t := by
  rw [← four_sum j wd (k0_pay5 (F := Ideal) v) t ht ((cast_row' v j).trans hv)]
  unfold dtokVal k0_pay2
  rw [cast_row]
  rfl

theorem ttokVal_apply : ttokVal (F := Ideal) v wt (ix3 (0 : Fin 1) j (0 : Fin 1)) = rowAt wt j t := by
  rw [← four_sum j wt (k0_pay5 (F := Ideal) v) t ht ((cast_row' v j).trans hv)]
  unfold ttokVal k0_pay3
  rw [cast_row]
  rfl

end Rows

end Cert.Proof.Rings

end
-- ==== Proof.KerVal.lean ====
/-
  The kernel's result over the extended reals, from its arguments: every output word is the SparseCore task's word of the
  batch row's samples, of the probabilities at its drafted tokens, of its recovered tokens and of its bonus token.
-/
module

public import proofs.«01_k».proof.Proof.PayVal
public import proofs.«01_k».proof.Proof.Launch
public import Idealize.ShloMosaic.Lib.StableHlo.RunRead

@[expose] public section

set_option maxRecDepth 16384

noncomputable section

namespace Cert.Proof.KerVal

open Cert.KernelIdeal Cert.KernelIdeal.Gen
open Cert.Proof.Pick Cert.Proof.Rings Cert.Proof.Launch Cert.Proof.Task
open Idealize.ShloMosaic Idealize.ShloMosaic.TcCoe
open Idealize.ShloMosaic.StableHlo (after launchContents)

/-! ## A block's words -/

section Words
variable {F : FTy → Type} [FloatOps F] (c : Dev nD)

theorem reshape_dslot (x : S8x100000.Idx) :
    Shape.reshapeEquiv (s := S8x1x100000) (s' := S8x100000) squeezes_S8x1x100000_S8x100000.numel_eq x = ix3 (x 0) (0 : Fin 1) (x 1) := by
  refine Shape.reshapeEquiv_eq_of_rowMajor _ ?_
  refine (Shape.rowMajor_val_three (d := ![8, 1, 100000]) _).trans (Eq.trans ?_ (Shape.rowMajor_val_two _).symm)
  show ((x 0).val * 1 + 0) * 100000 + (x 1).val = (x 0).val * 100000 + (x 1).val
  omega

theorem word_apply (X : S9x32x100000.Idx → Elt F .f32) (n : Fin 36) (x : S8x100000.Idx) :
    word c tArr X n x = X (ix3 (⟨n.val / 4, by omega⟩ : Fin 9) (⟨8 * (n.val % 4) + (x 0).val, by have := (x 0).isLt; change _ < 8 at this; omega⟩ : Fin 32) (x 1)) := by
  show X ((Rect.unit (s := S9x32x100000) (blkOff n) S1x8x100000.size (blkOff_inb n)).emb
    (Shape.reshapeEquiv (s := S1x8x100000) (s' := S8x100000) squeezes_S1x8x100000_S8x100000.numel_eq x)) = _
  rw [reshape_slot]
  refine congrArg X (funext fun a => Fin.ext ?_)
  match a with
  | ⟨0, _⟩ => simp [Rect.emb, Rect.unit]
  | ⟨1, _⟩ => simp [Rect.emb, Rect.unit]
  | ⟨2, _⟩ => simp [Rect.emb, Rect.unit]

theorem uword_apply (X : S9x32x100000.Idx → Elt F .f32) (n : Fin 36) (x : S8x100000.Idx) :
    word c uArr X n x = X (ix3 (⟨n.val / 4, by omega⟩ : Fin 9) (⟨8 * (n.val % 4) + (x 0).val, by have := (x 0).isLt; change _ < 8 at this; omega⟩ : Fin 32) (x 1)) :=
  word_apply c X n x

theorem dword_apply (X : S32x8x100000.Idx → Elt F .f32) (n : Fin 32) (x : S8x100000.Idx) :
    dword c X n x = X (ix3 (⟨8 * (n.val % 4) + (x 0).val, by have := (x 0).isLt; change _ < 8 at this; omega⟩ : Fin 32) (⟨n.val / 4, by omega⟩ : Fin 8) (x 1)) := by
  show X ((Rect.unit (s := S32x8x100000) (dblkOff n) S8x1x100000.size (dblkOff_inb n)).emb
    (Shape.reshapeEquiv (s := S8x1x100000) (s' := S8x100000) squeezes_S8x1x100000_S8x100000.numel_eq x)) = _
  rw [reshape_dslot]
  refine congrArg X (funext fun a => Fin.ext ?_)
  match a with
  | ⟨0, _⟩ => simp [Rect.emb, Rect.unit]
  | ⟨1, _⟩ => simp [Rect.emb, Rect.unit]
  | ⟨2, _⟩ => simp [Rect.emb, Rect.unit]

end Words

/-! ## The host operations, read at an index -/

section Host
variable {F : FTy → Type} [FloatOps F] (V : Valuation τ sig (Elt F))

theorem v5_eq : after opsA V (Proc.devRef .tc main_v5) = transpose S9x32x100000 [1, 0, 2] (V (Proc.devRef .tc main_arg2)) transposes_S32x9x100000_S9x32x100000_1_0_2 := by
  unfold opsA; after_reads_simp
theorem v6_eq : after opsA V (Proc.devRef .tc main_v6) = transpose S9x32x100000 [1, 0, 2] (V (Proc.devRef .tc main_arg4)) transposes_S32x9x100000_S9x32x100000_1_0_2 := by
  unfold opsA; after_reads_simp
theorem v4_eq : after opsA V (Proc.devRef .tc main_v4) = concatenate S36x8x1 0 [⟨S32x8x1, shapeCast S32x8x1 (shapeCast S8x4x8 (transpose S8x32 [1, 0] (V (Proc.devRef .tc main_arg0)) transposes_S32x8_S8x32_1_0)
    shapeCasts_S8x32_S8x4x8) shapeCasts_S8x4x8_S32x8x1⟩, ⟨S4x8x1, broadcastInDim S4x8x1 ![] bcast_S_S4x8x1 (constantI S_ 32 0#32)⟩] concatenates_S32x8x1_S4x8x1_S36x8x1_d0 := by
  unfold opsA; after_reads_simp; rfl

theorem tr3 {α : Type} (x : S32x9x100000.Idx → α) (k : Fin 9) (b : Fin 32) (l : Fin 100000) :
    transpose S9x32x100000 [1, 0, 2] x transposes_S32x9x100000_S9x32x100000_1_0_2 (ix3 k b l) = x (ix3 b k l) := by
  refine transpose_apply _ x _ _ _ fun a => ?_
  match a with | ⟨0, _⟩ => rfl | ⟨1, _⟩ => rfl | ⟨2, _⟩ => rfl
theorem tr2 {α : Type} (x : S32x8.Idx → α) (k : Fin 8) (b : Fin 32) : transpose S8x32 [1, 0] x transposes_S32x8_S8x32_1_0 (ix2 k b) = x (ix2 b k) := by
  refine transpose_apply _ x _ _ _ fun a => ?_
  match a with | ⟨0, _⟩ => rfl | ⟨1, _⟩ => rfl
theorem tr2' {α : Type} (x : S9x32.Idx → α) (k : Fin 9) (b : Fin 32) : transpose S32x9 [1, 0] x transposes_S9x32_S32x9_1_0 (ix2 b k) = x (ix2 k b) := by
  refine transpose_apply _ x _ _ _ fun a => ?_
  match a with | ⟨0, _⟩ => rfl | ⟨1, _⟩ => rfl

theorem v4_apply (r : Fin 36) (hr : r.val < 32) (j : Fin 8) : after opsA V (Proc.devRef .tc main_v4) (ix3 r j (0 : Fin 1))
    = V (Proc.devRef .tc main_arg0) (ix2 (⟨8 * (r.val % 4) + j.val, by omega⟩ : Fin 32) (⟨r.val / 4, by omega⟩ : Fin 8)) := by
  rw [v4_eq]
  refine (concatenate_pair_apply_left (t := S36x8x1) (s₁ := S32x8x1) (s₂ := S4x8x1) 0 _ _ _ (ix3 r j (0 : Fin 1)) rfl (ix3 (⟨r.val, hr⟩ : Fin 32) j (0 : Fin 1)) (fun b => ?_)).trans ?_
  · match b with | ⟨0, _⟩ => rfl | ⟨1, _⟩ => rfl | ⟨2, _⟩ => rfl
  rw [shapeCast_apply (k := ix3 (⟨r.val / 4, by omega⟩ : Fin 8) (⟨r.val % 4, by omega⟩ : Fin 4) j) _ _ _ (by
      rw [Shape.rowMajor_val_three, Shape.rowMajor_val_three]
      show (r.val / 4 * 4 + r.val % 4) * 8 + j.val = (r.val * 8 + j.val) * 1 + 0
      omega),
    shapeCast_apply (k := ix2 (⟨r.val / 4, by omega⟩ : Fin 8) (⟨8 * (r.val % 4) + j.val, by omega⟩ : Fin 32)) _ _ _ (by
      rw [Shape.rowMajor_val_three, Shape.rowMajor_val_two]
      show r.val / 4 * 32 + (8 * (r.val % 4) + j.val) = (r.val / 4 * 4 + r.val % 4) * 8 + j.val
      omega), tr2]

theorem v9_apply (n : Fin 256) : after opsB V (Proc.devRef .tc main_v9) (ix1 n)
    = V (Proc.devRef .tc main_v7_0) (ix3 (⟨n.val / 8, by omega⟩ : Fin 36) (⟨n.val % 8, by omega⟩ : Fin 8) (0 : Fin 1)) := by
  have e : after opsB V (Proc.devRef .tc main_v9) = shapeCast S256 (extractStridedSlice S32x8x1 ![0, 0, 0] (V (Proc.devRef .tc main_v7_0)) slices_S36x8x1_S32x8x1_0_0_0) shapeCasts_S32x8x1_S256 := by
    unfold opsB; after_reads_simp; rfl
  rw [e, shapeCast_apply (k := ix3 (⟨n.val / 8, by omega⟩ : Fin 32) (⟨n.val % 8, by omega⟩ : Fin 8) (0 : Fin 1)) _ _ _ (by
    rw [Shape.rowMajor_val_three, Shape.rowMajor_val_one]
    show (n.val / 8 * 8 + n.val % 8) * 1 + 0 = n.val
    omega)]
  refine extractStridedSlice_apply _ _ _ _ _ fun a => ?_
  match a with
  | ⟨0, _⟩ => exact (Nat.zero_add _).symm
  | ⟨1, _⟩ => exact (Nat.zero_add _).symm
  | ⟨2, _⟩ => rfl

theorem v11_apply (n : Fin 32) : after opsB V (Proc.devRef .tc main_v11) (ix1 n)
    = V (Proc.devRef .tc main_v7_0) (ix3 (⟨32 + n.val / 8, by omega⟩ : Fin 36) (⟨n.val % 8, by omega⟩ : Fin 8) (0 : Fin 1)) := by
  have e : after opsB V (Proc.devRef .tc main_v11) = shapeCast S32 (extractStridedSlice S4x8x1 ![32, 0, 0] (V (Proc.devRef .tc main_v7_0)) slices_S36x8x1_S4x8x1_32_0_0) shapeCasts_S4x8x1_S32 := by
    unfold opsB; after_reads_simp; rfl
  rw [e, shapeCast_apply (k := ix3 (⟨n.val / 8, by omega⟩ : Fin 4) (⟨n.val % 8, by omega⟩ : Fin 8) (0 : Fin 1)) _ _ _ (by
    rw [Shape.rowMajor_val_three, Shape.rowMajor_val_one]
    show (n.val / 8 * 8 + n.val % 8) * 1 + 0 = n.val
    omega)]
  refine extractStridedSlice_apply _ _ _ _ _ fun a => ?_
  match a with
  | ⟨0, _⟩ => rfl
  | ⟨1, _⟩ => exact (Nat.zero_add _).symm
  | ⟨2, _⟩ => rfl

theorem flat32 {α : Type} (x : S32x8x1.Idx → α) (n : Fin 256) : shapeCast S256 x shapeCasts_S32x8x1_S256 (ix1 n) = x (ix3 (⟨n.val / 8, by omega⟩ : Fin 32) (⟨n.val % 8, by omega⟩ : Fin 8) (0 : Fin 1)) :=
  shapeCast_apply _ _ _ _ (by
    rw [Shape.rowMajor_val_three, Shape.rowMajor_val_one]
    show (n.val / 8 * 8 + n.val % 8) * 1 + 0 = n.val
    omega)
theorem flat8 {α : Type} (x : S8x32.Idx → α) (n : Fin 256) : shapeCast S256 x shapeCasts_S8x32_S256 (ix1 n) = x (ix2 (⟨n.val / 32, by omega⟩ : Fin 8) (⟨n.val % 32, by omega⟩ : Fin 32)) :=
  shapeCast_apply _ _ _ _ (by
    rw [Shape.rowMajor_val_two, Shape.rowMajor_val_one]
    show n.val / 32 * 32 + n.val % 32 = n.val
    omega)

theorem flat288 {α : Type} (x : S288.Idx → α) (j : Fin 9) (b : Fin 32) : shapeCast S9x32 x shapeCasts_S288_S9x32 (ix2 j b) = x (ix1 (⟨j.val * 32 + b.val, by omega⟩ : Fin 288)) :=
  shapeCast_apply _ _ _ _ (by rw [Shape.rowMajor_val_two, Shape.rowMajor_val_one]; rfl)

theorem v12_apply (n : Fin 256) : after opsB V (Proc.devRef .tc main_v12) (ix1 n)
    = V (Proc.devRef .tc main_v7_1) (ix3 (⟨n.val / 8, by omega⟩ : Fin 32) (⟨n.val % 8, by omega⟩ : Fin 8) (0 : Fin 1)) := by
  have e : after opsB V (Proc.devRef .tc main_v12) = shapeCast S256 (V (Proc.devRef .tc main_v7_1)) shapeCasts_S32x8x1_S256 := by
    unfold opsB; after_reads_simp; rfl
  rw [e, flat32]
theorem v13_apply (n : Fin 256) : after opsB V (Proc.devRef .tc main_v13) (ix1 n)
    = V (Proc.devRef .tc main_v7_2) (ix3 (⟨n.val / 8, by omega⟩ : Fin 32) (⟨n.val % 8, by omega⟩ : Fin 8) (0 : Fin 1)) := by
  have e : after opsB V (Proc.devRef .tc main_v13) = shapeCast S256 (V (Proc.devRef .tc main_v7_2)) shapeCasts_S32x8x1_S256 := by
    unfold opsB; after_reads_simp; rfl
  rw [e, flat32]
theorem v15_apply (n : Fin 256) : after opsB V (Proc.devRef .tc main_v15) (ix1 n)
    = V (Proc.devRef .tc main_arg0) (ix2 (⟨n.val % 32, by omega⟩ : Fin 32) (⟨n.val / 32, by omega⟩ : Fin 8)) := by
  have e : after opsB V (Proc.devRef .tc main_v15) = shapeCast S256 (transpose S8x32 [1, 0] (V (Proc.devRef .tc main_arg0)) transposes_S32x8_S8x32_1_0) shapeCasts_S8x32_S256 := by
    unfold opsB; after_reads_simp; rfl
  rw [e, flat8, tr2]
theorem v17_apply (n : Fin 256) : after opsB V (Proc.devRef .tc main_v17) (ix1 n)
    = V (Proc.devRef .tc main_arg3) (ix2 (⟨n.val % 32, by omega⟩ : Fin 32) (⟨n.val / 32, by omega⟩ : Fin 8)) := by
  have e : after opsB V (Proc.devRef .tc main_v17) = shapeCast S256 (transpose S8x32 [1, 0] (V (Proc.devRef .tc main_arg3)) transposes_S32x8_S8x32_1_0) shapeCasts_S8x32_S256 := by
    unfold opsB; after_reads_simp; rfl
  rw [e, flat8, tr2]

theorem v20_apply (b : Fin 32) (j : Fin 9) : after opsC V (Proc.devRef .tc main_v20) (ix2 b j) = V (Proc.devRef .tc main_v18) (ix1 (⟨j.val * 32 + b.val, by omega⟩ : Fin 288)) := by
  have e : after opsC V (Proc.devRef .tc main_v20) = transpose S32x9 [1, 0] (shapeCast S9x32 (V (Proc.devRef .tc main_v18)) shapeCasts_S288_S9x32) transposes_S9x32_S32x9_1_0 := by
    unfold opsC; after_reads_simp; rfl
  rw [e, tr2', flat288]

end Host

/-! ## The result -/

section Result
variable (m : (ℓ : Loc nD τ sig) → Buf (Elt Ideal) ℓ) (d : Dev nD)

/-- The rows the TensorCore kernel leaves. -/
theorem v2_left : Left d (V1 m d) (V2 m d) := by
  have h : ∃ V', Left d (V1 m d) V' := by
    refine ⟨Function.update (Function.update (Function.update (V1 m d) (Proc.devRef .tc main_v7_0) (fun y : S36x8x1.Idx => rowI d (VW (V1 m d) d) (y 0).val (ix3 (0 : Fin 1) (y 1) (0 : Fin 1))))
      (Proc.devRef .tc main_v7_1) (fun y : S32x8x1.Idx => rowD d (VW (V1 m d) d) (y 0).val (ix3 (0 : Fin 1) (y 1) (0 : Fin 1))))
      (Proc.devRef .tc main_v7_2) (fun y : S32x8x1.Idx => rowT d (VW (V1 m d) d) (y 0).val (ix3 (0 : Fin 1) (y 1) (0 : Fin 1))), ?_, ?_, ?_, ?_⟩
    · rw [Function.update_of_ne (by decide), Function.update_of_ne (by decide), Function.update_self]
      intro r _ j; rfl
    · rw [Function.update_of_ne (by decide), Function.update_self]
      intro r _ j; rfl
    · rw [Function.update_self]
      intro r _ j; rfl
    · intro b h0 h1 h2
      rw [Function.update_of_ne h2, Function.update_of_ne h1, Function.update_of_ne h0]
  unfold V2
  rw [dif_pos h]
  exact h.choose_spec

/-- Entry `x` of a row of a table, at a natural `x`. -/
def at3 {n k : ℕ} (X : (⟨3, ![n, k, 100000]⟩ : Shape).Idx → EReal) (b : Fin n) (p : Fin k) (x : ℕ) : EReal := if h : x < 100000 then X (ix3 b p ⟨x, h⟩) else 0

theorem rowAt_word (X : S9x32x100000.Idx → EReal) (n : Fin 36) (j : Fin 8) (x : ℕ) :
    rowAt (word (F := Ideal) d tArr X n) j x = at3 X (⟨n.val / 4, by omega⟩ : Fin 9) (⟨8 * (n.val % 4) + j.val, by omega⟩ : Fin 32) x := by
  unfold rowAt at3
  split
  · exact word_apply (F := Ideal) d X n _
  · rfl
theorem rowAt_uword (X : S9x32x100000.Idx → EReal) (n : Fin 36) (j : Fin 8) (x : ℕ) :
    rowAt (word (F := Ideal) d uArr X n) j x = at3 X (⟨n.val / 4, by omega⟩ : Fin 9) (⟨8 * (n.val % 4) + j.val, by omega⟩ : Fin 32) x := by
  unfold rowAt at3
  split
  · exact uword_apply (F := Ideal) d X n _
  · rfl
theorem rowAt_dword (X : S32x8x100000.Idx → EReal) (n : Fin 32) (j : Fin 8) (x : ℕ) :
    rowAt (dword (F := Ideal) d X n) j x = at3 X (⟨8 * (n.val % 4) + j.val, by omega⟩ : Fin 32) (⟨n.val / 4, by omega⟩ : Fin 8) x := by
  unfold rowAt at3
  split
  · exact dword_apply (F := Ideal) d X n _
  · rfl

theorem at3_tr (X : S32x9x100000.Idx → EReal) (k : Fin 9) (b : Fin 32) (x : ℕ) :
    at3 (transpose S9x32x100000 [1, 0, 2] X transposes_S32x9x100000_S9x32x100000_1_0_2) k b x = at3 X b k x := by
  unfold at3
  split
  · exact tr3 X k b _
  · rfl

/-- The arguments. -/
abbrev aI : S32x8.Idx → BitVec 32 := m (d, Proc.devRef .tc main_arg0)
abbrev aD : S32x8x100000.Idx → EReal := m (d, Proc.devRef .tc main_arg1)
abbrev aT : S32x9x100000.Idx → EReal := m (d, Proc.devRef .tc main_arg2)
abbrev aS : S32x8.Idx → EReal := m (d, Proc.devRef .tc main_arg3)
abbrev aU : S32x9x100000.Idx → EReal := m (d, Proc.devRef .tc main_arg4)

theorem v1_v5 : V1 m d (Proc.devRef .tc main_v5) = transpose S9x32x100000 [1, 0, 2] (aT m d) transposes_S32x9x100000_S9x32x100000_1_0_2 := v5_eq _
theorem v1_v6 : V1 m d (Proc.devRef .tc main_v6) = transpose S9x32x100000 [1, 0, 2] (aU m d) transposes_S32x9x100000_S9x32x100000_1_0_2 := v6_eq _
theorem v1_arg1 : V1 m d (Proc.devRef .tc main_arg1) = aD m d := by
  unfold V1 opsA; after_reads_simp
theorem v1_arg0 : V1 m d (Proc.devRef .tc main_arg0) = aI m d := by
  unfold V1 opsA; after_reads_simp
theorem v1_arg3 : V1 m d (Proc.devRef .tc main_arg3) = aS m d := by
  unfold V1 opsA; after_reads_simp

/-- Position `k` among the candidates, and among the candidates and the bonus. -/
abbrev k8 (k : ℕ) : Fin 8 := ⟨k % 8, Nat.mod_lt _ (by decide)⟩
abbrev k9 (k : ℕ) : Fin 9 := ⟨k % 8, (Nat.mod_lt _ (by decide)).trans (by decide)⟩

/-- The scores of candidate `k` and of the bonus, of batch row `b`. -/
def recS (tp us : S32x9x100000.Idx → EReal) (dp : S32x8x100000.Idx → EReal) (b : Fin 32) (k : ℕ) (x : ℕ) : EReal :=
  quot (max (at3 tp b (k9 k) x - at3 dp b (k8 k) x) floorP) (at3 us b (k9 k) x)
def bonS (tp us : S32x9x100000.Idx → EReal) (b : Fin 32) (x : ℕ) : EReal := quot (at3 tp b 8 x) (at3 us b 8 x)

/-- Where candidate `k` of batch row `b` stands among the rows of eight. -/
theorem row_lt (b : Fin 32) (k : ℕ) : ((k % 8) * 32 + b.val) / 8 < 32 := by omega

theorem rec_best (b : Fin 32) (k : ℕ) :
    ∃ M, BestOn (recS (aT m d) (aU m d) (aD m d) b k) 0 100000 M (V2 m d (Proc.devRef .tc main_v7_0) (ix3 (⟨((k % 8) * 32 + b.val) / 8, by omega⟩ : Fin 36) (⟨((k % 8) * 32 + b.val) % 8, by omega⟩ : Fin 8) (0 : Fin 1))) := by
  rw [(v2_left m d).1 _ (by omega)]
  unfold rowI idsOut
  rw [if_pos (row_lt b k)]
  obtain ⟨M, hM⟩ := recVal_best (word (F := Ideal) d tArr (V1 m d (Proc.devRef .tc main_v5)) (Ring.bk 36 (((k % 8) * 32 + b.val) / 8))) (dword (F := Ideal) d (V1 m d (Proc.devRef .tc main_arg1)) (Ring.bk 32 (((k % 8) * 32 + b.val) / 8)))
    (word (F := Ideal) d uArr (V1 m d (Proc.devRef .tc main_v6)) (Ring.bk 36 (((k % 8) * 32 + b.val) / 8))) (⟨((k % 8) * 32 + b.val) % 8, by omega⟩ : Fin 8)
  refine ⟨M, ?_⟩
  have e : recS (aT m d) (aU m d) (aD m d) b k = recScore (word (F := Ideal) d tArr (V1 m d (Proc.devRef .tc main_v5)) (Ring.bk 36 (((k % 8) * 32 + b.val) / 8))) (dword (F := Ideal) d (V1 m d (Proc.devRef .tc main_arg1)) (Ring.bk 32 (((k % 8) * 32 + b.val) / 8)))
    (word (F := Ideal) d uArr (V1 m d (Proc.devRef .tc main_v6)) (Ring.bk 36 (((k % 8) * 32 + b.val) / 8))) (⟨((k % 8) * 32 + b.val) % 8, by omega⟩ : Fin 8) := by
    funext x
    unfold recS recScore
    rw [rowAt_word, rowAt_uword, rowAt_dword, v1_v5, v1_v6, v1_arg1, at3_tr, at3_tr]
    have h36 := Ring.bk_val (NB := 36) (k := ((k % 8) * 32 + b.val) / 8) (by omega)
    have h32 := Ring.bk_val (NB := 32) (k := ((k % 8) * 32 + b.val) / 8) (by omega)
    congr 1
    · congr 2
      · congr 1
        · exact Fin.ext (by simp only [h36]; omega)
        · exact Fin.ext (by simp only [h36]; omega)
      · congr 1
        · exact Fin.ext (by simp only [h32]; omega)
        · exact Fin.ext (by simp only [h32]; omega)
    · congr 1
      · exact Fin.ext (by simp only [h36]; omega)
      · exact Fin.ext (by simp only [h36]; omega)
  rw [e]
  exact hM

theorem bon_best (b : Fin 32) :
    ∃ M, BestOn (bonS (aT m d) (aU m d) b) 0 100000 M (V2 m d (Proc.devRef .tc main_v7_0) (ix3 (⟨32 + b.val / 8, by omega⟩ : Fin 36) (⟨b.val % 8, by omega⟩ : Fin 8) (0 : Fin 1))) := by
  rw [(v2_left m d).1 _ (by omega)]
  unfold rowI idsOut
  rw [if_neg (by show ¬ 32 + b.val / 8 < 32; omega)]
  obtain ⟨M, hM⟩ := bonVal_best (word (F := Ideal) d tArr (V1 m d (Proc.devRef .tc main_v5)) (Ring.bk 36 (32 + b.val / 8)))
    (word (F := Ideal) d uArr (V1 m d (Proc.devRef .tc main_v6)) (Ring.bk 36 (32 + b.val / 8))) (⟨b.val % 8, by omega⟩ : Fin 8)
  refine ⟨M, ?_⟩
  have e : bonS (aT m d) (aU m d) b = bonScore (word (F := Ideal) d tArr (V1 m d (Proc.devRef .tc main_v5)) (Ring.bk 36 (32 + b.val / 8)))
    (word (F := Ideal) d uArr (V1 m d (Proc.devRef .tc main_v6)) (Ring.bk 36 (32 + b.val / 8))) (⟨b.val % 8, by omega⟩ : Fin 8) := by
    funext x
    unfold bonS bonScore
    rw [rowAt_word, rowAt_uword, v1_v5, v1_v6, at3_tr, at3_tr]
    have h36 := Ring.bk_val (NB := 36) (k := 32 + b.val / 8) (by omega)
    congr 1
    · congr 1
      · exact Fin.ext (by simp only [h36]; omega)
      · exact Fin.ext (by simp only [h36]; show 8 = (32 + b.val / 8) / 4; omega)
    · congr 1
      · exact Fin.ext (by simp only [h36]; omega)
      · exact Fin.ext (by simp only [h36]; show 8 = (32 + b.val / 8) / 4; omega)
  rw [e]
  exact hM

theorem ofNat_toNat' (w : BitVec 32) : w = BitVec.ofNat 32 w.toNat := by simp

variable (hid : ∀ (b : Fin 32) (k : Fin 8), (aI m d (ix2 b k)).toNat < 100000)
include hid

theorem dtok_at (b : Fin 32) (k : ℕ) :
    V2 m d (Proc.devRef .tc main_v7_1) (ix3 (⟨((k % 8) * 32 + b.val) / 8, by omega⟩ : Fin 32) (⟨((k % 8) * 32 + b.val) % 8, by omega⟩ : Fin 8) (0 : Fin 1))
      = at3 (aD m d) b (k8 k) (aI m d (ix2 b (k8 k))).toNat := by
  have h36 := Ring.bk_val (NB := 36) (k := ((k % 8) * 32 + b.val) / 8) (by omega)
  have h32 := Ring.bk_val (NB := 32) (k := ((k % 8) * 32 + b.val) / 8) (by omega)
  rw [(v2_left m d).2.1 _ (by show _ < 32; omega)]
  unfold rowD
  rw [dtokVal_apply _ _ _ (aI m d (ix2 b (k8 k))).toNat (hid b _), rowAt_dword]
  · show at3 (V1 m d (Proc.devRef .tc main_arg1)) _ _ _ = _
    rw [v1_arg1]
    congr 1
    · exact Fin.ext (by simp only [h32]; omega)
    · exact Fin.ext (by simp only [h32]; omega)
  · unfold idsRow
    refine (v4_apply _ _ (by rw [h36]; omega) _).trans ?_
    rw [← ofNat_toNat']
    show aI m d _ = _
    congr 2
    · exact Fin.ext (by simp only [h36]; show 8 * (((k % 8) * 32 + b.val) / 8 % 4) + ((k % 8) * 32 + b.val) % 8 = b.val; omega)
    · exact Fin.ext (by simp only [h36]; omega)

theorem ttok_at (b : Fin 32) (k : ℕ) :
    V2 m d (Proc.devRef .tc main_v7_2) (ix3 (⟨((k % 8) * 32 + b.val) / 8, by omega⟩ : Fin 32) (⟨((k % 8) * 32 + b.val) % 8, by omega⟩ : Fin 8) (0 : Fin 1))
      = at3 (aT m d) b (k9 k) (aI m d (ix2 b (k8 k))).toNat := by
  have h36 := Ring.bk_val (NB := 36) (k := ((k % 8) * 32 + b.val) / 8) (by omega)
  rw [(v2_left m d).2.2.1 _ (by show _ < 32; omega)]
  unfold rowT
  rw [ttokVal_apply _ _ _ (aI m d (ix2 b (k8 k))).toNat (hid b _), rowAt_word]
  · show at3 (V1 m d (Proc.devRef .tc main_v5)) _ _ _ = _
    rw [v1_v5, at3_tr]
    congr 1
    · exact Fin.ext (by simp only [h36]; omega)
    · exact Fin.ext (by simp only [h36]; omega)
  · unfold idsRow
    refine (v4_apply _ _ (by rw [h36]; omega) _).trans ?_
    rw [← ofNat_toNat']
    show aI m d _ = _
    congr 2
    · exact Fin.ext (by simp only [h36]; show 8 * (((k % 8) * 32 + b.val) / 8 % 4) + ((k % 8) * 32 + b.val) % 8 = b.val; omega)
    · exact Fin.ext (by simp only [h36]; omega)

/-- The kernel's result. -/
theorem kernel_value (b : Fin 32) : ∃ (rec : ℕ → BitVec 32) (bon : BitVec 32),
    (∀ k, ∃ M, BestOn (recS (aT m d) (aU m d) (aD m d) b k) 0 100000 M (rec k)) ∧ (∃ M, BestOn (bonS (aT m d) (aU m d) b) 0 100000 M bon)
      ∧ ∀ j : Fin 9, V5 m d (Proc.devRef .tc main_v20) (ix2 b j)
        = outL (F := Ideal) (fun k => aS m d (ix2 b (k8 k))) (fun k => at3 (aD m d) b (k8 k) (aI m d (ix2 b (k8 k))).toNat)
            (fun k => at3 (aT m d) b (k9 k) (aI m d (ix2 b (k8 k))).toNat) (fun k => aI m d (ix2 b (k8 k))) rec bon j.val := by
  refine ⟨_, _, rec_best m d b, bon_best m d b, fun j => ?_⟩
  unfold V5
  rw [v20_apply]
  unfold V4
  rw [Function.update_self]
  unfold scO scOut scAt
  have hf : ∀ k, flat k (j.val * 32 + b.val) = ix1 (⟨(k % 8) * 32 + b.val, by omega⟩ : Fin 256) := fun k => by
    unfold flat; congr 1; exact Fin.ext (by show (k % 8) * 32 + (j.val * 32 + b.val) % 32 = (k % 8) * 32 + b.val; omega)
  have hb : (ix1 (⟨(j.val * 32 + b.val) % 32, by omega⟩ : Fin 32) : S32.Idx) = ix1 b := by
    congr 1; exact Fin.ext (by show (j.val * 32 + b.val) % 32 = b.val; omega)
  have hj : (j.val * 32 + b.val) / 32 = j.val := by omega
  have hV : ∀ r : Ref sig .tc, Proc.devRef (τ := τ) .tc r ≠ Proc.devRef .tc main_v7_0 → Proc.devRef (τ := τ) .tc r ≠ Proc.devRef .tc main_v7_1 → Proc.devRef (τ := τ) .tc r ≠ Proc.devRef .tc main_v7_2 →
      V2 m d (Proc.devRef .tc r) = V1 m d (Proc.devRef .tc r) := fun r => (v2_left m d).2.2.2 _
  have hi : ∀ k : ℕ, (ix2 (⟨((k % 8) * 32 + b.val) % 32, by omega⟩ : Fin 32) (⟨((k % 8) * 32 + b.val) / 32, by omega⟩ : Fin 8) : S32x8.Idx) = ix2 b (k8 k) := fun k => by
    congr 1
    · exact Fin.ext (by show ((k % 8) * 32 + b.val) % 32 = b.val; omega)
    · exact Fin.ext (by show ((k % 8) * 32 + b.val) / 32 = k % 8; omega)
  have e17 : (fun k => V3 m d (Proc.devRef .tc main_v17) (flat k (j.val * 32 + b.val))) = fun k => aS m d (ix2 b (k8 k)) := funext fun k => by
    rw [hf]
    refine (v17_apply (V2 m d) _).trans ?_
    rw [hV main_arg3 (by decide) (by decide) (by decide), v1_arg3, hi]
  have e15 : (fun k => V3 m d (Proc.devRef .tc main_v15) (flat k (j.val * 32 + b.val))) = fun k => aI m d (ix2 b (k8 k)) := funext fun k => by
    rw [hf]
    refine (v15_apply (V2 m d) _).trans ?_
    rw [hV main_arg0 (by decide) (by decide) (by decide), v1_arg0, hi]
  have e12 : (fun k => V3 m d (Proc.devRef .tc main_v12) (flat k (j.val * 32 + b.val))) = fun k => at3 (aD m d) b (k8 k) (aI m d (ix2 b (k8 k))).toNat := funext fun k => by
    rw [hf]
    exact (v12_apply (V2 m d) _).trans (dtok_at m d hid b k)
  have e13 : (fun k => V3 m d (Proc.devRef .tc main_v13) (flat k (j.val * 32 + b.val))) = fun k => at3 (aT m d) b (k9 k) (aI m d (ix2 b (k8 k))).toNat := funext fun k => by
    rw [hf]
    exact (v13_apply (V2 m d) _).trans (ttok_at m d hid b k)
  have e9 : (fun k => V3 m d (Proc.devRef .tc main_v9) (flat k (j.val * 32 + b.val))) = fun k => V2 m d (Proc.devRef .tc main_v7_0) (ix3 (⟨((k % 8) * 32 + b.val) / 8, by omega⟩ : Fin 36) (⟨((k % 8) * 32 + b.val) % 8, by omega⟩ : Fin 8) (0 : Fin 1)) :=
    funext fun k => by
      rw [hf]
      exact v9_apply (V2 m d) _
  show outL (F := Ideal) (fun k => V3 m d (Proc.devRef .tc main_v17) (flat k (j.val * 32 + b.val))) (fun k => V3 m d (Proc.devRef .tc main_v12) (flat k (j.val * 32 + b.val)))
    (fun k => V3 m d (Proc.devRef .tc main_v13) (flat k (j.val * 32 + b.val))) (fun k => V3 m d (Proc.devRef .tc main_v15) (flat k (j.val * 32 + b.val)))
    (fun k => V3 m d (Proc.devRef .tc main_v9) (flat k (j.val * 32 + b.val))) (V3 m d (Proc.devRef .tc main_v11) (ix1 (⟨(j.val * 32 + b.val) % 32, by omega⟩ : Fin 32))) ((j.val * 32 + b.val) / 32) = _
  rw [hb, hj, e17, e15, e12, e13, e9]
  exact congrArg (fun w => outL (F := Ideal) _ _ _ _ _ w _) (v11_apply (V2 m d) b)

end Result

end Cert.Proof.KerVal

end
-- ==== Proof.RefVal.lean ====
/-
  The reference's result over the extended reals, from its arguments.
-/
module

public import proofs.«01_k».proof.Proof.RefOps
public import proofs.«01_k».proof.Proof.KerVal

@[expose] public section

set_option maxRecDepth 16384

noncomputable section

namespace Cert.Proof.Ref

open Cert.ReferenceIdeal Cert.ReferenceIdeal.Gen Cert.Proof.Pick
open Idealize.ShloMosaic Idealize.ShloMosaic.TcCoe Idealize.ShloMosaic.Routing Idealize.ShloMosaic.StableHlo

variable (V : Valuation τ sig (Elt Ideal))

/-! ## The probability of each drafted token -/

section Take
variable {F : FTy → Type} [FloatOps F]

/-- The positions the drafted tokens name, a negative one counted from the end. -/
def wrapIds (i : IVec S32x8 32) : IVec S32x8x1x1 32 :=
  shapeCast S32x8x1x1 (select (cmpi .slt (broadcastInDim S32x8x1 ![0, 1] bcast_S32x8_S32x8x1_0_1 i) (broadcastInDim S32x8x1 ![] bcast_S_S32x8x1 (constantI S_ 32 0#32)))
    (addi (broadcastInDim S32x8x1 ![0, 1] bcast_S32x8_S32x8x1_0_1 i) (broadcastInDim S32x8x1 ![] bcast_S_S32x8x1 (constantI S_ 32 100000#32)))
    (broadcastInDim S32x8x1 ![0, 1] bcast_S32x8_S32x8x1_0_1 i)) shapeCasts_S32x8x1_S32x8x1x1

/-- The words of a table at those positions. -/
def takeIds (x : FVec F S32x8x100000 .f32) (i : IVec S32x8 32) : FVec F S32x8 .f32 :=
  shapeCast S32x8 (select (Host.reduce IntOp.andi (andi (cmpi .sge (wrapIds i) (broadcastInDim S32x8x1x1 ![] bcast_S_S32x8x1x1 (constantI S_ 32 0#32)))
      (cmpi .sle (wrapIds i) (broadcastInDim S32x8x1x1 ![0, 1, 2, 3] bcast_S1x1x1x1_S32x8x1x1_0_1_2_3 (broadcastInDim S1x1x1x1 ![3] bcast_S1_S1x1x1x1_3 (constantI S1 32 99999#32)))))
      (constantI S_ 1 1#1) reducesTo_S32x8x1x1_S32x8x1_d3 h_S_)
    (Host.gather gather_S32x8x100000_S32x8x1x1_S32x8x1_n_2_01_01_2_3_111 x (wrapIds i))
    (broadcastInDim S32x8x1 ![] bcast_S_S32x8x1 (constant S_ .f32 0x7FC00000#32))) shapeCasts_S32x8x1_S32x8

theorem w1_eq (V : Valuation τ sig (Elt F)) :
    after w1 V (Proc.devRef .tc main_v2) = takeIds (V (Proc.devRef .tc main_arg1)) (V (Proc.devRef .tc main_arg0)) := by
  unfold w1
  after_reads_simp
  rfl

theorem w2_eq (V : Valuation τ sig (Elt F)) :
    after w2 V (Proc.devRef .tc main_v6) = takeIds (extractStridedSlice S32x8x100000 ![0, 0, 0] (V (Proc.devRef .tc main_arg2)) slices_S32x9x100000_S32x8x100000_0_0_0)
      (V (Proc.devRef .tc main_arg0)) := by
  unfold w2
  after_reads_simp
  rfl

/-- A word in a range, by the two comparisons that test it. -/
theorem in_range (w hi : BitVec 32) (h : w.toNat ≤ hi.toNat) (hh : hi.toNat < 2 ^ 31) :
    IntOp.andi (IntOp.cmpi .sge w 0#32) (IntOp.cmpi .sle w hi) = 1#1 := by
  have e1 : (0#32).sle w = true := by
    rw [BitVec.sle, decide_eq_true_eq, BitVec.toInt_eq_toNat_of_lt (x := w) (by omega)]
    simp
  have e2 : w.sle hi = true := by
    rw [BitVec.sle, decide_eq_true_eq, BitVec.toInt_eq_toNat_of_lt (x := w) (by omega), BitVec.toInt_eq_toNat_of_lt (x := hi) (by omega)]
    exact_mod_cast h
  show IntOp.andi (BitVec.ofBool ((0#32).sle w)) (BitVec.ofBool (w.sle hi)) = 1#1
  rw [e1, e2]
  rfl

theorem toNat_toInt (w : BitVec 32) (h : w.toNat < 2 ^ 31) : w.toInt.toNat = w.toNat := by
  rw [BitVec.toInt_eq_toNat_of_lt (by omega)]
  rfl

theorem wrapIds_apply (i : IVec S32x8 32) (b : Fin 32) (k : Fin 8) (h : (i (ix2 b k)).toNat < 100000) : wrapIds i (ix4 b k 0 0) = i (ix2 b k) := by
  unfold wrapIds
  refine (shapeCast_apply _ _ (ix4 b k 0 0) (ix3 b k 0) ?_).trans ?_
  · rw [Shape.rowMajor_val_three]
    refine Eq.trans ?_ (Shape.rowMajor_val_four _).symm
    show (b.val * 8 + k.val) * 1 + 0 = ((b.val * 8 + k.val) * 1 + 0) * 1 + 0
    omega
  have hb : broadcastInDim S32x8x1 ![0, 1] bcast_S32x8_S32x8x1_0_1 i (ix3 b k 0) = i (ix2 b k) :=
    broadcastInDim_apply _ _ _ _ _ fun a => by
      match a with
      | ⟨0, _⟩ => rfl
      | ⟨1, _⟩ => rfl
  show Scalar.select (IntOp.cmpi .slt (broadcastInDim S32x8x1 ![0, 1] bcast_S32x8_S32x8x1_0_1 i (ix3 b k 0)) 0#32) _
    (broadcastInDim S32x8x1 ![0, 1] bcast_S32x8_S32x8x1_0_1 i (ix3 b k 0)) = _
  rw [hb]
  exact wrap_of_lt _ _ (by omega)

theorem takeIds_apply (x : FVec F S32x8x100000 .f32) (i : IVec S32x8 32) (b : Fin 32) (k : Fin 8) (h : (i (ix2 b k)).toNat < 100000) :
    takeIds x i (ix2 b k) = x (ix3 b k ⟨(i (ix2 b k)).toNat, h⟩) := by
  unfold takeIds
  refine (shapeCast_apply _ _ (ix2 b k) (ix3 b k 0) ?_).trans ?_
  · rw [Shape.rowMajor_val_three]
    refine Eq.trans ?_ (Shape.rowMajor_val_two _).symm
    show (b.val * 8 + k.val) * 1 + 0 = b.val * 8 + k.val
    omega
  have hw := wrapIds_apply i b k h
  have hn : (wrapIds i (ix4 b k 0 0)).toInt.toNat = (i (ix2 b k)).toNat := by rw [hw]; exact toNat_toInt _ (by omega)
  have hm : Host.reduce IntOp.andi (andi (cmpi .sge (wrapIds i) (broadcastInDim S32x8x1x1 ![] bcast_S_S32x8x1x1 (constantI S_ 32 0#32)))
      (cmpi .sle (wrapIds i) (broadcastInDim S32x8x1x1 ![0, 1, 2, 3] bcast_S1x1x1x1_S32x8x1x1_0_1_2_3 (broadcastInDim S1x1x1x1 ![3] bcast_S1_S1x1x1x1_3 (constantI S1 32 99999#32)))))
      (constantI S_ 1 1#1) reducesTo_S32x8x1x1_S32x8x1_d3 h_S_ (ix3 b k 0) = 1#1 := by
    refine (all4 _ _ b k).trans ?_
    show IntOp.andi (IntOp.andi (IntOp.cmpi .sge (wrapIds i (ix4 b k 0 0)) 0#32) (IntOp.cmpi .sle (wrapIds i (ix4 b k 0 0)) 99999#32)) 1#1 = 1#1
    rw [hw, in_range _ _ (by show _ ≤ 99999; omega) (by decide)]
    rfl
  refine (congrArg (fun c => Scalar.select c _ _) hm).trans ?_
  refine (take3 x (wrapIds i) b k (by rw [hn]; exact h)).trans ?_
  exact congrArg (fun n : Fin 100000 => x (ix3 b k n)) (Fin.ext hn)

end Take

/-! ## The accepted tokens -/

section Mask

open Cert.Proof.Task

/-- The smallest of the first bits, as words, is the product of the bits. -/
theorem minTo_bits (g : ℕ → BitVec 1) (M : ℕ → BitVec 32) (h0 : M 0 = 1#32) (hs : ∀ k, M (k + 1) = Scalar.select (g k) (M k) 0#32) (k : ℕ) :
    minTo (fun k => (g k).setWidth 32) (k + 1) = M (k + 1) ∧ (M (k + 1) = 0#32 ∨ M (k + 1) = 1#32) := by
  have hb : ∀ x : BitVec 1, x = 0#1 ∨ x = 1#1 := by decide
  induction k with
  | zero =>
    rw [minTo, minTo, hs, h0]
    rcases hb (g 0) with e | e <;> rw [e] <;> decide
  | succ k ih =>
    obtain ⟨e, ih⟩ := ih
    rw [minTo, e, hs (k + 1)]
    rcases hb (g (k + 1)) with e' | e' <;> rcases ih with e | e <;> rw [e, e'] <;> decide

theorem minTo_mask (u d t : ℕ → EReal) (k : ℕ) :
    minTo (fun k => (FloatOps.cmpf (F := Ideal) (φ := .f32) .ole (u k) (FloatOps.divf (F := Ideal) (φ := .f32) (t k) (d k))).setWidth 32) (k + 1) = maskL (F := Ideal) u d t (k + 1)
      ∧ (maskL (F := Ideal) u d t (k + 1) = 0#32 ∨ maskL (F := Ideal) u d t (k + 1) = 1#32) :=
  minTo_bits _ _ rfl (fun _ => rfl) k

theorem naL_sum (u d t : ℕ → EReal) (k : ℕ) : naL (F := Ideal) u d t k = sumTo (fun k => maskL (F := Ideal) u d t (k + 1)) k := by
  induction k with
  | zero => rfl
  | succ k ih => rw [naL, sumTo, ih]

theorem naL_le (u d t : ℕ → EReal) (k : ℕ) (hk : k ≤ 8) : (naL (F := Ideal) u d t k).toNat ≤ k := by
  induction k with
  | zero => simp [naL]
  | succ k ih =>
    have ih := ih (by omega)
    rw [naL]
    show (naL (F := Ideal) u d t k + maskL (F := Ideal) u d t (k + 1)).toNat ≤ k + 1
    rw [BitVec.toNat_add]
    rcases (minTo_mask u d t k).2 with e | e <;> rw [e] <;> simp <;> omega

/-- A drafted token where it counts, else minus one. -/
theorem keep_token (id m : BitVec 32) (hm : m = 0#32 ∨ m = 1#32) :
    IntOp.addi (IntOp.muli id m) (IntOp.muli 4294967295#32 (IntOp.subi 1#32 m)) = Scalar.select (IntOp.cmpi .eq m 1#32) id 4294967295#32 := by
  rcases hm with rfl | rfl
  · show id * 0#32 + 4294967295#32 * (1#32 - 0#32) = _
    simp [Scalar.select, IntOp.cmpi]
  · show id * 1#32 + 4294967295#32 * (1#32 - 1#32) = _
    simp [Scalar.select, IntOp.cmpi]

/-- The word chosen among eight. -/
theorem recL_eq (rec : ℕ → BitVec 32) (na : BitVec 32) (h : (IntOp.minsi na 7#32).toNat < 8) : recL rec na 8 = rec (IntOp.minsi na 7#32).toNat := by
  simp only [recL]
  generalize IntOp.minsi na 7#32 = q at h ⊢
  obtain ⟨n, hn, rfl⟩ : ∃ n, n < 8 ∧ q = BitVec.ofNat 32 n := ⟨q.toNat, h, by simp⟩
  interval_cases n <;> simp [Scalar.select, IntOp.cmpi]

/-- The mask of a row. -/
def maskOf (u d t : FVec Ideal S32x8 .f32) : IVec S32x8 32 :=
  Host.reduceWindow IntOp.minsi ![1, 8] ![1, 1] ![0, 7] ![0, 0] (extui 32 (cmpf .ole u (Host.divf t d)) natLt_1_32)
    (broadcastInDim S_ ![] bcast_S_S_ (constantI S_ 32 2147483647#32)) reduceWindows_S32x8_S32x8_w1s1p0_0_w8s1p7_0 h_S_

theorem w3_mask (V : Valuation τ sig (Elt Ideal)) : after w3 V (Proc.devRef .tc main_v10) = maskOf (V (Proc.devRef .tc main_arg3)) (V (Proc.devRef .tc main_v2)) (V (Proc.devRef .tc main_v6)) := by
  unfold w3
  after_reads_simp
  rfl

theorem w3_kept (V : Valuation τ sig (Elt Ideal)) : after w3 V (Proc.devRef .tc main_v16)
    = addi (muli (V (Proc.devRef .tc main_arg0)) (maskOf (V (Proc.devRef .tc main_arg3)) (V (Proc.devRef .tc main_v2)) (V (Proc.devRef .tc main_v6)))) (muli (broadcastInDim S32x8 ![] bcast_S_S32x8 (constantI S_ 32 4294967295#32))
        (subi (broadcastInDim S32x8 ![] bcast_S_S32x8 (constantI S_ 32 1#32)) (maskOf (V (Proc.devRef .tc main_arg3)) (V (Proc.devRef .tc main_v2)) (V (Proc.devRef .tc main_v6))))) := by
  unfold w3
  after_reads_simp
  rfl

theorem maskOf_apply (V : Valuation τ sig (Elt Ideal)) (b : Fin 32) (u d t : ℕ → EReal)
    (hu : ∀ k : Fin 8, (V (Proc.devRef .tc main_arg3) : S32x8.Idx → EReal) (ix2 b k) = u k.val)
    (hd : ∀ k : Fin 8, (V (Proc.devRef .tc main_v2) : S32x8.Idx → EReal) (ix2 b k) = d k.val)
    (ht : ∀ k : Fin 8, (V (Proc.devRef .tc main_v6) : S32x8.Idx → EReal) (ix2 b k) = t k.val) (k : Fin 8) :
    maskOf (V (Proc.devRef .tc main_arg3)) (V (Proc.devRef .tc main_v2)) (V (Proc.devRef .tc main_v6)) (ix2 b k) = maskL (F := Ideal) u d t (k.val + 1) := by
  unfold maskOf
  refine (runMin _ _ rfl _ b (fun k => ?_) k).trans (minTo_mask u d t k.val).1
  show (FloatOps.cmpf (F := Ideal) (φ := .f32) .ole ((V (Proc.devRef .tc main_arg3) : S32x8.Idx → EReal) (ix2 b k))
    (FloatOps.divf (F := Ideal) (φ := .f32) ((V (Proc.devRef .tc main_v6) : S32x8.Idx → EReal) (ix2 b k)) ((V (Proc.devRef .tc main_v2) : S32x8.Idx → EReal) (ix2 b k)))).setWidth 32 = _
  rw [hu, hd, ht]

theorem kept_apply (V : Valuation τ sig (Elt Ideal)) (b : Fin 32) (u d t : ℕ → EReal)
    (hu : ∀ k : Fin 8, (V (Proc.devRef .tc main_arg3) : S32x8.Idx → EReal) (ix2 b k) = u k.val)
    (hd : ∀ k : Fin 8, (V (Proc.devRef .tc main_v2) : S32x8.Idx → EReal) (ix2 b k) = d k.val)
    (ht : ∀ k : Fin 8, (V (Proc.devRef .tc main_v6) : S32x8.Idx → EReal) (ix2 b k) = t k.val) (ids : ℕ → BitVec 32)
    (hi : ∀ k : Fin 8, (V (Proc.devRef .tc main_arg0) : S32x8.Idx → BitVec 32) (ix2 b k) = ids k.val) (k : Fin 8) :
    (after w3 V (Proc.devRef .tc main_v16) : S32x8.Idx → BitVec 32) (ix2 b k) = valL (F := Ideal) u d t ids k.val := by
  rw [w3_kept]
  show IntOp.addi (IntOp.muli ((V (Proc.devRef .tc main_arg0) : S32x8.Idx → BitVec 32) (ix2 b k)) (maskOf (V (Proc.devRef .tc main_arg3)) (V (Proc.devRef .tc main_v2)) (V (Proc.devRef .tc main_v6)) (ix2 b k)))
    (IntOp.muli 4294967295#32 (IntOp.subi 1#32 (maskOf (V (Proc.devRef .tc main_arg3)) (V (Proc.devRef .tc main_v2)) (V (Proc.devRef .tc main_v6)) (ix2 b k)))) = _
  rw [hi, maskOf_apply V b u d t hu hd ht k]
  exact keep_token _ _ (minTo_mask u d t k.val).2

end Mask

/-! ## The last position and the next token -/

section Next

open Cert.Proof.Task

theorem w7_count (V : Valuation τ sig (Elt Ideal)) : after w7 V (Proc.devRef .tc main_v44)
    = Host.reduce IntOp.addi (V (Proc.devRef .tc main_v10) : S32x8.Idx → BitVec 32) (constantI S_ 32 0#32) reducesTo_S32x8_S32_d1 h_S_ := by
  unfold w7
  after_reads_simp

theorem w7_row (V : Valuation τ sig (Elt Ideal)) : after w7 V (Proc.devRef .tc main_v46)
    = concatenate S32x9 1 [⟨S32x8, (V (Proc.devRef .tc main_v16) : S32x8.Idx → BitVec 32)⟩, ⟨S32x1, broadcastInDim S32x1 ![] bcast_S_S32x1 (constantI S_ 32 4294967295#32)⟩]
        concatenates_S32x8_S32x1_S32x9_d1 := by
  unfold w7
  after_reads_simp
  rfl

theorem w7_clip (V : Valuation τ sig (Elt Ideal)) : after w7 V (Proc.devRef .tc main_v49)
    = broadcastInDim S32x1 ![0] bcast_S32_S32x1_0 (minsi (Host.reduce IntOp.addi (V (Proc.devRef .tc main_v10) : S32x8.Idx → BitVec 32) (constantI S_ 32 0#32) reducesTo_S32x8_S32_d1 h_S_)
        (broadcastInDim S32 ![] bcast_S_S32 (constantI S_ 32 7#32))) := by
  unfold w7
  after_reads_simp

theorem row_apply (V : Valuation τ sig (Elt Ideal)) (b : Fin 32) (f : ℕ → BitVec 32)
    (hf : ∀ k : Fin 8, (V (Proc.devRef .tc main_v16) : S32x8.Idx → BitVec 32) (ix2 b k) = f k.val) (j : Fin 9) :
    (after w7 V (Proc.devRef .tc main_v46) : S32x9.Idx → BitVec 32) (ix2 b j) = if j.val < 8 then f j.val else 4294967295#32 := by
  rw [w7_row]
  by_cases h : j.val < 8
  · rw [if_pos h, ← hf ⟨j.val, h⟩]
    exact concatenate_pair_apply_left (t := S32x9) (s₁ := S32x8) (s₂ := S32x1) 1 _ _ _ (ix2 b j) rfl (ix2 b ⟨j.val, h⟩) (fun a => by
      match a with
      | ⟨0, _⟩ => rfl
      | ⟨1, _⟩ => rfl)
  · rw [if_neg h]
    refine (concatenate_pair_apply_right (t := S32x9) (s₁ := S32x8) (s₂ := S32x1) 1 _ _ _ (ix2 b j) rfl rfl (ix2 b 0) ?_ ?_).trans rfl
    · intro a ha
      match a with
      | ⟨0, _⟩ => rfl
      | ⟨1, _⟩ => exact absurd rfl ha
    · show 0 + 8 = j.val
      omega

theorem count_apply (V : Valuation τ sig (Elt Ideal)) (b : Fin 32) (f : ℕ → BitVec 32)
    (hf : ∀ k : Fin 8, (V (Proc.devRef .tc main_v10) : S32x8.Idx → BitVec 32) (ix2 b k) = f k.val) :
    (after w7 V (Proc.devRef .tc main_v44) : S32.Idx → BitVec 32) (ix1 b) = sumTo f 8 := by
  rw [w7_count]
  exact rowSum _ _ rfl f b hf

theorem clip_apply (V : Valuation τ sig (Elt Ideal)) (b : Fin 32) (f : ℕ → BitVec 32)
    (hf : ∀ k : Fin 8, (V (Proc.devRef .tc main_v10) : S32x8.Idx → BitVec 32) (ix2 b k) = f k.val) :
    (after w7 V (Proc.devRef .tc main_v49) : S32x1.Idx → BitVec 32) (ix2 b 0) = IntOp.minsi (sumTo f 8) 7#32 := by
  rw [w7_clip]
  refine (broadcastInDim_apply _ _ _ (ix2 b 0) (ix1 b) fun a => by
    match a with
    | ⟨0, _⟩ => rfl).trans ?_
  exact congrArg (fun w => IntOp.minsi w 7#32) (rowSum _ _ rfl f b hf)

/-- The clipped last position, a negative one counted from the end. -/
def wrapLast (i : IVec S32x1 32) : IVec S32x1x1 32 :=
  shapeCast S32x1x1 (select (cmpi .slt i (broadcastInDim S32x1 ![] bcast_S_S32x1 (constantI S_ 32 0#32)))
    (addi i (broadcastInDim S32x1 ![] bcast_S_S32x1 (constantI S_ 32 8#32))) i) shapeCasts_S32x1_S32x1x1

/-- The word of a row at that position. -/
def takeLast (x : IVec S32x8 32) (i : IVec S32x1 32) : IVec S32x1 32 :=
  select (Host.reduce IntOp.andi (andi (cmpi .sge (wrapLast i) (broadcastInDim S32x1x1 ![] bcast_S_S32x1x1 (constantI S_ 32 0#32)))
      (cmpi .sle (wrapLast i) (broadcastInDim S32x1x1 ![0, 1, 2] bcast_S1x1x1_S32x1x1_0_1_2 (broadcastInDim S1x1x1 ![2] bcast_S1_S1x1x1_2 (constantI S1 32 7#32)))))
      (constantI S_ 1 1#1) reducesTo_S32x1x1_S32x1_d2 h_S_)
    (Host.gather gather_S32x8_S32x1x1_S32x1_n_1_0_0_1_2_11 x (wrapLast i))
    (broadcastInDim S32x1 ![] bcast_S_S32x1 (constantI S_ 32 2147483648#32))

theorem w8_eq (V : Valuation τ sig (Elt Ideal)) :
    after w8 V (Proc.devRef .tc main_v50) = takeLast (V (Proc.devRef .tc main_v36)) (V (Proc.devRef .tc main_v49)) := by
  unfold w8
  after_reads_simp
  rfl

theorem takeLast_apply (x : IVec S32x8 32) (i : IVec S32x1 32) (b : Fin 32) (h : (i (ix2 b 0)).toNat < 8) :
    takeLast x i (ix2 b 0) = x (ix2 b ⟨(i (ix2 b 0)).toNat, h⟩) := by
  have hw : wrapLast i (ix3 b 0 0) = i (ix2 b 0) := by
    unfold wrapLast
    refine (shapeCast_apply _ _ (ix3 b 0 0) (ix2 b 0) ?_).trans ?_
    · rw [Shape.rowMajor_val_two]
      refine Eq.trans ?_ (Shape.rowMajor_val_three _).symm
      show b.val * 1 + 0 = (b.val * 1 + 0) * 1 + 0
      omega
    exact wrap_of_lt _ _ (by omega)
  have hn : (wrapLast i (ix3 b 0 0)).toInt.toNat = (i (ix2 b 0)).toNat := by rw [hw]; exact toNat_toInt _ (by omega)
  have hm : Host.reduce IntOp.andi (andi (cmpi .sge (wrapLast i) (broadcastInDim S32x1x1 ![] bcast_S_S32x1x1 (constantI S_ 32 0#32)))
      (cmpi .sle (wrapLast i) (broadcastInDim S32x1x1 ![0, 1, 2] bcast_S1x1x1_S32x1x1_0_1_2 (broadcastInDim S1x1x1 ![2] bcast_S1_S1x1x1_2 (constantI S1 32 7#32)))))
      (constantI S_ 1 1#1) reducesTo_S32x1x1_S32x1_d2 h_S_ (ix2 b 0) = 1#1 := by
    refine (all3 _ _ b).trans ?_
    show IntOp.andi (IntOp.andi (IntOp.cmpi .sge (wrapLast i (ix3 b 0 0)) 0#32) (IntOp.cmpi .sle (wrapLast i (ix3 b 0 0)) 7#32)) 1#1 = 1#1
    rw [hw, in_range _ _ (by show _ ≤ 7; omega) (by decide)]
    rfl
  unfold takeLast
  refine (congrArg (fun c => Scalar.select c _ _) hm).trans ?_
  refine (take2 x (wrapLast i) b (by rw [hn]; exact h)).trans ?_
  exact congrArg (fun n : Fin 8 => x (ix2 b n)) (Fin.ext hn)

theorem w9_eq (V : Valuation τ sig (Elt Ideal)) : after w9 V (Proc.devRef .tc main_v54)
    = select (cmpi .eq (V (Proc.devRef .tc main_v44) : S32.Idx → BitVec 32) (broadcastInDim S32 ![] bcast_S_S32 (constantI S_ 32 8#32)))
        (V (Proc.devRef .tc main_v43) : S32.Idx → BitVec 32) (shapeCast S32 (V (Proc.devRef .tc main_v50) : S32x1.Idx → BitVec 32) shapeCasts_S32x1_S32) := by
  unfold w9
  after_reads_simp
  rfl

theorem next_apply (V : Valuation τ sig (Elt Ideal)) (b : Fin 32) :
    (after w9 V (Proc.devRef .tc main_v54) : S32.Idx → BitVec 32) (ix1 b)
      = Scalar.select (IntOp.cmpi .eq ((V (Proc.devRef .tc main_v44) : S32.Idx → BitVec 32) (ix1 b)) 8#32)
        ((V (Proc.devRef .tc main_v43) : S32.Idx → BitVec 32) (ix1 b)) ((V (Proc.devRef .tc main_v50) : S32x1.Idx → BitVec 32) (ix2 b 0)) := by
  rw [w9_eq]
  refine congrArg (Scalar.select _ _) (shapeCast_apply _ _ (ix1 b) (ix2 b 0) ?_)
  rw [Shape.rowMajor_val_two]
  refine Eq.trans ?_ (Shape.rowMajor_val_one _).symm
  show b.val * 1 + 0 = b.val
  omega

/-- Where each row's following word goes. -/
def placeOf (na : IVec S32 32) : IVec S32x2 32 :=
  concatenate S32x2 1 [⟨S32x1, broadcastInDim S32x1 ![0] bcast_S32_S32x1_0 (select (cmpi .slt (iotaInDim S32 32 0) (broadcastInDim S32 ![] bcast_S_S32 (constantI S_ 32 0#32)))
      (addi (iotaInDim S32 32 0) (broadcastInDim S32 ![] bcast_S_S32 (constantI S_ 32 32#32))) (iotaInDim S32 32 0))⟩,
    ⟨S32x1, broadcastInDim S32x1 ![0] bcast_S32_S32x1_0 (select (cmpi .slt na (broadcastInDim S32 ![] bcast_S_S32 (constantI S_ 32 0#32)))
      (addi na (broadcastInDim S32 ![] bcast_S_S32 (constantI S_ 32 9#32))) na)⟩] concatenates_S32x1_S32x1_S32x2_d1

theorem w10_eq (V : Valuation τ sig (Elt Ideal)) : after w10 V (Proc.devRef .tc main_v69)
    = Host.scatter scatter_S32x9_S32x2_S32_n_01_01_1 (fun _ b => b) (V (Proc.devRef .tc main_v46) : S32x9.Idx → BitVec 32)
        (placeOf (V (Proc.devRef .tc main_v44))) (V (Proc.devRef .tc main_v54) : S32.Idx → BitVec 32) := by
  unfold w10
  after_reads_simp
  rfl

theorem col_apply (x : IVec S32 32) (b : Fin 32) : broadcastInDim S32x1 ![0] bcast_S32_S32x1_0 x (ix2 b 0) = x (ix1 b) :=
  broadcastInDim_apply _ _ _ (ix2 b 0) (ix1 b) fun a => by
    match a with
    | ⟨0, _⟩ => rfl

theorem placeOf_row (na : IVec S32 32) (b : Fin 32) : (placeOf na (ix2 b 0)).toInt = b.val := by
  have hb := b.isLt
  have h : placeOf na (ix2 b 0) = BitVec.ofNat 32 b.val := by
    unfold placeOf
    refine (concatenate_pair_apply_left (t := S32x2) (s₁ := S32x1) (s₂ := S32x1) 1 _ _ _ (ix2 b 0) rfl (ix2 b 0) (fun a => by
      match a with
      | ⟨0, _⟩ => rfl
      | ⟨1, _⟩ => rfl)).trans ?_
    refine (col_apply _ b).trans ?_
    show Scalar.select (IntOp.cmpi .slt (BitVec.ofNat 32 b.val) 0#32) _ (BitVec.ofNat 32 b.val) = _
    refine wrap_of_lt _ _ ?_
    rw [BitVec.toNat_ofNat, Nat.mod_eq_of_lt (by omega)]
    omega
  rw [h, ofNat_toInt (by omega)]

theorem placeOf_col (na : IVec S32 32) (b : Fin 32) (h : (na (ix1 b)).toNat < 9) : (placeOf na (ix2 b 1)).toInt = (na (ix1 b)).toNat := by
  have e : placeOf na (ix2 b 1) = na (ix1 b) := by
    unfold placeOf
    refine (concatenate_pair_apply_right (t := S32x2) (s₁ := S32x1) (s₂ := S32x1) 1 _ _ _ (ix2 b 1) rfl rfl (ix2 b 0) ?_ ?_).trans ?_
    · intro a ha
      match a with
      | ⟨0, _⟩ => rfl
      | ⟨1, _⟩ => exact absurd rfl ha
    · rfl
    refine (col_apply _ b).trans ?_
    exact wrap_of_lt _ _ (by omega)
  rw [e, BitVec.toInt_eq_toNat_of_lt (by omega)]

theorem out_apply (V : Valuation τ sig (Elt Ideal)) (b : Fin 32) (j : Fin 9) (na : BitVec 32) (hna : na.toNat < 9)
    (h : (V (Proc.devRef .tc main_v44) : S32.Idx → BitVec 32) (ix1 b) = na) :
    (after w10 V (Proc.devRef .tc main_v69) : S32x9.Idx → BitVec 32) (ix2 b j)
      = Scalar.select (IntOp.cmpi .eq na (BitVec.ofNat 32 j.val)) ((V (Proc.devRef .tc main_v54) : S32.Idx → BitVec 32) (ix1 b))
        ((V (Proc.devRef .tc main_v46) : S32x9.Idx → BitVec 32) (ix2 b j)) := by
  have hj := j.isLt
  rw [w10_eq]
  refine (scatter_row _ _ _ b j (placeOf_row _) na.toNat ?_).trans ?_
  · refine (placeOf_col _ b (by rw [h]; exact hna)).trans ?_
    rw [h]
  have e : (IntOp.cmpi .eq na (BitVec.ofNat 32 j.val) = 1#1) ↔ na.toNat = j.val := by
    show BitVec.ofBool (na == BitVec.ofNat 32 j.val) = 1#1 ↔ _
    have : (na = BitVec.ofNat 32 j.val) ↔ na.toNat = j.val := by
      rw [← BitVec.toNat_inj, BitVec.toNat_ofNat, Nat.mod_eq_of_lt (by omega)]
    rw [← this]
    by_cases hh : na = BitVec.ofNat 32 j.val
    · simp [hh]
    · simp [hh, beq_eq_false_iff_ne.2 hh]
  by_cases hh : na.toNat = j.val
  · rw [if_pos hh]; exact (if_pos (e.2 hh)).symm
  · rw [if_neg hh]; exact (if_neg fun q => hh (e.1 q)).symm

end Next

end Cert.Proof.Ref
-- ==== Proof.RefScore.lean ====
/-
  The reference's scores over the extended reals, and the first largest of each row.
-/
module

public import proofs.«01_k».proof.Proof.RefOps
public import proofs.«01_k».proof.Proof.KerVal
public import Idealize.ShloMosaic.Lib.IdealHost

@[expose] public section

set_option maxRecDepth 16384

noncomputable section

namespace Cert.Proof.Ref

open Cert.ReferenceIdeal Cert.ReferenceIdeal.Gen Cert.Proof.Pick
open Cert.Proof.Rings (eps floorP neg_inf)
open Idealize.ShloMosaic Idealize.ShloMosaic.TcCoe Idealize.ShloMosaic.Routing Idealize.ShloMosaic.StableHlo

/-- The reference's Gumbel variates. -/
def gum (u : FVec Ideal S32x9x100000 .f32) : FVec Ideal S32x9x100000 .f32 :=
  Host.negf (Host.log (addf (Host.negf (Host.log (addf u (broadcastInDim S32x9x100000 ![] bcast_S_S32x9x100000 (constant S_ .f32 0x2EDBE6FF#32)))))
    (broadcastInDim S32x9x100000 ![] bcast_S_S32x9x100000 (constant S_ .f32 0x2EDBE6FF#32))))

/-- The clamped differences. -/
def resid (t : FVec Ideal S32x9x100000 .f32) (d : FVec Ideal S32x8x100000 .f32) : FVec Ideal S32x8x100000 .f32 :=
  maximumf (subf (extractStridedSlice S32x8x100000 ![0, 0, 0] t slices_S32x9x100000_S32x8x100000_0_0_0) d)
    (broadcastInDim S32x8x100000 ![] bcast_S_S32x8x100000 (constant S_ .f32 0x3727C5AC#32))

/-- The scores of the recovered tokens. -/
def scoreOf (r : FVec Ideal S32x8x100000 .f32) (g : FVec Ideal S32x9x100000 .f32) : FVec Ideal S32x8x100000 .f32 :=
  addf (Host.log (Host.divf r (broadcastInDim S32x8x100000 ![0, 1, 2] bcast_S32x8x1_S32x8x100000_0_1_2 (broadcastInDim S32x8x1 ![0, 1] bcast_S32x8_S32x8x1_0_1
      (Host.reduceAdd r (constant S_ .f32 0x00000000#32) reducesTo_S32x8x100000_S32x8_d2 h_S_)))))
    (extractStridedSlice S32x8x100000 ![0, 0, 0] g slices_S32x9x100000_S32x8x100000_0_0_0)

/-- The scores of the bonus tokens. -/
def bonusOf (t g : FVec Ideal S32x9x100000 .f32) : FVec Ideal S32x100000 .f32 :=
  addf (Host.log (shapeCast S32x100000 (extractStridedSlice S32x1x100000 ![0, 8, 0] t slices_S32x9x100000_S32x1x100000_0_8_0) shapeCasts_S32x1x100000_S32x100000))
    (shapeCast S32x100000 (extractStridedSlice S32x1x100000 ![0, 8, 0] g slices_S32x9x100000_S32x1x100000_0_8_0) shapeCasts_S32x1x100000_S32x100000)

theorem w4_gum (V : Valuation τ sig (Elt Ideal)) : after w4 V (Proc.devRef .tc main_v32) = gum (V (Proc.devRef .tc main_arg4)) := by
  unfold w4
  after_reads_simp
  rfl

theorem w4_score (V : Valuation τ sig (Elt Ideal)) : after w4 V (Proc.devRef .tc main_v35)
    = scoreOf (resid (V (Proc.devRef .tc main_arg2)) (V (Proc.devRef .tc main_arg1))) (gum (V (Proc.devRef .tc main_arg4))) := by
  unfold w4
  after_reads_simp
  rfl

theorem w5_rec (V : Valuation τ sig (Elt Ideal)) : after w5 V (Proc.devRef .tc main_v36)
    = fun j => (Host.argReduce (F := Ideal) (φ := .f32) reducer_argmax_f32_i32 (V (Proc.devRef .tc main_v35)) (iotaInDim S32x8x100000 32 2) (constant S_ .f32 0xFF800000#32)
        (constantI S_ 32 0#32) reducesTo_S32x8x100000_S32x8_d2 h_S_ j).2 := by
  unfold w5
  after_reads_simp
  rfl

theorem w6_bonus (V : Valuation τ sig (Elt Ideal)) : after w6 V (Proc.devRef .tc main_v43)
    = fun j => (Host.argReduce (F := Ideal) (φ := .f32) reducer_argmax_f32_i32 (bonusOf (V (Proc.devRef .tc main_arg2)) (V (Proc.devRef .tc main_v32))) (iotaInDim S32x100000 32 1)
        (constant S_ .f32 0xFF800000#32) (constantI S_ 32 0#32) reducesTo_S32x100000_S32_d1 h_S_ j).2 := by
  unfold w6
  after_reads_simp
  rfl

theorem gum_apply (u : FVec Ideal S32x9x100000 .f32) (i : S32x9x100000.Idx) : gum u i = -Ideal.log (eps - Ideal.log (u i + eps)) := by
  show -Ideal.log (-Ideal.log (u i + eps) + eps) = _
  rw [add_comm, ← sub_eq_add_neg]

theorem cut_apply (x : FVec Ideal S32x9x100000 .f32) (b : Fin 32) (k : Fin 8) (n : Fin 100000) :
    extractStridedSlice S32x8x100000 ![0, 0, 0] x slices_S32x9x100000_S32x8x100000_0_0_0 (ix3 b k n) = x (ix3 b k.castSucc n) :=
  extractStridedSlice_apply _ _ _ _ _ fun a => by
    match a with
    | ⟨0, _⟩ => show b.val = 0 + b.val; omega
    | ⟨1, _⟩ => show k.val = 0 + k.val; omega
    | ⟨2, _⟩ => show n.val = 0 + n.val; omega

theorem last_apply (x : FVec Ideal S32x9x100000 .f32) (b : Fin 32) (n : Fin 100000) :
    shapeCast S32x100000 (extractStridedSlice S32x1x100000 ![0, 8, 0] x slices_S32x9x100000_S32x1x100000_0_8_0) shapeCasts_S32x1x100000_S32x100000 (ix2 b n) = x (ix3 b 8 n) := by
  refine (shapeCast_apply _ _ (ix2 b n) (ix3 b 0 n) ?_).trans ?_
  · rw [Shape.rowMajor_val_three]
    refine Eq.trans ?_ (Shape.rowMajor_val_two _).symm
    show (b.val * 1 + 0) * 100000 + n.val = b.val * 100000 + n.val
    omega
  · exact extractStridedSlice_apply _ _ _ _ _ fun a => by
      match a with
      | ⟨0, _⟩ => show b.val = 0 + b.val; omega
      | ⟨1, _⟩ => rfl
      | ⟨2, _⟩ => show n.val = 0 + n.val; omega

theorem resid_apply (t : FVec Ideal S32x9x100000 .f32) (d : FVec Ideal S32x8x100000 .f32) (b : Fin 32) (k : Fin 8) (n : Fin 100000) :
    resid t d (ix3 b k n) = max (t (ix3 b k.castSucc n) - d (ix3 b k n)) floorP := by
  show max (extractStridedSlice S32x8x100000 ![0, 0, 0] t slices_S32x9x100000_S32x8x100000_0_0_0 (ix3 b k n) - d (ix3 b k n)) floorP = _
  rw [cut_apply]

/-- The logarithm of a quotient plus a term, read at an index. -/
theorem logsum_apply {s : Shape} (r w g : FVec Ideal s .f32) (i : s.Idx) (w' g' : EReal) (hw : w i = w') (hg : g i = g') :
    addf (Host.log (Host.divf r w)) g i = Ideal.log (Ideal.div (r i) w') + g' := by
  subst hw hg
  rfl

theorem scoreOf_apply (r : FVec Ideal S32x8x100000 .f32) (g : FVec Ideal S32x9x100000 .f32) (b : Fin 32) (k : Fin 8) (n : Fin 100000) :
    scoreOf r g (ix3 b k n) = Ideal.log (Ideal.div (r (ix3 b k n)) (∑ q : Fin 100000, r (ix3 b k q))) + g (ix3 b k.castSucc n) := by
  have hs : Host.reduceAdd r (constant S_ .f32 0x00000000#32) reducesTo_S32x8x100000_S32x8_d2 h_S_ (ix2 b k) = ∑ q : Fin 100000, r (ix3 b k q) := by
    have hr : Shape.Reduces S32x8x100000 [2] S32x8 := by decide
    refine (Ideal.hostReduceAdd_single _ hr _ _ _).trans ?_
    refine (congrArg (· + _) Ideal.ofBits_zero_f32).trans ((zero_add _).trans ?_)
    refine Finset.sum_congr rfl fun q _ => congrArg r ?_
    funext a; refine Fin.ext ?_
    match a with
    | ⟨0, _⟩ => rfl
    | ⟨1, _⟩ => rfl
    | ⟨2, _⟩ => rfl
  have hb : broadcastInDim S32x8x100000 ![0, 1, 2] bcast_S32x8x1_S32x8x100000_0_1_2 (broadcastInDim S32x8x1 ![0, 1] bcast_S32x8_S32x8x1_0_1
      (Host.reduceAdd r (constant S_ .f32 0x00000000#32) reducesTo_S32x8x100000_S32x8_d2 h_S_)) (ix3 b k n) = ∑ q : Fin 100000, r (ix3 b k q) := by
    refine (broadcastInDim_apply _ _ _ (ix3 b k n) (ix3 b k 0) fun a => by
      match a with
      | ⟨0, _⟩ => rfl
      | ⟨1, _⟩ => rfl
      | ⟨2, _⟩ => rfl).trans ?_
    refine (broadcastInDim_apply _ _ _ (ix3 b k 0) (ix2 b k) fun a => by
      match a with
      | ⟨0, _⟩ => rfl
      | ⟨1, _⟩ => rfl).trans hs
  generalize ∑ q : Fin 100000, r (ix3 b k q) = s at hb
  unfold scoreOf
  exact logsum_apply _ _ _ _ _ _ hb (cut_apply g b k n)

theorem bonusOf_apply (t g : FVec Ideal S32x9x100000 .f32) (b : Fin 32) (n : Fin 100000) :
    bonusOf t g (ix2 b n) = Ideal.log (t (ix3 b 8 n)) + g (ix3 b 8 n) := by
  refine congrArg₂ (· + ·) (congrArg Ideal.log (last_apply t b n)) (last_apply g b n)

theorem rec_best (V : Valuation τ sig (Elt Ideal)) (b : Fin 32) (k : Fin 8) (f : ℕ → EReal)
    (hf : ∀ n : Fin 100000, (V (Proc.devRef .tc main_v35) : S32x8x100000.Idx → EReal) (ix3 b k n) = f n.val) :
    ∃ M, BestOn f 0 100000 M ((after w5 V (Proc.devRef .tc main_v36) : S32x8.Idx → BitVec 32) (ix2 b k)) := by
  rw [w5_rec]
  exact best3 _ _ _ _ (fun _ _ _ => rfl) neg_inf rfl b k f hf

theorem bonus_best (V : Valuation τ sig (Elt Ideal)) (b : Fin 32) (f : ℕ → EReal)
    (hf : ∀ n : Fin 100000, bonusOf (V (Proc.devRef .tc main_arg2)) (V (Proc.devRef .tc main_v32)) (ix2 b n) = f n.val) :
    ∃ M, BestOn f 0 100000 M ((after w6 V (Proc.devRef .tc main_v43) : S32.Idx → BitVec 32) (ix1 b)) := by
  rw [w6_bonus]
  exact best2 _ _ _ _ (fun _ _ => rfl) neg_inf rfl b f hf

end Cert.Proof.Ref
-- ==== Proof.Match.lean ====
/-
  The kernel's result is the reference's: the two scores of a row order its words alike, so the two choose the same words.
-/
module

public import proofs.«01_k».proof.Proof.RefVal
public import proofs.«01_k».proof.Proof.RefScore

@[expose] public section

set_option maxRecDepth 16384

noncomputable section

namespace Cert.Proof.Ref

open Cert.ReferenceIdeal Cert.ReferenceIdeal.Gen Cert.Proof.Pick
open Cert.Proof.Rings (eps floorP quot)
open Cert.Proof.KerVal (at3 k8 k9 recS bonS)
open Cert.Proof.Task (maskL naL valL recL nextL putL outL)
open Idealize.ShloMosaic Idealize.ShloMosaic.TcCoe Idealize.ShloMosaic.Routing Idealize.ShloMosaic.StableHlo

/-! ## The order of the scores -/

theorem eps_real : ∃ ε : ℝ, 0 < ε ∧ eps = (ε : EReal) := by
  refine ⟨_, ?_, (by simp [eps, Ideal.ofBits, Ideal.ieee]; rfl)⟩
  norm_num

theorem floor_real : ∃ φ : ℝ, 0 < φ ∧ floorP = (φ : EReal) := by
  refine ⟨_, ?_, (by simp [floorP, Ideal.ofBits, Ideal.ieee]; rfl)⟩
  norm_num

theorem score_of {p : ℝ} (hp : 0 ≤ p) {u : EReal} (hu : u ≤ 1) : ∃ q : ℝ, 0 ≤ q ∧ quot (p : EReal) u = (q : EReal)
    ∧ ∀ c : ℝ, 0 < c → Ideal.log ((p * c : ℝ) : EReal) + -Ideal.log (eps - Ideal.log (u + eps)) = Ideal.log ((q * c : ℝ) : EReal) := by
  obtain ⟨ε, h0, h1⟩ := eps_real
  exact div_real hp (weight_pos h1 h0 hu)

/-- Dividing by the noise's word orders the positions as adding its logarithm does, at any common scale. -/
theorem score_iff {p p' c : ℝ} (hp : 0 ≤ p) (hp' : 0 ≤ p') (hc : 0 < c) {u u' : EReal} (hu : u ≤ 1) (hu' : u' ≤ 1) :
    Ideal.log ((p * c : ℝ) : EReal) + -Ideal.log (eps - Ideal.log (u + eps)) < Ideal.log ((p' * c : ℝ) : EReal) + -Ideal.log (eps - Ideal.log (u' + eps))
      ↔ quot (p : EReal) u < quot (p' : EReal) u' := by
  obtain ⟨q, h0, h1, h2⟩ := score_of hp hu
  obtain ⟨q', h0', h1', h2'⟩ := score_of hp' hu'
  rw [h1, h1', h2 c hc, h2' c hc]
  exact log_lt_log h0 h0' hc

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_coe (p s : ℝ) (hs : 0 < s) : Ideal.div (p : EReal) (s : EReal) = ((p * s⁻¹ : ℝ) : EReal) := by
  unfold Ideal.div
  rw [if_neg (by exact_mod_cast hs.ne'), ← EReal.coe_inv, ← EReal.coe_mul]

/-- The score the reference gives word `x` for the recovered token of candidate `k`. -/
def recR (tp us : S32x9x100000.Idx → EReal) (dp : S32x8x100000.Idx → EReal) (b : Fin 32) (k x : ℕ) : EReal :=
  Ideal.log (Ideal.div (max (at3 tp b (k9 k) x - at3 dp b (k8 k) x) floorP) (∑ q : Fin 100000, max (at3 tp b (k9 k) q.val - at3 dp b (k8 k) q.val) floorP))
    + -Ideal.log (eps - Ideal.log (at3 us b (k9 k) x + eps))

/-- The score the reference gives word `x` for the bonus token. -/
def bonR (tp us : S32x9x100000.Idx → EReal) (b : Fin 32) (x : ℕ) : EReal :=
  Ideal.log (at3 tp b 8 x) + -Ideal.log (eps - Ideal.log (at3 us b 8 x + eps))

theorem at3_of {n k : ℕ} (X : (⟨3, ![n, k, 100000]⟩ : Shape).Idx → EReal) (b : Fin n) (p : Fin k) {x : ℕ} (h : x < 100000) : at3 X b p x = X (ix3 b p ⟨x, h⟩) := dif_pos h

theorem at3_real {n k : ℕ} (X : (⟨3, ![n, k, 100000]⟩ : Shape).Idx → EReal) (hX : ∀ i, ∃ r : ℝ, X i = (r : EReal)) (b : Fin n) (p : Fin k) (x : ℕ) :
    ∃ r : ℝ, at3 X b p x = (r : EReal) := by
  unfold at3
  split
  · exact hX _
  · exact ⟨0, rfl⟩

theorem at3_le {n k : ℕ} (X : (⟨3, ![n, k, 100000]⟩ : Shape).Idx → EReal) (hX : ∀ i, X i ≤ 1) (b : Fin n) (p : Fin k) (x : ℕ) : at3 X b p x ≤ 1 := by
  unfold at3
  split
  · exact hX _
  · exact zero_le_one

section Choice

variable (tp us : S32x9x100000.Idx → EReal) (dp : S32x8x100000.Idx → EReal) (ht : ∀ i, ∃ r : ℝ, tp i = (r : EReal)) (hd : ∀ i, ∃ r : ℝ, dp i = (r : EReal))
  (hu : ∀ i, us i ≤ 1) (b : Fin 32)

include ht hd hu in
theorem rec_order (k x y : ℕ) : recR tp us dp b k x < recR tp us dp b k y ↔ recS tp us dp b k x < recS tp us dp b k y := by
  obtain ⟨φ, hφ, eφ⟩ := floor_real
  have hP : ∀ z, ∃ r : ℝ, 0 < r ∧ max (at3 tp b (k9 k) z - at3 dp b (k8 k) z) floorP = (r : EReal) := fun z => by
    obtain ⟨r, hr⟩ := at3_real tp ht b (k9 k) z
    obtain ⟨r', hr'⟩ := at3_real dp hd b (k8 k) z
    refine ⟨max (r - r') φ, lt_max_of_lt_right hφ, ?_⟩
    rw [hr, hr', eφ, ← EReal.coe_sub]
    exact (EReal.coe_strictMono.monotone.map_max).symm
  choose p hp0 hp using hP
  unfold recR recS
  simp only [hp]
  rw [sum_coe]
  have hs : 0 < ∑ q : Fin 100000, p q.val := Finset.sum_pos (fun q _ => hp0 q.val) ⟨⟨0, by omega⟩, Finset.mem_univ _⟩
  generalize ∑ q : Fin 100000, p q.val = s at hs
  rw [div_coe _ _ hs, div_coe _ _ hs]
  exact score_iff (hp0 x).le (hp0 y).le (inv_pos.2 hs) (at3_le us hu b _ x) (at3_le us hu b _ y)

include ht hu in
theorem bon_order (hb : ∀ n : Fin 100000, 0 ≤ tp (ix3 b 8 n)) (x y : ℕ) (hx : x < 100000) (hy : y < 100000) :
    bonR tp us b x < bonR tp us b y ↔ bonS tp us b x < bonS tp us b y := by
  have hP : ∀ z, z < 100000 → ∃ r : ℝ, 0 ≤ r ∧ at3 tp b 8 z = (r : EReal) := fun z hz => by
    obtain ⟨r, hr⟩ := ht (ix3 b 8 ⟨z, hz⟩)
    have h := hb ⟨z, hz⟩
    rw [hr] at h
    exact ⟨r, by exact_mod_cast h, (at3_of tp b 8 hz).trans hr⟩
  obtain ⟨p, hp, ep⟩ := hP x hx
  obtain ⟨q, hq, eq⟩ := hP y hy
  unfold bonR bonS
  rw [ep, eq]
  have h := score_iff hp hq one_pos (at3_le us hu b 8 x) (at3_le us hu b 8 y)
  rwa [mul_one, mul_one] at h

end Choice

/-! ## The reference's result -/

theorem k8_val (k : Fin 8) : k8 k.val = k := Fin.ext (Nat.mod_eq_of_lt k.isLt)
theorem k9_val (k : Fin 8) : k9 k.val = k.castSucc := Fin.ext (Nat.mod_eq_of_lt k.isLt)

section Chain

variable (V V1 V2 V3 V4 V5 V6 V7 V8 V9 : Valuation τ sig (Elt Ideal))
  (h1 : after w1 V = V1) (h2 : after w2 V1 = V2) (h3 : after w3 V2 = V3) (h4 : after w4 V3 = V4) (h5 : after w5 V4 = V5)
  (h6 : after w6 V5 = V6) (h7 : after w7 V6 = V7) (h8 : after w8 V7 = V8) (h9 : after w9 V8 = V9)

include h1 h2 in
theorem args2 (r : Ref sig .tc) (hr1 : r ∉ W1) (hr2 : r ∉ W2) : V2 (Proc.devRef .tc r) = V (Proc.devRef .tc r) := by
  rw [← h2, after_unwritten W2 writes2 hr2, ← h1, after_unwritten W1 writes1 hr1]

include h1 h2 in
theorem read_draft (b : Fin 32) (k : Fin 8) (hi : ((V (Proc.devRef .tc main_arg0) : S32x8.Idx → BitVec 32) (ix2 b k)).toNat < 100000) :
    (V2 (Proc.devRef .tc main_v2) : S32x8.Idx → EReal) (ix2 b k)
      = at3 (V (Proc.devRef .tc main_arg1)) b k ((V (Proc.devRef .tc main_arg0) : S32x8.Idx → BitVec 32) (ix2 b k)).toNat := by
  have e : V2 (Proc.devRef .tc main_v2) = takeIds (F := Ideal) (V (Proc.devRef .tc main_arg1)) (V (Proc.devRef .tc main_arg0)) := by
    rw [← h2, after_unwritten W2 writes2 (by decide +kernel), ← h1, w1_eq]
  rw [e, at3_of _ _ _ hi]
  exact takeIds_apply _ _ b k hi

include h1 h2 in
theorem read_target (b : Fin 32) (k : Fin 8) (hi : ((V (Proc.devRef .tc main_arg0) : S32x8.Idx → BitVec 32) (ix2 b k)).toNat < 100000) :
    (V2 (Proc.devRef .tc main_v6) : S32x8.Idx → EReal) (ix2 b k)
      = at3 (V (Proc.devRef .tc main_arg2)) b k.castSucc ((V (Proc.devRef .tc main_arg0) : S32x8.Idx → BitVec 32) (ix2 b k)).toNat := by
  have e : V2 (Proc.devRef .tc main_v6) = takeIds (F := Ideal) (extractStridedSlice S32x8x100000 ![0, 0, 0] (V (Proc.devRef .tc main_arg2)) slices_S32x9x100000_S32x8x100000_0_0_0)
      (V (Proc.devRef .tc main_arg0)) := by
    rw [← h2, w2_eq, ← h1, after_unwritten W1 writes1 (r := main_arg2) (by decide +kernel), after_unwritten W1 writes1 (r := main_arg0) (by decide +kernel)]
  rw [e, at3_of _ _ _ hi]
  exact (takeIds_apply _ _ b k hi).trans (cut_apply _ b k _)

include h1 h2 h3 in
theorem args3 (r : Ref sig .tc) (hr1 : r ∉ W1) (hr2 : r ∉ W2) (hr3 : r ∉ W3) : V3 (Proc.devRef .tc r) = V (Proc.devRef .tc r) := by
  rw [← h3, after_unwritten W3 writes3 hr3, args2 V V1 V2 h1 h2 r hr1 hr2]

include h1 h2 h3 h4 h5 in
theorem read_rec (b : Fin 32) (k : Fin 8) :
    ∃ M, BestOn (recR (V (Proc.devRef .tc main_arg2)) (V (Proc.devRef .tc main_arg4)) (V (Proc.devRef .tc main_arg1)) b k.val) 0 100000 M
      ((V5 (Proc.devRef .tc main_v36) : S32x8.Idx → BitVec 32) (ix2 b k)) := by
  have e : V4 (Proc.devRef .tc main_v35) = scoreOf (resid (V (Proc.devRef .tc main_arg2)) (V (Proc.devRef .tc main_arg1))) (gum (V (Proc.devRef .tc main_arg4))) := by
    rw [← h4, w4_score, args3 V V1 V2 V3 h1 h2 h3 main_arg2 (by decide +kernel) (by decide +kernel) (by decide +kernel),
      args3 V V1 V2 V3 h1 h2 h3 main_arg1 (by decide +kernel) (by decide +kernel) (by decide +kernel),
      args3 V V1 V2 V3 h1 h2 h3 main_arg4 (by decide +kernel) (by decide +kernel) (by decide +kernel)]
  rw [← h5]
  refine rec_best V4 b k _ fun n => ?_
  rw [e]
  refine (scoreOf_apply _ _ b k n).trans ?_
  unfold recR
  rw [k8_val, k9_val]
  have hr : ∀ q : Fin 100000, resid (V (Proc.devRef .tc main_arg2)) (V (Proc.devRef .tc main_arg1)) (ix3 b k q)
      = max (at3 (V (Proc.devRef .tc main_arg2)) b k.castSucc q.val - at3 (V (Proc.devRef .tc main_arg1)) b k q.val) floorP := fun q => by
    rw [resid_apply, at3_of _ _ _ q.isLt, at3_of _ _ _ q.isLt]
  rw [Finset.sum_congr rfl fun q _ => hr q, hr n, gum_apply, at3_of (V (Proc.devRef .tc main_arg4)) _ _ n.isLt]

include h1 h2 h3 h4 h5 h6 in
theorem read_bon (b : Fin 32) :
    ∃ M, BestOn (bonR (V (Proc.devRef .tc main_arg2)) (V (Proc.devRef .tc main_arg4)) b) 0 100000 M ((V6 (Proc.devRef .tc main_v43) : S32.Idx → BitVec 32) (ix1 b)) := by
  have e1 : V5 (Proc.devRef .tc main_v32) = gum (V (Proc.devRef .tc main_arg4)) := by
    rw [← h5, after_unwritten W5 writes5 (by decide +kernel), ← h4, w4_gum,
      args3 V V1 V2 V3 h1 h2 h3 main_arg4 (by decide +kernel) (by decide +kernel) (by decide +kernel)]
  have e2 : V5 (Proc.devRef .tc main_arg2) = V (Proc.devRef .tc main_arg2) := by
    rw [← h5, after_unwritten W5 writes5 (by decide +kernel), ← h4, after_unwritten W4 writes4 (by decide +kernel),
      args3 V V1 V2 V3 h1 h2 h3 main_arg2 (by decide +kernel) (by decide +kernel) (by decide +kernel)]
  rw [← h6]
  refine bonus_best V5 b _ fun n => ?_
  rw [e1, e2, bonusOf_apply, gum_apply]
  unfold bonR
  rw [at3_of _ _ _ n.isLt, at3_of _ _ _ n.isLt]

include h1 h2 h3 h4 h5 h6 h7 h8 h9 in
/-- Row `b` of the result, from the words the reference chose. -/
theorem result_row (b : Fin 32) (us ds ts : ℕ → EReal) (ids : ℕ → BitVec 32) (rec : ℕ → BitVec 32) (bon : BitVec 32)
    (hu : ∀ k : Fin 8, (V2 (Proc.devRef .tc main_arg3) : S32x8.Idx → EReal) (ix2 b k) = us k.val)
    (hd : ∀ k : Fin 8, (V2 (Proc.devRef .tc main_v2) : S32x8.Idx → EReal) (ix2 b k) = ds k.val)
    (ht : ∀ k : Fin 8, (V2 (Proc.devRef .tc main_v6) : S32x8.Idx → EReal) (ix2 b k) = ts k.val)
    (hi : ∀ k : Fin 8, (V2 (Proc.devRef .tc main_arg0) : S32x8.Idx → BitVec 32) (ix2 b k) = ids k.val)
    (hr : ∀ k : Fin 8, (V5 (Proc.devRef .tc main_v36) : S32x8.Idx → BitVec 32) (ix2 b k) = rec k.val)
    (hb : (V6 (Proc.devRef .tc main_v43) : S32.Idx → BitVec 32) (ix1 b) = bon) (j : Fin 9) :
    (after w10 V9 (Proc.devRef .tc main_v69) : S32x9.Idx → BitVec 32) (ix2 b j) = outL (F := Ideal) us ds ts ids rec bon j.val := by
  have m6 : ∀ k : Fin 8, (V6 (Proc.devRef .tc main_v10) : S32x8.Idx → BitVec 32) (ix2 b k) = maskL (F := Ideal) us ds ts (k.val + 1) := fun k => by
    rw [← h6, after_unwritten W6 writes6 (by decide +kernel), ← h5, after_unwritten W5 writes5 (by decide +kernel), ← h4, after_unwritten W4 writes4 (by decide +kernel), ← h3, w3_mask]
    exact maskOf_apply V2 b us ds ts hu hd ht k
  have k6 : ∀ k : Fin 8, (V6 (Proc.devRef .tc main_v16) : S32x8.Idx → BitVec 32) (ix2 b k) = valL (F := Ideal) us ds ts ids k.val := fun k => by
    rw [← h6, after_unwritten W6 writes6 (by decide +kernel), ← h5, after_unwritten W5 writes5 (by decide +kernel), ← h4, after_unwritten W4 writes4 (by decide +kernel), ← h3]
    exact kept_apply V2 b us ds ts hu hd ht ids hi k
  have hle := naL_le us ds ts 8 le_rfl
  have hsum := naL_sum us ds ts 8
  have c7 : (V7 (Proc.devRef .tc main_v44) : S32.Idx → BitVec 32) (ix1 b) = naL (F := Ideal) us ds ts 8 := by
    rw [← h7, hsum]
    exact count_apply V6 b _ m6
  have p7 : (V7 (Proc.devRef .tc main_v49) : S32x1.Idx → BitVec 32) (ix2 b 0) = IntOp.minsi (naL (F := Ideal) us ds ts 8) 7#32 := by
    rw [← h7, hsum]
    exact clip_apply V6 b _ m6
  have r7 : (V7 (Proc.devRef .tc main_v46) : S32x9.Idx → BitVec 32) (ix2 b j) = if j.val < 8 then valL (F := Ideal) us ds ts ids j.val else 4294967295#32 := by
    rw [← h7]
    exact row_apply V6 b _ k6 j
  have a7 : ∀ k : Fin 8, (V7 (Proc.devRef .tc main_v36) : S32x8.Idx → BitVec 32) (ix2 b k) = rec k.val := fun k => by
    rw [← h7, after_unwritten W7 writes7 (by decide +kernel), ← h6, after_unwritten W6 writes6 (by decide +kernel)]
    exact hr k
  have hcl : (IntOp.minsi (naL (F := Ideal) us ds ts 8) 7#32).toNat < 8 := by
    generalize naL (F := Ideal) us ds ts 8 = na at hle
    obtain ⟨n, hn, rfl⟩ : ∃ n, n < 9 ∧ na = BitVec.ofNat 32 n := ⟨na.toNat, by omega, by simp⟩
    interval_cases n <;> decide
  have l8 : (V8 (Proc.devRef .tc main_v50) : S32x1.Idx → BitVec 32) (ix2 b 0) = recL rec (naL (F := Ideal) us ds ts 8) 8 := by
    rw [recL_eq rec _ hcl, ← h8, w8_eq]
    refine (takeLast_apply _ _ b (lt_of_eq_of_lt (congrArg BitVec.toNat p7) hcl)).trans ((a7 _).trans ?_)
    exact congrArg (fun w : BitVec 32 => rec w.toNat) p7
  have c8 : (V8 (Proc.devRef .tc main_v44) : S32.Idx → BitVec 32) (ix1 b) = naL (F := Ideal) us ds ts 8 := by
    rw [← h8, after_unwritten W8 writes8 (by decide +kernel)]
    exact c7
  have b8 : (V8 (Proc.devRef .tc main_v43) : S32.Idx → BitVec 32) (ix1 b) = bon := by
    rw [← h8, after_unwritten W8 writes8 (by decide +kernel), ← h7, after_unwritten W7 writes7 (by decide +kernel)]
    exact hb
  have n9 : (V9 (Proc.devRef .tc main_v54) : S32.Idx → BitVec 32) (ix1 b) = nextL (F := Ideal) us ds ts rec bon := by
    rw [← h9]
    refine (next_apply V8 b).trans ?_
    rw [c8, b8, l8]
    rfl
  have c9 : (V9 (Proc.devRef .tc main_v44) : S32.Idx → BitVec 32) (ix1 b) = naL (F := Ideal) us ds ts 8 := by
    rw [← h9, after_unwritten W9 writes9 (by decide +kernel)]
    exact c8
  have r9 : (V9 (Proc.devRef .tc main_v46) : S32x9.Idx → BitVec 32) (ix2 b j) = if j.val < 8 then valL (F := Ideal) us ds ts ids j.val else 4294967295#32 := by
    rw [← h9, after_unwritten W9 writes9 (by decide +kernel), ← h8, after_unwritten W8 writes8 (by decide +kernel)]
    exact r7
  refine (out_apply V9 b j (naL (F := Ideal) us ds ts 8) (by omega) c9).trans ?_
  rw [n9, r9]
  rfl

end Chain

/-- The reference's result, from any words that are first largest in the kernel's quotients. -/
theorem reference_value (V : Valuation τ sig (Elt Ideal)) (A0 : S32x8.Idx → BitVec 32) (A1 : S32x8x100000.Idx → EReal) (A2 : S32x9x100000.Idx → EReal) (A3 : S32x8.Idx → EReal)
    (A4 : S32x9x100000.Idx → EReal) (e0 : V (Proc.devRef .tc main_arg0) = A0) (e1 : V (Proc.devRef .tc main_arg1) = A1) (e2 : V (Proc.devRef .tc main_arg2) = A2)
    (e3 : V (Proc.devRef .tc main_arg3) = A3) (e4 : V (Proc.devRef .tc main_arg4) = A4)
    (hid : ∀ b k, (A0 (ix2 b k)).toNat < 100000) (ht : ∀ i, ∃ r : ℝ, A2 i = (r : EReal)) (hd : ∀ i, ∃ r : ℝ, A1 i = (r : EReal))
    (hpos : ∀ b n, 0 ≤ A2 (ix3 b 8 n)) (hu : ∀ i, A4 i ≤ 1) (b : Fin 32) (rec : ℕ → BitVec 32) (bon : BitVec 32)
    (hrec : ∀ k, ∃ M, BestOn (recS A2 A4 A1 b k) 0 100000 M (rec k)) (hbon : ∃ M, BestOn (bonS A2 A4 b) 0 100000 M bon) (j : Fin 9) :
    (after ops V (Proc.devRef .tc main_v69) : S32x9.Idx → BitVec 32) (ix2 b j)
      = outL (F := Ideal) (fun k => A3 (ix2 b (k8 k))) (fun k => at3 A1 b (k8 k) (A0 (ix2 b (k8 k))).toNat) (fun k => at3 A2 b (k9 k) (A0 (ix2 b (k8 k))).toNat)
          (fun k => A0 (ix2 b (k8 k))) rec bon j.val := by
  subst e0 e1 e2 e3 e4
  rw [after_ops]
  obtain ⟨V1, h1⟩ : ∃ X, after w1 V = X := ⟨_, rfl⟩
  obtain ⟨V2, h2⟩ : ∃ X, after w2 V1 = X := ⟨_, rfl⟩
  obtain ⟨V3, h3⟩ : ∃ X, after w3 V2 = X := ⟨_, rfl⟩
  obtain ⟨V4, h4⟩ : ∃ X, after w4 V3 = X := ⟨_, rfl⟩
  obtain ⟨V5, h5⟩ : ∃ X, after w5 V4 = X := ⟨_, rfl⟩
  obtain ⟨V6, h6⟩ : ∃ X, after w6 V5 = X := ⟨_, rfl⟩
  obtain ⟨V7, h7⟩ : ∃ X, after w7 V6 = X := ⟨_, rfl⟩
  obtain ⟨V8, h8⟩ : ∃ X, after w8 V7 = X := ⟨_, rfl⟩
  obtain ⟨V9, h9⟩ : ∃ X, after w9 V8 = X := ⟨_, rfl⟩
  rw [h1, h2, h3, h4, h5, h6, h7, h8, h9]
  refine result_row V V1 V2 V3 V4 V5 V6 V7 V8 V9 h1 h2 h3 h4 h5 h6 h7 h8 h9 b _ _ _ _ rec bon ?_ ?_ ?_ ?_ ?_ ?_ j
  · intro k
    rw [args2 V V1 V2 h1 h2 main_arg3 (by decide +kernel) (by decide +kernel), k8_val]
  · intro k
    rw [k8_val]
    exact read_draft V V1 V2 h1 h2 b k (hid b k)
  · intro k
    rw [k8_val, k9_val]
    exact read_target V V1 V2 h1 h2 b k (hid b k)
  · intro k
    rw [args2 V V1 V2 h1 h2 main_arg0 (by decide +kernel) (by decide +kernel), k8_val]
  · intro k
    obtain ⟨M, hM⟩ := read_rec V V1 V2 V3 V4 V5 h1 h2 h3 h4 h5 b k
    obtain ⟨M', hM'⟩ := hrec k.val
    exact hM.unique hM' fun x y _ _ _ _ => rec_order _ _ _ ht hd hu b k.val x y
  · obtain ⟨M, hM⟩ := read_bon V V1 V2 V3 V4 V5 V6 h1 h2 h3 h4 h5 h6 b
    obtain ⟨M', hM'⟩ := hbon
    exact hM.unique hM' fun x y _ hx _ hy => bon_order _ _ ht hu b (hpos b) x y hx hy

end Cert.Proof.Ref
-- ==== Proof.Domain.lean ====
/-
  What the precondition says of the arguments' elements.
-/
module

public import proofs.«01_k».proof.Defs
public import proofs.«01_k».proof.Proof.Match
public import Idealize.ShloMosaic.Lib.ReduceAll
public import Idealize.ShloMosaic.Lib.IdealHost

@[expose] public section

set_option maxRecDepth 16384

noncomputable section

namespace Cert.Proof.Domain

open Cert.Pre_in_domain Idealize.ShloMosaic

/-- The shape relations the precondition takes. -/
theorem facts : Facts where
  bcast_S_S32x8 := by decide
  reducesTo_S32x8_S_d0_1 := by decide
  h_S_ := by decide
  bcast_S_S32x8x100000 := by decide
  reducesTo_S32x8x100000_S_d0_1_2 := by decide
  bcast_S_S32x9x100000 := by decide
  reducesTo_S32x9x100000_S_d0_1_2 := by decide
  slices_S32x9x100000_S32x1x100000_0_8_0 := by decide
  shapeCasts_S32x1x100000_S32x100000 := by decide
  bcast_S_S32x100000 := by decide
  reducesTo_S32x100000_S_d0_1 := by decide

theorem one_index (i j : S_.Idx) : i = j := funext fun a => a.elim0

theorem of_ofBool {p : Prop} [Decidable p] (h : BitVec.ofBool (decide p) = 1#1) : p := by
  by_contra hp
  rw [decide_eq_false hp] at h
  exact absurd h (by decide)

theorem lt_of {s : Shape} (x y : FVec Ideal s .f32) (i : s.Idx) (h : cmpf .olt x y i = 1#1) : x i < y i := of_ofBool h
theorem le_of {s : Shape} (x y : FVec Ideal s .f32) (i : s.Idx) (h : cmpf .ole x y i = 1#1) : x i ≤ y i := of_ofBool h
theorem ge_of {s : Shape} (x y : FVec Ideal s .f32) (i : s.Idx) (h : cmpf .oge x y i = 1#1) : y i ≤ x i := of_ofBool h

/-- A bound that is one constant everywhere. -/
theorem bound_apply {T : Shape} (h : S_.BroadcastsInDim T (![] : Fin 0 → Fin T.rank)) (w : BitVec 32) (i : T.Idx) :
    broadcastInDim T ![] h (constant (F := Ideal) S_ .f32 w) i = Ideal.ofBits .f32 w := rfl

theorem inf_bits : Ideal.ofBits .f32 0x7F800000#32 = ⊤ := by
  simp [Ideal.ofBits, Ideal.ieee]

/-- A finite element is a real number. -/
theorem real_of {x : EReal} (h : max x (-x) < ⊤) : ∃ r : ℝ, x = (r : EReal) := by
  induction x with
  | bot => exact absurd h (by simp)
  | top => exact absurd h (by simp)
  | coe r => exact ⟨r, rfl⟩

variable [Facts] (A0 : IVec S32x8 32) (A1 : FVec Ideal S32x8x100000 .f32) (A2 : FVec Ideal S32x9x100000 .f32) (A3 : FVec Ideal S32x8 .f32) (A4 : FVec Ideal S32x9x100000 .f32)

theorem ids_lt (h : (fn A0 A1 A2 A3 A4).1 = fun _ => 1#1) (i : S32x8.Idx) : (A0 i).toNat < 100000 := by
  haveI : Subsingleton S_.Idx := ⟨one_index⟩
  unfold fn fn_part1 at h
  dsimp only at h
  have e := Host.reduce_andi_all _ _ _ _ _ (congrFun h (Shape.Idx.first Facts.h_S_)) i
  obtain ⟨ha, hb⟩ := IntOp.andi_eq_one.1 e
  have ha : (0#32).toInt ≤ (A0 i).toInt := IntOp.cmpi_sge.1 ha
  have hb : (A0 i).toInt < (100000#32).toInt := IntOp.cmpi_slt.1 hb
  generalize A0 i = w at ha hb
  rw [show (0#32).toInt = 0 by decide] at ha
  rw [show (100000#32).toInt = 100000 by decide] at hb
  have := BitVec.toInt_eq_toNat_cond w
  split at this <;> omega

theorem draft_real (h : (fn A0 A1 A2 A3 A4).2.1 = fun _ => 1#1) (i : S32x8x100000.Idx) : ∃ r : ℝ, A1 i = (r : EReal) := by
  haveI : Subsingleton S_.Idx := ⟨one_index⟩
  unfold fn fn_part1 at h
  dsimp only at h
  have e := Host.reduce_andi_all _ _ _ _ _ (congrFun h (Shape.Idx.first Facts.h_S_)) i
  have e := lt_of_lt_of_eq (lt_of _ _ _ e) ((bound_apply _ _ _).trans inf_bits)
  exact real_of e

theorem target_real (h : (fn A0 A1 A2 A3 A4).2.2.1 = fun _ => 1#1) (i : S32x9x100000.Idx) : ∃ r : ℝ, A2 i = (r : EReal) := by
  haveI : Subsingleton S_.Idx := ⟨one_index⟩
  unfold fn fn_part1 at h
  dsimp only at h
  have e := Host.reduce_andi_all _ _ _ _ _ (congrFun h (Shape.Idx.first Facts.h_S_)) i
  have e := lt_of_lt_of_eq (lt_of _ _ _ e) ((bound_apply _ _ _).trans inf_bits)
  exact real_of e

theorem bonus_nonneg (h : (fn A0 A1 A2 A3 A4).2.2.2.1 = fun _ => 1#1) (b : Fin 32) (n : Fin 100000) : 0 ≤ A2 (ValueIdx.ix3 b 8 n) := by
  haveI : Subsingleton S_.Idx := ⟨one_index⟩
  unfold fn fn_part1 at h
  dsimp only at h
  have e := Host.reduce_andi_all _ _ _ _ _ (congrFun h (Shape.Idx.first Facts.h_S_)) (ValueIdx.ix2 b n)
  have e := ge_of _ _ _ e
  exact le_of_eq_of_le ((bound_apply _ _ _).trans Ideal.ofBits_zero_f32).symm (le_of_le_of_eq e (Ref.last_apply A2 b n))

theorem noise_le (h : (fn A0 A1 A2 A3 A4).2.2.2.2 = fun _ => 1#1) (i : S32x9x100000.Idx) : A4 i ≤ 1 := by
  haveI : Subsingleton S_.Idx := ⟨one_index⟩
  unfold fn fn_part1 at h
  dsimp only at h
  have e := Host.reduce_andi_all _ _ _ _ _ (congrFun h (Shape.Idx.first Facts.h_S_)) i
  exact le_of_le_of_eq (le_of _ _ _ e) ((bound_apply _ _ _).trans Ideal.ofBits_one_f32)

end Cert.Proof.Domain
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.RefRun
public import proofs.«01_k».proof.Proof.Run
public import proofs.«01_k».proof.Proof.Same
public import proofs.«01_k».proof.Proof.Domain
public import Idealize.ShloMosaic.Adequacy
public import Idealize.ShloMosaic.Init

@[expose] public section

noncomputable section

namespace Cert.Proof

open Idealize.ShloMosaic Idealize.SL.Sem Cert.Kernel

/-- The kernel's program, over any float values, ends with its arguments unchanged and every counter at zero. -/
theorem frame {F : FTy → Type} [FloatOps F] [∀ e, Nonempty (Elt F e)]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0 :=
  (θ_run Cert.KernelIdeal.defs _ _).mono (fun _ h => ⟨fun c => Launch.args_kept m h c, h.2⟩) (Launch.run_main m ρ)

/-- Over the extended reals. -/
theorem frame_kernelIdeal : Cert.quiescent_KernelIdeal := fun m ρ _ => frame (F := Ideal) m ρ

/-- The kernel as printed: the same text over bit patterns. -/
theorem frame_kernel : Cert.quiescent_Kernel := fun m ρ _ => by
  have h := frame (F := Bits) m ρ
  rw [← Same.defs_eq] at h
  exact h

/-- The reference ends with its arguments unchanged and every counter at zero. -/
theorem frame_reference : Cert.quiescent_ReferenceIdeal := fun m ρ _ =>
  (θ_run Cert.ReferenceIdeal.defs _ _).mono (fun _ h => ⟨fun c => (h.1 c).2, h.2⟩)
    (Ref.run_ref (F := Ideal) m ρ)

/-- With the precondition, the two programs end with equal results. -/
theorem equal_results : Cert.algebraic_KernelIdeal_ReferenceIdeal_pre_in_domain (hPre_in_domain := Domain.facts) := by
  haveI := Domain.facts
  intro m g m' g' hp hm
  refine ⟨fun c => Launch.V5 m c (Proc.devRef .tc Cert.KernelIdeal.main_v20),
    (θ_run Cert.KernelIdeal.defs _ _).mono (fun r h c => ⟨h.1 c _ ?_, Launch.args_kept m h c⟩) (Launch.run_main (F := Ideal) m g),
    (θ_run Cert.ReferenceIdeal.defs _ _).mono (fun r h c => ⟨(h.1 c).1.trans ?_, (h.1 c).2⟩) (Ref.run_ref (F := Ideal) m' g')⟩
  · exact (by decide +kernel : Proc.devRef (τ := Cert.KernelIdeal.τ) .tc Cert.KernelIdeal.main_v20 ∈ Launch.ucRefs)
  · obtain ⟨a0, a1, a2, a3, a4⟩ := hm c
    obtain ⟨p0, p1, p2, p3, p4⟩ := hp c
    have hid := fun (b : Fin 32) (k : Fin 8) => Domain.ids_lt _ _ _ _ _ p0 (ValueIdx.ix2 b k)
    funext i
    obtain ⟨b, j, rfl⟩ : ∃ (b : Fin 32) (j : Fin 9), i = ValueIdx.ix2 b j := ⟨i 0, i 1, ValueIdx.eq_ix2 i⟩
    obtain ⟨rec, bon, hrec, hbon, hv⟩ := KerVal.kernel_value m c hid b
    exact (Ref.reference_value _ _ _ _ _ _ a0 a1 a2 a3 a4 hid (Domain.target_real _ _ _ _ _ p2) (Domain.draft_real _ _ _ _ _ p1)
      (Domain.bonus_nonneg _ _ _ _ _ p3) (Domain.noise_le _ _ _ _ _ p4) b rec bon hrec hbon j).trans (hv j).symm

theorem claim : Cert.Claim := ⟨Cert.Kernel.Gen.facts, Cert.KernelIdeal.Gen.facts, Cert.ReferenceIdeal.Gen.facts, Domain.facts,
  frame_kernel, frame_kernelIdeal, fun m ρ _ => frame_kernelIdeal m ρ trivial, frame_reference, fun m ρ _ => frame_reference m ρ trivial,
  trivial, equal_results⟩

end Cert.Proof

end
